-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_idx_in_rows [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_tables_ok : Cert.Pre_tables_ok.Facts] (m : (ℓ : Loc Cert.Kernel2.nD Cert.Kernel2.τ Cert.Kernel2.sig) → Buf (Elt Bits) ℓ) : Prop :=
  ∀ c : Dev Cert.Kernel2.nD,
    (Cert.Pre_tables_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables_ok : Cert.Pre_tables_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_ok [hPre_tables_ok : Cert.Pre_tables_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_idx_in_rows [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference_idx_in_rows m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_tables_ok : Cert.Pre_tables_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_ok : Cert.Pre_tables_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables_ok [hReference2Ideal : Cert.Reference2Ideal.Facts] [hPre_tables_ok : Cert.Pre_tables_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_rows_used [hKernel2Ideal : Cert.Kernel2Ideal.Facts] [hReference2Ideal : Cert.Reference2Ideal.Facts] [hPre_tables_ok : Cert.Pre_tables_ok.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![49152, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![49152, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v33) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReference : Cert.Reference.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_idx_in_rows : Cert.Pre_idx_in_rows.Facts) (hPre_tables_ok : Cert.Pre_tables_ok.Facts) (hOn_rows_used : Cert.On_rows_used.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_Reference (hReference := hReference)
    ∧ quiescent_Reference_pre_idx_in_rows (hReference := hReference) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Kernel2 (hKernel2 := hKernel2) (hPre_tables_ok := hPre_tables_ok)
    ∧ quiescent_Kernel2Ideal (hKernel2Ideal := hKernel2Ideal) (hPre_tables_ok := hPre_tables_ok)
    ∧ quiescent_Reference2Ideal (hReference2Ideal := hReference2Ideal)
    ∧ quiescent_Reference2Ideal_pre_tables_ok (hReference2Ideal := hReference2Ideal) (hPre_tables_ok := hPre_tables_ok)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_Kernel2_Kernel2Ideal
    ∧ algebraic_Kernel2Ideal_Reference2Ideal_on_rows_used (hKernel2Ideal := hKernel2Ideal) (hReference2Ideal := hReference2Ideal) (hPre_tables_ok := hPre_tables_ok) (hOn_rows_used := hOn_rows_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_rows_used.lean ====
abbrev S2x49152x256 : Shape := ⟨3, ![2, 49152, 256]⟩
abbrev S96 : Shape := ⟨1, ![96]⟩
abbrev S24 : Shape := ⟨1, ![24]⟩
abbrev S1 : Shape := ⟨1, ![1]⟩
abbrev S32x1024x512 : Shape := ⟨3, ![32, 1024, 512]⟩
abbrev S32x512x1024 : Shape := ⟨3, ![32, 512, 1024]⟩
abbrev S49152 : Shape := ⟨1, ![49152]⟩
abbrev S_ : Shape := ⟨0, ![]⟩
abbrev S49152x1 : Shape := ⟨2, ![49152, 1]⟩
abbrev S49152x1024 : Shape := ⟨2, ![49152, 1024]⟩

class Facts : Prop where
  bcast_S_S1 : S_.BroadcastsInDim S1 (![] : Fin 0 → Fin S1.rank)
  bcast_S1_S49152_0 : S1.BroadcastsInDim S49152 (![0] : Fin 1 → Fin S49152.rank)
  bcast_S49152_S49152x1_0 : S49152.BroadcastsInDim S49152x1 (![0] : Fin 1 → Fin S49152x1.rank)
  bcast_S49152x1_S49152x1024_0_1 : S49152x1.BroadcastsInDim S49152x1024 (![0, 1] : Fin 2 → Fin S49152x1024.rank)

variable [Facts]

def fn {F : FTy → Type} [FloatOps F] (main_arg0 : IVec S2x49152x256 32) (main_arg1 : IVec S96 32) (main_arg2 : IVec S24 32) (main_arg3 : IVec S1 32) (main_arg4 : FVec F S32x1024x512 .bf16) (main_arg5 : FVec F S32x1024x512 .bf16) (main_arg6 : FVec F S32x512x1024 .bf16) : IVec S49152x1024 1 :=
  let main_v0 : IVec S49152 32 := iotaInDim S49152 32 0
  let main_c : IVec S_ 32 := constantI S_ 32 512#32
  let main_v1 : IVec S1 32 := broadcastInDim S1 ![] bcast_S_S1 main_c
  let main_v2 : IVec S1 32 := muli main_v1 main_arg3
  let main_v3 : IVec S49152 32 := broadcastInDim S49152 ![0] bcast_S1_S49152_0 main_v2
  let main_v4 : IVec S49152 1 := cmpi .slt main_v0 main_v3
  let main_v5 : IVec S49152x1 1 := broadcastInDim S49152x1 ![0] bcast_S49152_S49152x1_0 main_v4
  let main_v6 : IVec S49152x1024 1 := broadcastInDim S49152x1024 ![0, 1] bcast_S49152x1_S49152x1024_0_1 main_v5
  main_v6
-- ==== Pre_idx_in_rows.lean ====
abbrev S98304x256 : Shape := ⟨2, ![98304, 256]⟩
abbrev S4x16384 : Shape := ⟨2, ![4, 16384]⟩
abbrev S_ : Shape := ⟨0, ![]⟩

class Facts : Prop where
  bcast_S_S4x16384 : S_.BroadcastsInDim S4x16384 (![] : Fin 0 → Fin S4x16384.rank)

variable [Facts]

def fn {F : FTy → Type} [FloatOps F] (main_arg0 : IVec S98304x256 32) (main_arg1 : IVec S4x16384 32) : IVec S4x16384 1 :=
  let main_c : IVec S_ 32 := constantI S_ 32 0#32
  let main_v0 : IVec S4x16384 32 := broadcastInDim S4x16384 ![] bcast_S_S4x16384 main_c
  let main_v1 : IVec S4x16384 1 := cmpi .sge main_arg1 main_v0
  let main_c_0 : IVec S_ 32 := constantI S_ 32 98304#32
  let main_v2 : IVec S4x16384 32 := broadcastInDim S4x16384 ![] bcast_S_S4x16384 main_c_0
  let main_v3 : IVec S4x16384 1 := cmpi .slt main_arg1 main_v2
  let main_v4 : IVec S4x16384 1 := andi main_v1 main_v3
  main_v4
-- ==== Pre_tables_ok.lean ====
abbrev S2x49152x256 : Shape := ⟨3, ![2, 49152, 256]⟩
abbrev S96 : Shape := ⟨1, ![96]⟩
abbrev S24 : Shape := ⟨1, ![24]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩
abbrev S24x4 : Shape := ⟨2, ![24, 4]⟩
abbrev S24x1 : Shape := ⟨2, ![24, 1]⟩

class Facts : Prop where
  slices_S24_S1_23 : S24.Slices ![23] S1
  bcast_S1_S24_0 : S1.BroadcastsInDim S24 (![0] : Fin 1 → Fin S24.rank)
  bcast_S_S1 : S_.BroadcastsInDim S1 (![] : Fin 0 → Fin S1.rank)
  bcast_S_S96 : S_.BroadcastsInDim S96 (![] : Fin 0 → Fin S96.rank)
  shapeCasts_S96_S24x4 : S96.ShapeCasts S24x4
  bcast_S24_S24x1_0 : S24.BroadcastsInDim S24x1 (![0] : Fin 1 → Fin S24x1.rank)
  bcast_S24x1_S24x4_0_1 : S24x1.BroadcastsInDim S24x4 (![0, 1] : Fin 2 → Fin S24x4.rank)

variable [Facts]

def fn_part1 {F : FTy → Type} [FloatOps F] (main_arg1 : IVec S96 32) (main_arg3 : IVec S1 32) (main_v12 : IVec S24 1) (main_v15 : IVec S1 1) (main_v17 : IVec S1 32) (main_v18 : IVec S1 32) : IVec S24x4 1 :=
  let main_v19 : IVec S1 32 := addi main_v17 main_v18
  let main_v20 : IVec S1 1 := cmpi .sle main_arg3 main_v19
  let main_v21 : IVec S1 1 := andi main_v15 main_v20
  let main_c_4 : IVec S_ 32 := constantI S_ 32 0#32
  let main_v22 : IVec S96 32 := broadcastInDim S96 ![] bcast_S_S96 main_c_4
  let main_v23 : IVec S96 1 := cmpi .sge main_arg1 main_v22
  let main_c_5 : IVec S_ 32 := constantI S_ 32 32#32
  let main_v24 : IVec S96 32 := broadcastInDim S96 ![] bcast_S_S96 main_c_5
  let main_v25 : IVec S96 1 := cmpi .slt main_arg1 main_v24
  let main_v26 : IVec S96 1 := andi main_v23 main_v25
  let main_v27 : IVec S24x4 1 := shapeCast S24x4 main_v26 shapeCasts_S96_S24x4
  let main_v28 : IVec S24 1 := broadcastInDim S24 ![0] bcast_S1_S24_0 main_v21
  let main_v29 : IVec S24 1 := andi main_v12 main_v28
  let main_v30 : IVec S24x1 1 := broadcastInDim S24x1 ![0] bcast_S24_S24x1_0 main_v29
  let main_v31 : IVec S24x4 1 := broadcastInDim S24x4 ![0, 1] bcast_S24x1_S24x4_0_1 main_v30
  let main_v32 : IVec S24x4 1 := andi main_v27 main_v31
  main_v32

def fn {F : FTy → Type} [FloatOps F] (main_arg0 : IVec S2x49152x256 32) (main_arg1 : IVec S96 32) (main_arg2 : IVec S24 32) (main_arg3 : IVec S1 32) (main_arg4 : FVec F S32x1024x512 .bf16) (main_arg5 : FVec F S32x1024x512 .bf16) (main_arg6 : FVec F S32x512x1024 .bf16) : IVec S24x4 1 :=
  let main_v0 : IVec S1 32 := (extractStridedSlice S1 ![23] · slices_S24_S1_23) main_arg2
  let main_v1 : IVec S24 32 := iotaInDim S24 32 0
  let main_v2 : IVec S24 32 := broadcastInDim S24 ![0] bcast_S1_S24_0 main_v0
  let main_v3 : IVec S24 32 := minsi main_v1 main_v2
  let main_v4 : IVec S24 1 := cmpi .eq main_arg2 main_v3
  let main_c : IVec S_ 32 := constantI S_ 32 0#32
  let main_v5 : IVec S1 32 := broadcastInDim S1 ![] bcast_S_S1 main_c
  let main_v6 : IVec S1 1 := cmpi .sge main_v0 main_v5
  let main_v7 : IVec S24 1 := broadcastInDim S24 ![0] bcast_S1_S24_0 main_v6
  let main_v8 : IVec S24 1 := andi main_v4 main_v7
  let main_c_0 : IVec S_ 32 := constantI S_ 32 24#32
  let main_v9 : IVec S1 32 := broadcastInDim S1 ![] bcast_S_S1 main_c_0
  let main_v10 : IVec S1 1 := cmpi .slt main_v0 main_v9
  let main_v11 : IVec S24 1 := broadcastInDim S24 ![0] bcast_S1_S24_0 main_v10
  let main_v12 : IVec S24 1 := andi main_v8 main_v11
  let main_c_1 : IVec S_ 32 := constantI S_ 32 4#32
  let main_v13 : IVec S1 32 := broadcastInDim S1 ![] bcast_S_S1 main_c_1
  let main_v14 : IVec S1 32 := muli main_v13 main_v0
  let main_v15 : IVec S1 1 := cmpi .slt main_v14 main_arg3
  let main_c_2 : IVec S_ 32 := constantI S_ 32 4#32
  let main_v16 : IVec S1 32 := broadcastInDim S1 ![] bcast_S_S1 main_c_2
  let main_v17 : IVec S1 32 := muli main_v16 main_v0
  let main_c_3 : IVec S_ 32 := constantI S_ 32 4#32
  let main_v18 : IVec S1 32 := broadcastInDim S1 ![] bcast_S_S1 main_c_3
  fn_part1 (F := F) main_arg1 main_arg3 main_v12 main_v15 main_v17 main_v18
-- ==== Kernel.lean ====
abbrev S98304x256 : Shape := ⟨2, ![98304, 256]⟩
abbrev S4x16384 : Shape := ⟨2, ![4, 16384]⟩
abbrev S98304x2x128 : Shape := ⟨3, ![98304, 2, 128]⟩
abbrev S65536x2x128 : Shape := ⟨3, ![65536, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩

abbrev nBuf : Table → Nat
  | .hbm => 4
  | .local .scVector .vmem => 2
  | _ => 0

abbrev bufTy : (tb : Table) → Fin (nBuf tb) → BufTy
  | .hbm, ⟨0, _⟩ => ⟨S98304x256, .i32⟩
  | .hbm, ⟨1, _⟩ => ⟨S4x16384, .i32⟩
  | .hbm, ⟨2, _⟩ => ⟨S98304x2x128, .i32⟩
  | .hbm, ⟨3, _⟩ => ⟨S65536x2x128, .i32⟩
  | .local .scVector .vmem, ⟨0, _⟩ => ⟨S2x1x128, .i32⟩
  | .local .scVector .vmem, ⟨1, _⟩ => ⟨S2x128x2x128, .i32⟩
  | _, _ => ⟨S98304x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_29_r0 : BitVec 32 := 0#32
  let c0_i32_30_r0 : BitVec 32 := 0#32
  ![v21_r0.toNat, 0, 0]
def k0_off2 (i : grid0.Coords) : Fin 2 → Nat :=
  let c1_i32_27_r0 : BitVec 32 := 1#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let c0_i32_15_r0 : BitVec 32 := 0#32
  let v23_r0 : BitVec 1 := Scalar.cmpi .sgt v7_r0 c0_i32_15_r0
  let v24_r0 : BitVec 32 := Scalar.extui v23_r0
  let c0_i32_16_r0 : BitVec 32 := 0#32
  let v25_r0 : BitVec 1 := Scalar.cmpi .slt v7_r0 c0_i32_16_r0
  let v26_r0 : BitVec 32 := Scalar.extui v25_r0
  let v27_r0 : BitVec 32 := Scalar.subi v24_r0 v26_r0
  let c128_i32_r0 : BitVec 32 := 128#32
  let c0_i32_17_r0 : BitVec 32 := 0#32
  let v28_r0 : BitVec 1 := Scalar.cmpi .sgt c128_i32_r0 c0_i32_17_r0
  let v29_r0 : BitVec 32 := Scalar.extui v28_r0
  let c0_i32_18_r0 : BitVec 32 := 0#32
  let v30_r0 : BitVec 1 := Scalar.cmpi .slt c128_i32_r0 c0_i32_18_r0
  let v31_r0 : BitVec 32 := Scalar.extui v30_r0
  let v32_r0 : BitVec 32 := Scalar.subi v29_r0 v31_r0
  let v33_r0 : BitVec 1 := Scalar.cmpi .ne v27_r0 v32_r0
  let v34_r0 : BitVec 32 := Scalar.remsi v7_r0 c128_i32_r0
  let c0_i32_19_r0 : BitVec 32 := 0#32
  let v35_r0 : BitVec 1 := Scalar.cmpi .ne v34_r0 c0_i32_19_r0
  let v36_r0 : BitVec 1 := Scalar.andi v33_r0 v35_r0
  let v22_r0 : BitVec 32 := Scalar.divsi v7_r0 c128_i32_r0
  let c1_i32_20_r0 : BitVec 32 := 1#32
  let v37_r0 : BitVec 32 := Scalar.subi v22_r0 c1_i32_20_r0
  let v38_r0 : BitVec 32 := Scalar.select v36_r0 v37_r0 v22_r0
  let v49_r0 : BitVec 32 := Scalar.muli c1_i32_27_r0 v38_r0
  let c128_i32_28_r0 : BitVec 32 := 128#32
  let c128_i32_21_r0 : BitVec 32 := 128#32
  let c0_i32_22_r0 : BitVec 32 := 0#32
  let v39_r0 : BitVec 1 := Scalar.cmpi .eq c128_i32_21_r0 c0_i32_22_r0
  let c1_i32_23_r0 : BitVec 32 := 1#32
  let v40_r0 : BitVec 32 := Scalar.select v39_r0 c1_i32_23_r0 c128_i32_21_r0
  let v41_r0 : BitVec 32 := Scalar.remsi v7_r0 v40_r0
  let c0_i32_25_r0 : BitVec 32 := 0#32
  let v43_r0 : BitVec 1 := Scalar.cmpi .slt v41_r0 c0_i32_25_r0
  let c0_i32_26_r0 : BitVec 32 := 0#32
  let v44_r0 : BitVec 1 := Scalar.cmpi .slt v40_r0 c0_i32_26_r0
  let v45_r0 : BitVec 1 := Scalar.xori v43_r0 v44_r0
  let c0_i32_24_r0 : BitVec 32 := 0#32
  let v42_r0 : BitVec 1 := Scalar.cmpi .ne v41_r0 c0_i32_24_r0
  let v46_r0 : BitVec 1 := Scalar.andi v45_r0 v42_r0
  let v47_r0 : BitVec 32 := Scalar.addi v41_r0 v40_r0
  let v48_r0 : BitVec 32 := Scalar.select v46_r0 v47_r0 v41_r0
  let v50_r0 : BitVec 32 := Scalar.muli c128_i32_28_r0 v48_r0
  ![v49_r0.toNat, v50_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_39_r0 : BitVec 32 := 0#32
  let c16_i32_40_r0 : BitVec 32 := 16#32
  let v60_r0 : BitVec 32 := Scalar.addi c0_i32_39_r0 c16_i32_40_r0
  let c1_i32_41_r0 : BitVec 32 := 1#32
  ⟨c0_i32_39_r0, v60_r0, c1_i32_41_r0⟩
def k0_off4 (arg6_r0 : BitVec 32) : Fin 3 → Nat :=
  let c2_i32_155_r0 : BitVec 32 := 2#32
  let v263_r0 : BitVec 32 := Scalar.remui arg6_r0 c2_i32_155_r0
  let c0_i32_171_r0 : BitVec 32 := 0#32
  let c0_i32_172_r0 : BitVec 32 := 0#32
  ![v263_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v94_r0 : BitVec 32 := Scalar.addi arg10_r0 v4
  let c0_i32_86_r0 : BitVec 32 := 0#32
  let v111_r0 : BitVec 1 := Scalar.cmpi .sgt v94_r0 c0_i32_86_r0
  let v112_r0 : BitVec 32 := Scalar.extui v111_r0
  let c0_i32_87_r0 : BitVec 32 := 0#32
  let v113_r0 : BitVec 1 := Scalar.cmpi .slt v94_r0 c0_i32_87_r0
  let v114_r0 : BitVec 32 := Scalar.extui v113_r0
  let v115_r0 : BitVec 32 := Scalar.subi v112_r0 v114_r0
  let c128_i32_85_r0 : BitVec 32 := 128#32
  let c0_i32_88_r0 : BitVec 32 := 0#32
  let v116_r0 : BitVec 1 := Scalar.cmpi .sgt c128_i32_85_r0 c0_i32_88_r0
  let v117_r0 : BitVec 32 := Scalar.extui v116_r0
  let c0_i32_89_r0 : BitVec 32 := 0#32
  let v118_r0 : BitVec 1 := Scalar.cmpi .slt c128_i32_85_r0 c0_i32_89_r0
  let v119_r0 : BitVec 32 := Scalar.extui v118_r0
  let v120_r0 : BitVec 32 := Scalar.subi v117_r0 v119_r0
  let v121_r0 : BitVec 1 := Scalar.cmpi .ne v115_r0 v120_r0
  let v122_r0 : BitVec 32 := Scalar.remsi v94_r0 c128_i32_85_r0
  let c0_i32_90_r0 : BitVec 32 := 0#32
  let v123_r0 : BitVec 1 := Scalar.cmpi .ne v122_r0 c0_i32_90_r0
  let v124_r0 : BitVec 1 := Scalar.andi v121_r0 v123_r0
  let v110_r0 : BitVec 32 := Scalar.divsi v94_r0 c128_i32_85_r0
  let c1_i32_91_r0 : BitVec 32 := 1#32
  let v125_r0 : BitVec 32 := Scalar.subi v110_r0 c1_i32_91_r0
  let v126_r0 : BitVec 32 := Scalar.select v124_r0 v125_r0 v110_r0
  let true_78_r0 : BitVec 1 := 1#1
  let c1_i32_77_r0 : BitVec 32 := 1#32
  let v100_r0 : BitVec 32 := Scalar.addi arg10_r0 c1_i32_77_r0
  let v101_r0 : BitVec 32 := Scalar.select true_78_r0 v100_r0 arg10_r0
  let c16_i32_79_r0 : BitVec 32 := 16#32
  let v102_r0 : BitVec 1 := Scalar.cmpi .eq v101_r0 c16_i32_79_r0
  let c0_i32_80_r0 : BitVec 32 := 0#32
  let v103_r0 : BitVec 32 := Scalar.select v102_r0 c0_i32_80_r0 v101_r0
  let v104_r0 : BitVec 32 := Scalar.addi v103_r0 v4
  let c0_i32_99_r0 : BitVec 32 := 0#32
  let v138_r0 : BitVec 1 := Scalar.cmpi .sgt v104_r0 c0_i32_99_r0
  let v139_r0 : BitVec 32 := Scalar.extui v138_r0
  let c0_i32_100_r0 : BitVec 32 := 0#32
  let v140_r0 : BitVec 1 := Scalar.cmpi .slt v104_r0 c0_i32_100_r0
  let v141_r0 : BitVec 32 := Scalar.extui v140_r0
  let v142_r0 : BitVec 32 := Scalar.subi v139_r0 v141_r0
  let c128_i32_98_r0 : BitVec 32 := 128#32
  let c0_i32_101_r0 : BitVec 32 := 0#32
  let v143_r0 : BitVec 1 := Scalar.cmpi .sgt c128_i32_98_r0 c0_i32_101_r0
  let v144_r0 : BitVec 32 := Scalar.extui v143_r0
  let c0_i32_102_r0 : BitVec 32 := 0#32
  let v145_r0 : BitVec 1 := Scalar.cmpi .slt c128_i32_98_r0 c0_i32_102_r0
  let v146_r0 : BitVec 32 := Scalar.extui v145_r0
  let v147_r0 : BitVec 32 := Scalar.subi v144_r0 v146_r0
  let v148_r0 : BitVec 1 := Scalar.cmpi .ne v142_r0 v147_r0
  let v149_r0 : BitVec 32 := Scalar.remsi v104_r0 c128_i32_98_r0
  let c0_i32_103_r0 : BitVec 32 := 0#32
  let v150_r0 : BitVec 1 := Scalar.cmpi .ne v149_r0 c0_i32_103_r0
  let v151_r0 : BitVec 1 := Scalar.andi v148_r0 v150_r0
  let v137_r0 : BitVec 32 := Scalar.divsi v104_r0 c128_i32_98_r0
  let c1_i32_104_r0 : BitVec 32 := 1#32
  let v152_r0 : BitVec 32 := Scalar.subi v137_r0 c1_i32_104_r0
  let v153_r0 : BitVec 32 := Scalar.select v151_r0 v152_r0 v137_r0
  let v164_r0 : BitVec 1 := Scalar.cmpi .ne v126_r0 v153_r0
  let c128_i32_92_r0 : BitVec 32 := 128#32
  let c0_i32_93_r0 : BitVec 32 := 0#32
  let v127_r0 : BitVec 1 := Scalar.cmpi .eq c128_i32_92_r0 c0_i32_93_r0
  let c1_i32_94_r0 : BitVec 32 := 1#32
  let v128_r0 : BitVec 32 := Scalar.select v127_r0 c1_i32_94_r0 c128_i32_92_r0
  let v129_r0 : BitVec 32 := Scalar.remsi v94_r0 v128_r0
  let c0_i32_96_r0 : BitVec 32 := 0#32
  let v131_r0 : BitVec 1 := Scalar.cmpi .slt v129_r0 c0_i32_96_r0
  let c0_i32_97_r0 : BitVec 32 := 0#32
  let v132_r0 : BitVec 1 := Scalar.cmpi .slt v128_r0 c0_i32_97_r0
  let v133_r0 : BitVec 1 := Scalar.xori v131_r0 v132_r0
  let c0_i32_95_r0 : BitVec 32 := 0#32
  let v130_r0 : BitVec 1 := Scalar.cmpi .ne v129_r0 c0_i32_95_r0
  let v134_r0 : BitVec 1 := Scalar.andi v133_r0 v130_r0
  let v135_r0 : BitVec 32 := Scalar.addi v129_r0 v128_r0
  let v136_r0 : BitVec 32 := Scalar.select v134_r0 v135_r0 v129_r0
  let c128_i32_105_r0 : BitVec 32 := 128#32
  let c0_i32_106_r0 : BitVec 32 := 0#32
  let v154_r0 : BitVec 1 := Scalar.cmpi .eq c128_i32_105_r0 c0_i32_106_r0
  let c1_i32_107_r0 : BitVec 32 := 1#32
  let v155_r0 : BitVec 32 := Scalar.select v154_r0 c1_i32_107_r0 c128_i32_105_r0
  let v156_r0 : BitVec 32 := Scalar.remsi v104_r0 v155_r0
  let c0_i32_109_r0 : BitVec 32 := 0#32
  let v158_r0 : BitVec 1 := Scalar.cmpi .slt v156_r0 c0_i32_109_r0
  let c0_i32_110_r0 : BitVec 32 := 0#32
  let v159_r0 : BitVec 1 := Scalar.cmpi .slt v155_r0 c0_i32_110_r0
  let v160_r0 : BitVec 1 := Scalar.xori v158_r0 v159_r0
  let c0_i32_108_r0 : BitVec 32 := 0#32
  let v157_r0 : BitVec 1 := Scalar.cmpi .ne v156_r0 c0_i32_108_r0
  let v161_r0 : BitVec 1 := Scalar.andi v160_r0 v157_r0
  let v162_r0 : BitVec 32 := Scalar.addi v156_r0 v155_r0
  let v163_r0 : BitVec 32 := Scalar.select v161_r0 v162_r0 v156_r0
  let v165_r0 : BitVec 1 := Scalar.cmpi .ne v136_r0 v163_r0
  let v166_r0 : BitVec 1 := Scalar.ori v164_r0 v165_r0
  let c0_i32_39_r0 : BitVec 32 := 0#32
  let c1_i32_41_r0 : BitVec 32 := 1#32
  let arg5_r0 : BitVec 32 := Scf.iv c0_i32_39_r0 c1_i32_41_r0 k0_t1
  let c15_i32_111_r0 : BitVec 32 := 15#32
  let v167_r0 : BitVec 1 := Scalar.cmpi .sge arg5_r0 c15_i32_111_r0
  let true_112_r0 : BitVec 1 := 1#1
  let v168_r0 : BitVec 1 := Scalar.xori v167_r0 true_112_r0
  let v169_r0 : BitVec 1 := Scalar.andi v166_r0 v168_r0
  let true_113_r0 : BitVec 1 := 1#1
  let v170_r0 : BitVec 1 := Scalar.andi v169_r0 true_113_r0
  let v171_r0 : BitVec 32 := Scalar.extui v170_r0
  let c0_i32_114_r0 : BitVec 32 := 0#32
  let v172_r0 : BitVec 1 := Scalar.cmpi .ne v171_r0 c0_i32_114_r0
  v172_r0

def k0_off5 (i : grid0.Coords) (arg10_r0 : BitVec 32) : Fin 2 → Nat :=
  let c1_i32_169_r0 : BitVec 32 := 1#32
  let true_78_r0 : BitVec 1 := 1#1
  let c1_i32_77_r0 : BitVec 32 := 1#32
  let v100_r0 : BitVec 32 := Scalar.addi arg10_r0 c1_i32_77_r0
  let v101_r0 : BitVec 32 := Scalar.select true_78_r0 v100_r0 arg10_r0
  let c16_i32_79_r0 : BitVec 32 := 16#32
  let v102_r0 : BitVec 1 := Scalar.cmpi .eq v101_r0 c16_i32_79_r0
  let c0_i32_80_r0 : BitVec 32 := 0#32
  let v103_r0 : BitVec 32 := Scalar.select v102_r0 c0_i32_80_r0 v101_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v104_r0 : BitVec 32 := Scalar.addi v103_r0 v4
  let c0_i32_157_r0 : BitVec 32 := 0#32
  let v265_r0 : BitVec 1 := Scalar.cmpi .sgt v104_r0 c0_i32_157_r0
  let v266_r0 : BitVec 32 := Scalar.extui v265_r0
  let c0_i32_158_r0 : BitVec 32 := 0#32
  let v267_r0 : BitVec 1 := Scalar.cmpi .slt v104_r0 c0_i32_158_r0
  let v268_r0 : BitVec 32 := Scalar.extui v267_r0
  let v269_r0 : BitVec 32 := Scalar.subi v266_r0 v268_r0
  let c128_i32_156_r0 : BitVec 32 := 128#32
  let c0_i32_159_r0 : BitVec 32 := 0#32
  let v270_r0 : BitVec 1 := Scalar.cmpi .sgt c128_i32_156_r0 c0_i32_159_r0
  let v271_r0 : BitVec 32 := Scalar.extui v270_r0
  let c0_i32_160_r0 : BitVec 32 := 0#32
  let v272_r0 : BitVec 1 := Scalar.cmpi .slt c128_i32_156_r0 c0_i32_160_r0
  let v273_r0 : BitVec 32 := Scalar.extui v272_r0
  let v274_r0 : BitVec 32 := Scalar.subi v271_r0 v273_r0
  let v275_r0 : BitVec 1 := Scalar.cmpi .ne v269_r0 v274_r0
  let v276_r0 : BitVec 32 := Scalar.remsi v104_r0 c128_i32_156_r0
  let c0_i32_161_r0 : BitVec 32 := 0#32
  let v277_r0 : BitVec 1 := Scalar.cmpi .ne v276_r0 c0_i32_161_r0
  let v278_r0 : BitVec 1 := Scalar.andi v275_r0 v277_r0
  let v264_r0 : BitVec 32 := Scalar.divsi v104_r0 c128_i32_156_r0
  let c1_i32_162_r0 : BitVec 32 := 1#32
  let v279_r0 : BitVec 32 := Scalar.subi v264_r0 c1_i32_162_r0
  let v280_r0 : BitVec 32 := Scalar.select v278_r0 v279_r0 v264_r0
  let v291_r0 : BitVec 32 := Scalar.muli c1_i32_169_r0 v280_r0
  let c128_i32_170_r0 : BitVec 32 := 128#32
  let c128_i32_163_r0 : BitVec 32 := 128#32
  let c0_i32_164_r0 : BitVec 32 := 0#32
  let v281_r0 : BitVec 1 := Scalar.cmpi .eq c128_i32_163_r0 c0_i32_164_r0
  let c1_i32_165_r0 : BitVec 32 := 1#32
  let v282_r0 : BitVec 32 := Scalar.select v281_r0 c1_i32_165_r0 c128_i32_163_r0
  let v283_r0 : BitVec 32 := Scalar.remsi v104_r0 v282_r0
  let c0_i32_167_r0 : BitVec 32 := 0#32
  let v285_r0 : BitVec 1 := Scalar.cmpi .slt v283_r0 c0_i32_167_r0
  let c0_i32_168_r0 : BitVec 32 := 0#32
  let v286_r0 : BitVec 1 := Scalar.cmpi .slt v282_r0 c0_i32_168_r0
  let v287_r0 : BitVec 1 := Scalar.xori v285_r0 v286_r0
  let c0_i32_166_r0 : BitVec 32 := 0#32
  let v284_r0 : BitVec 1 := Scalar.cmpi .ne v283_r0 c0_i32_166_r0
  let v288_r0 : BitVec 1 := Scalar.andi v287_r0 v284_r0
  let v289_r0 : BitVec 32 := Scalar.addi v283_r0 v282_r0
  let v290_r0 : BitVec 32 := Scalar.select v288_r0 v289_r0 v283_r0
  let v292_r0 : BitVec 32 := Scalar.muli c128_i32_170_r0 v290_r0
  ![v291_r0.toNat, v292_r0.toNat]
def k0_off6 (arg6_r0 : BitVec 32) : Fin 1 → Nat :=
  let c2_i32_155_r0 : BitVec 32 := 2#32
  let v263_r0 : BitVec 32 := Scalar.remui arg6_r0 c2_i32_155_r0
  ![v263_r0.toNat]
def k0_off7 (arg7_r0 : BitVec 32) : Fin 3 → Nat :=
  let c2_i32_170_r0 : BitVec 32 := 2#32
  let v292_r0 : BitVec 32 := Scalar.remui arg7_r0 c2_i32_170_r0
  let c0_i32_171_r0 : BitVec 32 := 0#32
  let c0_i32_172_r0 : BitVec 32 := 0#32
  ![v292_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v94_r0 : BitVec 32 := Scalar.addi arg10_r0 v4
  let c0_i32_86_r0 : BitVec 32 := 0#32
  let v111_r0 : BitVec 1 := Scalar.cmpi .sgt v94_r0 c0_i32_86_r0
  let v112_r0 : BitVec 32 := Scalar.extui v111_r0
  let c0_i32_87_r0 : BitVec 32 := 0#32
  let v113_r0 : BitVec 1 := Scalar.cmpi .slt v94_r0 c0_i32_87_r0
  let v114_r0 : BitVec 32 := Scalar.extui v113_r0
  let v115_r0 : BitVec 32 := Scalar.subi v112_r0 v114_r0
  let c128_i32_85_r0 : BitVec 32 := 128#32
  let c0_i32_88_r0 : BitVec 32 := 0#32
  let v116_r0 : BitVec 1 := Scalar.cmpi .sgt c128_i32_85_r0 c0_i32_88_r0
  let v117_r0 : BitVec 32 := Scalar.extui v116_r0
  let c0_i32_89_r0 : BitVec 32 := 0#32
  let v118_r0 : BitVec 1 := Scalar.cmpi .slt c128_i32_85_r0 c0_i32_89_r0
  let v119_r0 : BitVec 32 := Scalar.extui v118_r0
  let v120_r0 : BitVec 32 := Scalar.subi v117_r0 v119_r0
  let v121_r0 : BitVec 1 := Scalar.cmpi .ne v115_r0 v120_r0
  let v122_r0 : BitVec 32 := Scalar.remsi v94_r0 c128_i32_85_r0
  let c0_i32_90_r0 : BitVec 32 := 0#32
  let v123_r0 : BitVec 1 := Scalar.cmpi .ne v122_r0 c0_i32_90_r0
  let v124_r0 : BitVec 1 := Scalar.andi v121_r0 v123_r0
  let v110_r0 : BitVec 32 := Scalar.divsi v94_r0 c128_i32_85_r0
  let c1_i32_91_r0 : BitVec 32 := 1#32
  let v125_r0 : BitVec 32 := Scalar.subi v110_r0 c1_i32_91_r0
  let v126_r0 : BitVec 32 := Scalar.select v124_r0 v125_r0 v110_r0
  let true_74_r0 : BitVec 1 := 1#1
  let c1_i32_73_r0 : BitVec 32 := 1#32
  let v95_r0 : BitVec 32 := Scalar.subi arg10_r0 c1_i32_73_r0
  let v96_r0 : BitVec 32 := Scalar.select true_74_r0 v95_r0 arg10_r0
  let c_m1_i32_75_r0 : BitVec 32 := 4294967295#32
  let v97_r0 : BitVec 1 := Scalar.cmpi .eq v96_r0 c_m1_i32_75_r0
  let c15_i32_76_r0 : BitVec 32 := 15#32
  let v98_r0 : BitVec 32 := Scalar.select v97_r0 c15_i32_76_r0 v96_r0
  let v99_r0 : BitVec 32 := Scalar.addi v98_r0 v4
  let c0_i32_120_r0 : BitVec 32 := 0#32
  let v181_r0 : BitVec 1 := Scalar.cmpi .sgt v99_r0 c0_i32_120_r0
  let v182_r0 : BitVec 32 := Scalar.extui v181_r0
  let c0_i32_121_r0 : BitVec 32 := 0#32
  let v183_r0 : BitVec 1 := Scalar.cmpi .slt v99_r0 c0_i32_121_r0
  let v184_r0 : BitVec 32 := Scalar.extui v183_r0
  let v185_r0 : BitVec 32 := Scalar.subi v182_r0 v184_r0
  let c128_i32_119_r0 : BitVec 32 := 128#32
  let c0_i32_122_r0 : BitVec 32 := 0#32
  let v186_r0 : BitVec 1 := Scalar.cmpi .sgt c128_i32_119_r0 c0_i32_122_r0
  let v187_r0 : BitVec 32 := Scalar.extui v186_r0
  let c0_i32_123_r0 : BitVec 32 := 0#32
  let v188_r0 : BitVec 1 := Scalar.cmpi .slt c128_i32_119_r0 c0_i32_123_r0
  let v189_r0 : BitVec 32 := Scalar.extui v188_r0
  let v190_r0 : BitVec 32 := Scalar.subi v187_r0 v189_r0
  let v191_r0 : BitVec 1 := Scalar.cmpi .ne v185_r0 v190_r0
  let v192_r0 : BitVec 32 := Scalar.remsi v99_r0 c128_i32_119_r0
  let c0_i32_124_r0 : BitVec 32 := 0#32
  let v193_r0 : BitVec 1 := Scalar.cmpi .ne v192_r0 c0_i32_124_r0
  let v194_r0 : BitVec 1 := Scalar.andi v191_r0 v193_r0
  let v180_r0 : BitVec 32 := Scalar.divsi v99_r0 c128_i32_119_r0
  let c1_i32_125_r0 : BitVec 32 := 1#32
  let v195_r0 : BitVec 32 := Scalar.subi v180_r0 c1_i32_125_r0
  let v196_r0 : BitVec 32 := Scalar.select v194_r0 v195_r0 v180_r0
  let v207_r0 : BitVec 1 := Scalar.cmpi .ne v126_r0 v196_r0
  let c128_i32_92_r0 : BitVec 32 := 128#32
  let c0_i32_93_r0 : BitVec 32 := 0#32
  let v127_r0 : BitVec 1 := Scalar.cmpi .eq c128_i32_92_r0 c0_i32_93_r0
  let c1_i32_94_r0 : BitVec 32 := 1#32
  let v128_r0 : BitVec 32 := Scalar.select v127_r0 c1_i32_94_r0 c128_i32_92_r0
  let v129_r0 : BitVec 32 := Scalar.remsi v94_r0 v128_r0
  let c0_i32_96_r0 : BitVec 32 := 0#32
  let v131_r0 : BitVec 1 := Scalar.cmpi .slt v129_r0 c0_i32_96_r0
  let c0_i32_97_r0 : BitVec 32 := 0#32
  let v132_r0 : BitVec 1 := Scalar.cmpi .slt v128_r0 c0_i32_97_r0
  let v133_r0 : BitVec 1 := Scalar.xori v131_r0 v132_r0
  let c0_i32_95_r0 : BitVec 32 := 0#32
  let v130_r0 : BitVec 1 := Scalar.cmpi .ne v129_r0 c0_i32_95_r0
  let v134_r0 : BitVec 1 := Scalar.andi v133_r0 v130_r0
  let v135_r0 : BitVec 32 := Scalar.addi v129_r0 v128_r0
  let v136_r0 : BitVec 32 := Scalar.select v134_r0 v135_r0 v129_r0
  let c128_i32_126_r0 : BitVec 32 := 128#32
  let c0_i32_127_r0 : BitVec 32 := 0#32
  let v197_r0 : BitVec 1 := Scalar.cmpi .eq c128_i32_126_r0 c0_i32_127_r0
  let c1_i32_128_r0 : BitVec 32 := 1#32
  let v198_r0 : BitVec 32 := Scalar.select v197_r0 c1_i32_128_r0 c128_i32_126_r0
  let v199_r0 : BitVec 32 := Scalar.remsi v99_r0 v198_r0
  let c0_i32_130_r0 : BitVec 32 := 0#32
  let v201_r0 : BitVec 1 := Scalar.cmpi .slt v199_r0 c0_i32_130_r0
  let c0_i32_131_r0 : BitVec 32 := 0#32
  let v202_r0 : BitVec 1 := Scalar.cmpi .slt v198_r0 c0_i32_131_r0
  let v203_r0 : BitVec 1 := Scalar.xori v201_r0 v202_r0
  let c0_i32_129_r0 : BitVec 32 := 0#32
  let v200_r0 : BitVec 1 := Scalar.cmpi .ne v199_r0 c0_i32_129_r0
  let v204_r0 : BitVec 1 := Scalar.andi v203_r0 v200_r0
  let v205_r0 : BitVec 32 := Scalar.addi v199_r0 v198_r0
  let v206_r0 : BitVec 32 := Scalar.select v204_r0 v205_r0 v199_r0
  let v208_r0 : BitVec 1 := Scalar.cmpi .ne v136_r0 v206_r0
  let v209_r0 : BitVec 1 := Scalar.ori v207_r0 v208_r0
  let c0_i32_39_r0 : BitVec 32 := 0#32
  let c1_i32_41_r0 : BitVec 32 := 1#32
  let arg5_r0 : BitVec 32 := Scf.iv c0_i32_39_r0 c1_i32_41_r0 k0_t1
  let c0_i32_71_r0 : BitVec 32 := 0#32
  let v92_r0 : BitVec 1 := Scalar.cmpi .eq arg5_r0 c0_i32_71_r0
  let v210_r0 : BitVec 1 := Scalar.ori v209_r0 v92_r0
  let c0_i32_132_r0 : BitVec 32 := 0#32
  let v211_r0 : BitVec 1 := Scalar.cmpi .sge arg5_r0 c0_i32_132_r0
  let v212_r0 : BitVec 1 := Scalar.andi v210_r0 v211_r0
  let v213_r0 : BitVec 32 := Scalar.extui v212_r0
  let c0_i32_133_r0 : BitVec 32 := 0#32
  let v214_r0 : BitVec 1 := Scalar.cmpi .ne v213_r0 c0_i32_133_r0
  v214_r0

def k0_off8 (i : grid0.Coords) (arg10_r0 : BitVec 32) : Fin 2 → Nat :=
  let c1_i32_168_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v94_r0 : BitVec 32 := Scalar.addi arg10_r0 v4
  let c0_i32_156_r0 : BitVec 32 := 0#32
  let v264_r0 : BitVec 1 := Scalar.cmpi .sgt v94_r0 c0_i32_156_r0
  let v265_r0 : BitVec 32 := Scalar.extui v264_r0
  let c0_i32_157_r0 : BitVec 32 := 0#32
  let v266_r0 : BitVec 1 := Scalar.cmpi .slt v94_r0 c0_i32_157_r0
  let v267_r0 : BitVec 32 := Scalar.extui v266_r0
  let v268_r0 : BitVec 32 := Scalar.subi v265_r0 v267_r0
  let c128_i32_155_r0 : BitVec 32 := 128#32
  let c0_i32_158_r0 : BitVec 32 := 0#32
  let v269_r0 : BitVec 1 := Scalar.cmpi .sgt c128_i32_155_r0 c0_i32_158_r0
  let v270_r0 : BitVec 32 := Scalar.extui v269_r0
  let c0_i32_159_r0 : BitVec 32 := 0#32
  let v271_r0 : BitVec 1 := Scalar.cmpi .slt c128_i32_155_r0 c0_i32_159_r0
  let v272_r0 : BitVec 32 := Scalar.extui v271_r0
  let v273_r0 : BitVec 32 := Scalar.subi v270_r0 v272_r0
  let v274_r0 : BitVec 1 := Scalar.cmpi .ne v268_r0 v273_r0
  let v275_r0 : BitVec 32 := Scalar.remsi v94_r0 c128_i32_155_r0
  let c0_i32_160_r0 : BitVec 32 := 0#32
  let v276_r0 : BitVec 1 := Scalar.cmpi .ne v275_r0 c0_i32_160_r0
  let v277_r0 : BitVec 1 := Scalar.andi v274_r0 v276_r0
  let v263_r0 : BitVec 32 := Scalar.divsi v94_r0 c128_i32_155_r0
  let c1_i32_161_r0 : BitVec 32 := 1#32
  let v278_r0 : BitVec 32 := Scalar.subi v263_r0 c1_i32_161_r0
  let v279_r0 : BitVec 32 := Scalar.select v277_r0 v278_r0 v263_r0
  let v290_r0 : BitVec 32 := Scalar.muli c1_i32_168_r0 v279_r0
  let c128_i32_169_r0 : BitVec 32 := 128#32
  let c128_i32_162_r0 : BitVec 32 := 128#32
  let c0_i32_163_r0 : BitVec 32 := 0#32
  let v280_r0 : BitVec 1 := Scalar.cmpi .eq c128_i32_162_r0 c0_i32_163_r0
  let c1_i32_164_r0 : BitVec 32 := 1#32
  let v281_r0 : BitVec 32 := Scalar.select v280_r0 c1_i32_164_r0 c128_i32_162_r0
  let v282_r0 : BitVec 32 := Scalar.remsi v94_r0 v281_r0
  let c0_i32_166_r0 : BitVec 32 := 0#32
  let v284_r0 : BitVec 1 := Scalar.cmpi .slt v282_r0 c0_i32_166_r0
  let c0_i32_167_r0 : BitVec 32 := 0#32
  let v285_r0 : BitVec 1 := Scalar.cmpi .slt v281_r0 c0_i32_167_r0
  let v286_r0 : BitVec 1 := Scalar.xori v284_r0 v285_r0
  let c0_i32_165_r0 : BitVec 32 := 0#32
  let v283_r0 : BitVec 1 := Scalar.cmpi .ne v282_r0 c0_i32_165_r0
  let v287_r0 : BitVec 1 := Scalar.andi v286_r0 v283_r0
  let v288_r0 : BitVec 32 := Scalar.addi v282_r0 v281_r0
  let v289_r0 : BitVec 32 := Scalar.select v287_r0 v288_r0 v282_r0
  let v291_r0 : BitVec 32 := Scalar.muli c128_i32_169_r0 v289_r0
  ![v290_r0.toNat, v291_r0.toNat]
def k0_off9 (arg7_r0 : BitVec 32) : Fin 1 → Nat :=
  let c2_i32_170_r0 : BitVec 32 := 2#32
  let v292_r0 : BitVec 32 := Scalar.remui arg7_r0 c2_i32_170_r0
  ![v292_r0.toNat]
def k0_off10 (arg8_r0 : BitVec 32) : Fin 4 → Nat :=
  let c2_i32_137_r0 : BitVec 32 := 2#32
  let v222_r0 : BitVec 32 := Scalar.remui arg8_r0 c2_i32_137_r0
  let c0_i32_155_r1 : BitVec 32 := 0#32
  let c0_i32_156_r1 : BitVec 32 := 0#32
  let c0_i32_157_r1 : BitVec 32 := 0#32
  ![v222_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_136_r0 : BitVec 32 := 2#32
  let v221_r0 : BitVec 32 := Scalar.remui arg7_r0 c2_i32_136_r0
  let c0_i32_158_r1 : BitVec 32 := 0#32
  let c0_i32_159_r1 : BitVec 32 := 0#32
  ![v221_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_155_r0 : BitVec 32 := 2#32
  let v263_r0 : BitVec 32 := Scalar.remui arg8_r0 c2_i32_155_r0
  let c0_i32_157_r0 : BitVec 32 := 0#32
  let c0_i32_158_r0 : BitVec 32 := 0#32
  let c0_i32_159_r0 : BitVec 32 := 0#32
  ![v263_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v94_r0 : BitVec 32 := Scalar.addi arg10_r0 v4
  let true_78_r0 : BitVec 1 := 1#1
  let c1_i32_77_r0 : BitVec 32 := 1#32
  let v100_r0 : BitVec 32 := Scalar.addi arg10_r0 c1_i32_77_r0
  let v101_r0 : BitVec 32 := Scalar.select true_78_r0 v100_r0 arg10_r0
  let c16_i32_79_r0 : BitVec 32 := 16#32
  let v102_r0 : BitVec 1 := Scalar.cmpi .eq v101_r0 c16_i32_79_r0
  let c0_i32_80_r0 : BitVec 32 := 0#32
  let v103_r0 : BitVec 32 := Scalar.select v102_r0 c0_i32_80_r0 v101_r0
  let v104_r0 : BitVec 32 := Scalar.addi v103_r0 v4
  let v230_r0 : BitVec 1 := Scalar.cmpi .ne v94_r0 v104_r0
  let c0_i32_39_r0 : BitVec 32 := 0#32
  let c1_i32_41_r0 : BitVec 32 := 1#32
  let arg5_r0 : BitVec 32 := Scf.iv c0_i32_39_r0 c1_i32_41_r0 k0_t1
  let c15_i32_72_r0 : BitVec 32 := 15#32
  let v93_r0 : BitVec 1 := Scalar.cmpi .eq arg5_r0 c15_i32_72_r0
  let v231_r0 : BitVec 1 := Scalar.ori v230_r0 v93_r0
  let v232_r0 : BitVec 32 := Scalar.extui v231_r0
  let c0_i32_140_r0 : BitVec 32 := 0#32
  let v233_r0 : BitVec 1 := Scalar.cmpi .ne v232_r0 c0_i32_140_r0
  v233_r0

def k0_off13 (i : grid0.Coords) (arg10_r0 : BitVec 32) : Fin 3 → Nat :=
  let c128_i32_156_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v94_r0 : BitVec 32 := Scalar.addi arg10_r0 v4
  let v264_r0 : BitVec 32 := Scalar.muli c128_i32_156_r0 v94_r0
  let c0_i32_160_r0 : BitVec 32 := 0#32
  let c0_i32_161_r0 : BitVec 32 := 0#32
  ![v264_r0.toNat, 0, 0]
def k0_off14 (arg8_r0 : BitVec 32) : Fin 1 → Nat :=
  let c2_i32_155_r0 : BitVec 32 := 2#32
  let v263_r0 : BitVec 32 := Scalar.remui arg8_r0 c2_i32_155_r0
  ![v263_r0.toNat]
def k0_off15 (arg9_r0 : BitVec 32) : Fin 4 → Nat :=
  let c2_i32_155_r0 : BitVec 32 := 2#32
  let v263_r0 : BitVec 32 := Scalar.remui arg9_r0 c2_i32_155_r0
  let c0_i32_157_r0 : BitVec 32 := 0#32
  let c0_i32_158_r0 : BitVec 32 := 0#32
  let c0_i32_159_r0 : BitVec 32 := 0#32
  ![v263_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v94_r0 : BitVec 32 := Scalar.addi arg10_r0 v4
  let true_74_r0 : BitVec 1 := 1#1
  let c1_i32_73_r0 : BitVec 32 := 1#32
  let v95_r0 : BitVec 32 := Scalar.subi arg10_r0 c1_i32_73_r0
  let v96_r0 : BitVec 32 := Scalar.select true_74_r0 v95_r0 arg10_r0
  let c_m1_i32_75_r0 : BitVec 32 := 4294967295#32
  let v97_r0 : BitVec 1 := Scalar.cmpi .eq v96_r0 c_m1_i32_75_r0
  let c15_i32_76_r0 : BitVec 32 := 15#32
  let v98_r0 : BitVec 32 := Scalar.select v97_r0 c15_i32_76_r0 v96_r0
  let v99_r0 : BitVec 32 := Scalar.addi v98_r0 v4
  let v245_r0 : BitVec 1 := Scalar.cmpi .ne v94_r0 v99_r0
  let c0_i32_39_r0 : BitVec 32 := 0#32
  let c1_i32_41_r0 : BitVec 32 := 1#32
  let arg5_r0 : BitVec 32 := Scf.iv c0_i32_39_r0 c1_i32_41_r0 k0_t1
  let c0_i32_71_r0 : BitVec 32 := 0#32
  let v92_r0 : BitVec 1 := Scalar.cmpi .eq arg5_r0 c0_i32_71_r0
  let true_146_r0 : BitVec 1 := 1#1
  let v246_r0 : BitVec 1 := Scalar.xori v92_r0 true_146_r0
  let v247_r0 : BitVec 1 := Scalar.andi v245_r0 v246_r0
  let v248_r0 : BitVec 32 := Scalar.extui v247_r0
  let c0_i32_147_r0 : BitVec 32 := 0#32
  let v249_r0 : BitVec 1 := Scalar.cmpi .ne v248_r0 c0_i32_147_r0
  v249_r0

def k0_off16 (i : grid0.Coords) (arg10_r0 : BitVec 32) : Fin 3 → Nat :=
  let c128_i32_156_r0 : BitVec 32 := 128#32
  let true_74_r0 : BitVec 1 := 1#1
  let c1_i32_73_r0 : BitVec 32 := 1#32
  let v95_r0 : BitVec 32 := Scalar.subi arg10_r0 c1_i32_73_r0
  let v96_r0 : BitVec 32 := Scalar.select true_74_r0 v95_r0 arg10_r0
  let c_m1_i32_75_r0 : BitVec 32 := 4294967295#32
  let v97_r0 : BitVec 1 := Scalar.cmpi .eq v96_r0 c_m1_i32_75_r0
  let c15_i32_76_r0 : BitVec 32 := 15#32
  let v98_r0 : BitVec 32 := Scalar.select v97_r0 c15_i32_76_r0 v96_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v99_r0 : BitVec 32 := Scalar.addi v98_r0 v4
  let v264_r0 : BitVec 32 := Scalar.muli c128_i32_156_r0 v99_r0
  let c0_i32_160_r0 : BitVec 32 := 0#32
  let c0_i32_161_r0 : BitVec 32 := 0#32
  ![v264_r0.toNat, 0, 0]
def k0_off17 (arg9_r0 : BitVec 32) : Fin 1 → Nat :=
  let c2_i32_155_r0 : BitVec 32 := 2#32
  let v263_r0 : BitVec 32 := Scalar.remui arg9_r0 c2_i32_155_r0
  ![v263_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S4x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S4x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S65536x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S65536x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S4x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S4x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S65536x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S65536x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v61_3_r0 : BitVec 32) : Fin 4 → Nat :=
  let c2_i32_59_r0 : BitVec 32 := 2#32
  let v82_r0 : BitVec 32 := Scalar.remui v61_3_r0 c2_i32_59_r0
  let c0_i32_61_r0 : BitVec 32 := 0#32
  let c0_i32_62_r0 : BitVec 32 := 0#32
  let c0_i32_63_r0 : BitVec 32 := 0#32
  ![v82_r0.toNat, 0, 0, 0]

def k0_off19 (i : grid0.Coords) (v61_4_r0 : BitVec 32) : Fin 3 → Nat :=
  let c128_i32_60_r0 : BitVec 32 := 128#32
  let true_44_r0 : BitVec 1 := 1#1
  let c1_i32_43_r0 : BitVec 32 := 1#32
  let v62_r0 : BitVec 32 := Scalar.subi v61_4_r0 c1_i32_43_r0
  let v63_r0 : BitVec 32 := Scalar.select true_44_r0 v62_r0 v61_4_r0
  let c_m1_i32_45_r0 : BitVec 32 := 4294967295#32
  let v64_r0 : BitVec 1 := Scalar.cmpi .eq v63_r0 c_m1_i32_45_r0
  let c15_i32_46_r0 : BitVec 32 := 15#32
  let v65_r0 : BitVec 32 := Scalar.select v64_r0 c15_i32_46_r0 v63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi v65_r0 v4
  let v83_r0 : BitVec 32 := Scalar.muli c128_i32_60_r0 v66_r0
  let c0_i32_64_r0 : BitVec 32 := 0#32
  let c0_i32_65_r0 : BitVec 32 := 0#32
  ![v83_r0.toNat, 0, 0]

def k0_chk5 (i : grid0.Coords) (v61_4_r0 : BitVec 32) : Prop :=
  (∀ a, (k0_off19 i v61_4_r0) a + S128x2x128.size a ≤ S65536x2x128.size a)
theorem k0_off19_inb : ∀ (i : grid0.Coords) (v61_4_r0 : BitVec 32) (k0_hw5 : k0_chk5 i v61_4_r0), ∀ a, (k0_off19 i v61_4_r0) a + S128x2x128.size a ≤ S65536x2x128.size a := fun i v61_4_r0 k0_hw5 => k0_hw5

def k0_off20 (v61_3_r0 : BitVec 32) : Fin 1 → Nat :=
  let c2_i32_59_r0 : BitVec 32 := 2#32
  let v82_r0 : BitVec 32 := Scalar.remui v61_3_r0 c2_i32_59_r0
  ![v82_r0.toNat]
def k0_off21 (v61_3_r0 : BitVec 32) : Fin 4 → Nat :=
  let c2_i32_59_r0 : BitVec 32 := 2#32
  let v82_r0 : BitVec 32 := Scalar.remui v61_3_r0 c2_i32_59_r0
  let c0_i32_68_r0 : BitVec 32 := 0#32
  let c0_i32_69_r0 : BitVec 32 := 0#32
  let c0_i32_70_r0 : BitVec 32 := 0#32
  ![v82_r0.toNat, 0, 0, 0]

def k0_chk4 (v61_3_r0 : BitVec 32) : Prop :=
  (∀ a, (k0_off18 v61_3_r0) a + S1x128x2x128.size a ≤ S2x128x2x128.size a) ∧
  (∀ a, (k0_off20 v61_3_r0) a + S1.size a ≤ S2.size a) ∧
  (∀ a, (k0_off21 v61_3_r0) a + S1x128x2x128.size a ≤ S2x128x2x128.size a)
theorem k0_off18_inb : ∀ (v61_3_r0 : BitVec 32) (k0_hw4 : k0_chk4 v61_3_r0), ∀ a, (k0_off18 v61_3_r0) a + S1x128x2x128.size a ≤ S2x128x2x128.size a := fun v61_3_r0 k0_hw4 => k0_hw4.1
theorem k0_off20_inb : ∀ (v61_3_r0 : BitVec 32) (k0_hw4 : k0_chk4 v61_3_r0), ∀ a, (k0_off20 v61_3_r0) a + S1.size a ≤ S2.size a := fun v61_3_r0 k0_hw4 => k0_hw4.2.1
theorem k0_off21_inb : ∀ (v61_3_r0 : BitVec 32) (k0_hw4 : k0_chk4 v61_3_r0), ∀ a, (k0_off21 v61_3_r0) a + S1x128x2x128.size a ≤ S2x128x2x128.size a := fun v61_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S98304x256 : Shape := ⟨2, ![98304, 256]⟩
abbrev S4x16384 : Shape := ⟨2, ![4, 16384]⟩
abbrev S65536 : Shape := ⟨1, ![65536]⟩
abbrev S_ : Shape := ⟨0, ![]⟩
abbrev S65536x1 : Shape := ⟨2, ![65536, 1]⟩
abbrev S65536x256 : Shape := ⟨2, ![65536, 256]⟩
abbrev S65536x2x128 : Shape := ⟨3, ![65536, 2, 128]⟩

abbrev nBuf : Space → Nat
  | .hbm => 13
  | .vmem => 0
  | .smem => 0
  | _ => 0

abbrev bufTy : (tb : Table) → Fin (tcTables nBuf tb) → BufTy
  | .hbm, ⟨0, _⟩ => ⟨S98304x256, .i32⟩
  | .hbm, ⟨1, _⟩ => ⟨S4x16384, .i32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x256, .i32⟩
  | .hbm, ⟨12, _⟩ => ⟨S65536x2x128, .i32⟩
  | _, _ => ⟨S98304x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel2.lean ====
abbrev S2x49152x256 : Shape := ⟨3, ![2, 49152, 256]⟩
abbrev S96 : Shape := ⟨1, ![96]⟩
abbrev S24 : Shape := ⟨1, ![24]⟩
abbrev S1 : Shape := ⟨1, ![1]⟩
abbrev S32x1024x512 : Shape := ⟨3, ![32, 1024, 512]⟩
abbrev S32x512x1024 : Shape := ⟨3, ![32, 512, 1024]⟩
abbrev S49152x1024 : Shape := ⟨2, ![49152, 1024]⟩
abbrev S2x2048x256 : Shape := ⟨3, ![2, 2048, 256]⟩
abbrev S1x1024x512 : Shape := ⟨3, ![1, 1024, 512]⟩
abbrev S1x512x1024 : Shape := ⟨3, ![1, 512, 1024]⟩
abbrev S2048x1024 : Shape := ⟨2, ![2048, 1024]⟩
abbrev S1x512x256 : Shape := ⟨3, ![1, 512, 256]⟩
abbrev S512x256 : Shape := ⟨2, ![512, 256]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 5
  | .vmem => 28
  | .smem => 3
  | _ => 0

abbrev bufTy : (tb : Table) → Fin (tcTables nBuf tb) → BufTy
  | .hbm, ⟨0, _⟩ => ⟨S2x49152x256, .i32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S49152x1024, .bf16⟩
  | .local _ .vmem, ⟨0, _⟩ => ⟨S2x2048x256, .i32⟩
  | .local _ .vmem, ⟨1, _⟩ => ⟨S2x2048x256, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x512x1024, .bf16⟩
  | .local _ .vmem, ⟨25, _⟩ => ⟨S1x512x1024, .bf16⟩
  | .local _ .vmem, ⟨26, _⟩ => ⟨S2048x1024, .bf16⟩
  | .local _ .vmem, ⟨27, _⟩ => ⟨S2048x1024, .bf16⟩
  | .local _ .smem, ⟨0, _⟩ => ⟨S96, .i32⟩
  | .local _ .smem, ⟨1, _⟩ => ⟨S24, .i32⟩
  | .local _ .smem, ⟨2, _⟩ => ⟨S1, .i32⟩
  | _, _ => ⟨S2x49152x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![24], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (c0_i32 : BitVec 32) : Fin 1 → Nat :=
  let c4_i32 : BitVec 32 := 4#32
  let arg0 : BitVec 32 := BitVec.ofNat 32 (i 0).val
  let v0 : BitVec 32 := Scalar.muli c4_i32 arg0
  let v1 : BitVec 32 := Scalar.addi v0 c0_i32
  let v2 : Index := Scalar.indexCast v1
  ![v2.toNat]
def k0_cond1 (i : grid0.Coords) (v1 : BitVec 32) (v5 : BitVec 32) : BitVec 1 :=
  let arg0 : BitVec 32 := BitVec.ofNat 32 (i 0).val
  let v2 : BitVec 1 := Scalar.cmpi .eq v1 arg0
  let c4_i32 : BitVec 32 := 4#32
  let v3 : BitVec 32 := Scalar.muli c4_i32 arg0
  let c0_i32 : BitVec 32 := 0#32
  let v4 : BitVec 32 := Scalar.addi v3 c0_i32
  let v6 : BitVec 1 := Scalar.cmpi .slt v4 v5
  let v7 : BitVec 1 := Scalar.andi v2 v6
  let v8 : BitVec 32 := Scalar.extui v7
  let c0_i32_0 : BitVec 32 := 0#32
  let v9 : BitVec 1 := Scalar.cmpi .ne v8 c0_i32_0
  v9

def k0_cond2 (i : grid0.Coords) (v1 : BitVec 32) (v12 : BitVec 32) : BitVec 1 :=
  let arg0 : BitVec 32 := BitVec.ofNat 32 (i 0).val
  let v2 : BitVec 1 := Scalar.cmpi .eq v1 arg0
  let c4_i32_1 : BitVec 32 := 4#32
  let v10 : BitVec 32 := Scalar.muli c4_i32_1 arg0
  let c1_i32 : BitVec 32 := 1#32
  let v11 : BitVec 32 := Scalar.addi v10 c1_i32
  let v13 : BitVec 1 := Scalar.cmpi .slt v11 v12
  let v14 : BitVec 1 := Scalar.andi v2 v13
  let v15 : BitVec 32 := Scalar.extui v14
  let c0_i32_3 : BitVec 32 := 0#32
  let v16 : BitVec 1 := Scalar.cmpi .ne v15 c0_i32_3
  v16

def k0_cond3 (i : grid0.Coords) (v1 : BitVec 32) (v19 : BitVec 32) : BitVec 1 :=
  let arg0 : BitVec 32 := BitVec.ofNat 32 (i 0).val
  let v2 : BitVec 1 := Scalar.cmpi .eq v1 arg0
  let c4_i32_4 : BitVec 32 := 4#32
  let v17 : BitVec 32 := Scalar.muli c4_i32_4 arg0
  let c2_i32 : BitVec 32 := 2#32
  let v18 : BitVec 32 := Scalar.addi v17 c2_i32
  let v20 : BitVec 1 := Scalar.cmpi .slt v18 v19
  let v21 : BitVec 1 := Scalar.andi v2 v20
  let v22 : BitVec 32 := Scalar.extui v21
  let c0_i32_6 : BitVec 32 := 0#32
  let v23 : BitVec 1 := Scalar.cmpi .ne v22 c0_i32_6
  v23

def k0_cond4 (i : grid0.Coords) (v1 : BitVec 32) (v26 : BitVec 32) : BitVec 1 :=
  let arg0 : BitVec 32 := BitVec.ofNat 32 (i 0).val
  let v2 : BitVec 1 := Scalar.cmpi .eq v1 arg0
  let c4_i32_7 : BitVec 32 := 4#32
  let v24 : BitVec 32 := Scalar.muli c4_i32_7 arg0
  let c3_i32 : BitVec 32 := 3#32
  let v25 : BitVec 32 := Scalar.addi v24 c3_i32
  let v27 : BitVec 1 := Scalar.cmpi .slt v25 v26
  let v28 : BitVec 1 := Scalar.andi v2 v27
  let v29 : BitVec 32 := Scalar.extui v28
  let c0_i32_9 : BitVec 32 := 0#32
  let v30 : BitVec 1 := Scalar.cmpi .ne v29 c0_i32_9
  v30

def cc0_transform_0 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S24) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_1 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 0 (Rect.unit (s := S96) ![v2.toNat] S1.size (k0_off2_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_2 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 0 (Rect.unit (s := S96) ![v2.toNat] S1.size (k0_off2_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 0 (Rect.unit (s := S96) ![v2.toNat] S1.size (k0_off2_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_4 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 0 (Rect.unit (s := S96) ![v2.toNat] S1.size (k0_off2_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 0 (Rect.unit (s := S96) ![v2.toNat] S1.size (k0_off2_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 0 (Rect.unit (s := S96) ![v2.toNat] S1.size (k0_off2_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 0 (Rect.unit (s := S96) ![v2.toNat] S1.size (k0_off2_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 0 (Rect.unit (s := S96) ![v2.toNat] S1.size (k0_off2_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 0 (Rect.unit (s := S96) ![v2.toNat] S1.size (k0_off2_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 0 (Rect.unit (s := S96) ![v2.toNat] S1.size (k0_off2_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 0 (Rect.unit (s := S96) ![v2.toNat] S1.size (k0_off2_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off2_inb : ∀ i : grid0.Coords, ∀ (r : Fin 4), ∀ a, (k0_off2 i (BitVec.ofNat 32 r.val)) a + S1.size a ≤ S96.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 0 (Rect.unit (s := S96) ![v2.toNat] S1.size (k0_off2_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S2x2048x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x49152x256 : Shape := ⟨3, ![2, 49152, 256]⟩
abbrev S96 : Shape := ⟨1, ![96]⟩
abbrev S24 : Shape := ⟨1, ![24]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩
abbrev S1x49152x256 : Shape := ⟨3, ![1, 49152, 256]⟩
abbrev S49152x256 : Shape := ⟨2, ![49152, 256]⟩
abbrev S49152x1024 : Shape := ⟨2, ![49152, 1024]⟩
abbrev S96x1 : Shape := ⟨2, ![96, 1]⟩
abbrev S96x512 : Shape := ⟨2, ![96, 512]⟩
abbrev S49152 : Shape := ⟨1, ![49152]⟩
abbrev S49152x1 : Shape := ⟨2, ![49152, 1]⟩
abbrev S1x32 : Shape := ⟨2, ![1, 32]⟩
abbrev S49152x32 : Shape := ⟨2, ![49152, 32]⟩
abbrev S32x512x49152 : Shape := ⟨3, ![32, 512, 49152]⟩
abbrev S32x49152x512 : Shape := ⟨3, ![32, 49152, 512]⟩
abbrev S32x49152 : Shape := ⟨2, ![32, 49152]⟩
abbrev S32x49152x1 : Shape := ⟨3, ![32, 49152, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x49152x256, .i32⟩
  | .hbm, ⟨1, _⟩ => ⟨S96, .i32⟩
  | .hbm, ⟨2, _⟩ => ⟨S24, .i32⟩
  | .hbm, ⟨3, _⟩ => ⟨S1, .i32⟩
  | .hbm, ⟨4, _⟩ => ⟨S32x1024x512, .bf16⟩
  | .hbm, ⟨5, _⟩ => ⟨S32x1024x512, .bf16⟩
  | .hbm, ⟨6, _⟩ => ⟨S32x512x1024, .bf16⟩
  | .hbm, ⟨7, _⟩ => ⟨S_, .i32⟩
  | .hbm, ⟨8, _⟩ => ⟨S2x49152x256, .i32⟩
  | .hbm, ⟨9, _⟩ => ⟨S2x49152x256, .i32⟩
  | .hbm, ⟨10, _⟩ => ⟨S2x49152x256, .f32⟩
  | .hbm, ⟨11, _⟩ => ⟨S_, .i32⟩
  | .hbm, ⟨12, _⟩ => ⟨S2x49152x256, .i32⟩
  | .hbm, ⟨13, _⟩ => ⟨S2x49152x256, .i32⟩
  | .hbm, ⟨14, _⟩ => ⟨S2x49152x256, .f32⟩
  | .hbm, ⟨15, _⟩ => ⟨S1x49152x256, .f32⟩
  | .hbm, ⟨16, _⟩ => ⟨S49152x256, .f32⟩
  | .hbm, ⟨17, _⟩ => ⟨S1x49152x256, .f32⟩
  | .hbm, ⟨18, _⟩ => ⟨S49152x256, .f32⟩
  | .hbm, ⟨19, _⟩ => ⟨S1x49152x256, .f32⟩
  | .hbm, ⟨20, _⟩ => ⟨S49152x256, .f32⟩
  | .hbm, ⟨21, _⟩ => ⟨S1x49152x256, .f32⟩
  | .hbm, ⟨22, _⟩ => ⟨S49152x256, .f32⟩
  | .hbm, ⟨23, _⟩ => ⟨S49152x1024, .f32⟩
  | .hbm, ⟨24, _⟩ => ⟨S96x1, .i32⟩
  | .hbm, ⟨25, _⟩ => ⟨S96x512, .i32⟩
  | .hbm, ⟨26, _⟩ => ⟨S49152, .i32⟩
  | .hbm, ⟨27, _⟩ => ⟨S49152x1, .i32⟩
  | .hbm, ⟨28, _⟩ => ⟨S1x32, .i32⟩
  | .hbm, ⟨29, _⟩ => ⟨S49152x32, .i32⟩
  | .hbm, ⟨30, _⟩ => ⟨S49152x32, .i32⟩
  | .hbm, ⟨31, _⟩ => ⟨S49152x32, .i1⟩
  | .hbm, ⟨32, _⟩ => ⟨S49152x32, .f32⟩
  | .hbm, ⟨33, _⟩ => ⟨S32x1024x512, .f32⟩
  | .hbm, ⟨34, _⟩ => ⟨S32x512x49152, .f32⟩
  | .hbm, ⟨35, _⟩ => ⟨S32x49152x512, .f32⟩
  | .hbm, ⟨36, _⟩ => ⟨S32x1024x512, .f32⟩
  | .hbm, ⟨37, _⟩ => ⟨S32x512x49152, .f32⟩
  | .hbm, ⟨38, _⟩ => ⟨S32x49152x512, .f32⟩
  | .hbm, ⟨39, _⟩ => ⟨S32x49152x512, .f32⟩
  | .hbm, ⟨40, _⟩ => ⟨S32x49152x512, .f32⟩
  | .hbm, ⟨41, _⟩ => ⟨S_, .f32⟩
  | .hbm, ⟨42, _⟩ => ⟨S32x49152x512, .f32⟩
  | .hbm, ⟨43, _⟩ => ⟨S32x49152x512, .f32⟩
  | .hbm, ⟨44, _⟩ => ⟨S_, .f32⟩
  | .hbm, ⟨45, _⟩ => ⟨S32x49152x512, .f32⟩
  | .hbm, ⟨46, _⟩ => ⟨S32x49152x512, .f32⟩
  | .hbm, ⟨47, _⟩ => ⟨S32x49152x512, .f32⟩
  | .hbm, ⟨48, _⟩ => ⟨S32x49152x512, .f32⟩
  | .hbm, ⟨49, _⟩ => ⟨S32x49152, .f32⟩
  | .hbm, ⟨50, _⟩ => ⟨S32x49152x1, .f32⟩
  | .hbm, ⟨51, _⟩ => ⟨S32x49152x512, .f32⟩
  | .hbm, ⟨52, _⟩ => ⟨S32x49152x512, .f32⟩
  | .hbm, ⟨53, _⟩ => ⟨S32x512x1024, .f32⟩
  | .hbm, ⟨54, _⟩ => ⟨S49152x1024, .f32⟩
  | .hbm, ⟨55, _⟩ => ⟨S49152x1024, .bf16⟩
  | _, _ => ⟨S2x49152x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S4x16384x256 : Shape := ⟨3, ![4, 16384, 256]⟩
abbrev S16384x128 : Shape := ⟨2, ![16384, 128]⟩
abbrev S1024 : Shape := ⟨1, ![1024]⟩
abbrev S1x1024 : Shape := ⟨2, ![1, 1024]⟩
abbrev S1024x1024 : Shape := ⟨2, ![1024, 1024]⟩
abbrev S4x1024x256 : Shape := ⟨3, ![4, 1024, 256]⟩
abbrev S1024x128 : Shape := ⟨2, ![1024, 128]⟩
abbrev S1024x1 : Shape := ⟨2, ![1024, 1]⟩
abbrev S1x1024x256 : Shape := ⟨3, ![1, 1024, 256]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x16384x256, .i32⟩
  | .hbm, ⟨2, _⟩ => ⟨S16384x128, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x256, .i32⟩
  | .local _ .vmem, ⟨3, _⟩ => ⟨S4x1024x256, .i32⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S4x16384x256 : Shape := ⟨3, ![4, 16384, 256]⟩
abbrev S16384x128 : Shape := ⟨2, ![16384, 128]⟩
abbrev S1024 : Shape := ⟨1, ![1024]⟩
abbrev S_ : Shape := ⟨0, ![]⟩
abbrev S1x16384x256 : Shape := ⟨3, ![1, 16384, 256]⟩
abbrev S16384x256 : Shape := ⟨2, ![16384, 256]⟩
abbrev S16384x1 : Shape := ⟨2, ![16384, 1]⟩
abbrev S16384 : Shape := ⟨1, ![16384]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x256, .i32⟩
  | .hbm, ⟨2, _⟩ => ⟨S16384x128, .f32⟩
  | .hbm, ⟨3, _⟩ => ⟨S1024, .f32⟩
  | .hbm, ⟨4, _⟩ => ⟨S_, .i32⟩
  | .hbm, ⟨5, _⟩ => ⟨S4x16384x256, .i32⟩
  | .hbm, ⟨6, _⟩ => ⟨S4x16384x256, .i32⟩
  | .hbm, ⟨7, _⟩ => ⟨S4x16384x256, .f32⟩
  | .hbm, ⟨8, _⟩ => ⟨S_, .i32⟩
  | .hbm, ⟨9, _⟩ => ⟨S4x16384x256, .i32⟩
  | .hbm, ⟨10, _⟩ => ⟨S4x16384x256, .i32⟩
  | .hbm, ⟨11, _⟩ => ⟨S4x16384x256, .f32⟩
  | .hbm, ⟨12, _⟩ => ⟨S1x16384x256, .f32⟩
  | .hbm, ⟨13, _⟩ => ⟨S16384x256, .f32⟩
  | .hbm, ⟨14, _⟩ => ⟨S1x16384x256, .f32⟩
  | .hbm, ⟨15, _⟩ => ⟨S16384x256, .f32⟩
  | .hbm, ⟨16, _⟩ => ⟨S1x16384x256, .f32⟩
  | .hbm, ⟨17, _⟩ => ⟨S16384x256, .f32⟩
  | .hbm, ⟨18, _⟩ => ⟨S1x16384x256, .f32⟩
  | .hbm, ⟨19, _⟩ => ⟨S16384x256, .f32⟩
  | .hbm, ⟨20, _⟩ => ⟨S16384x1024, .f32⟩
  | .hbm, ⟨21, _⟩ => ⟨S1x16384x256, .f32⟩
  | .hbm, ⟨22, _⟩ => ⟨S16384x256, .f32⟩
  | .hbm, ⟨23, _⟩ => ⟨S1x16384x256, .f32⟩
  | .hbm, ⟨24, _⟩ => ⟨S16384x256, .f32⟩
  | .hbm, ⟨25, _⟩ => ⟨S1x16384x256, .f32⟩
  | .hbm, ⟨26, _⟩ => ⟨S16384x256, .f32⟩
  | .hbm, ⟨27, _⟩ => ⟨S1x16384x256, .f32⟩
  | .hbm, ⟨28, _⟩ => ⟨S16384x256, .f32⟩
  | .hbm, ⟨29, _⟩ => ⟨S16384x1024, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x9728 : Shape := ⟨2, ![1024, 9728]⟩
abbrev S32x512x1024 : Shape := ⟨3, ![32, 512, 1024]⟩
abbrev S1x1024 : Shape := ⟨2, ![1, 1024]⟩
abbrev S16384x4864 : Shape := ⟨2, ![16384, 4864]⟩
abbrev S512x1024 : Shape := ⟨2, ![512, 1024]⟩
abbrev S1024x4864 : Shape := ⟨2, ![1024, 4864]⟩
abbrev S512x4864 : Shape := ⟨2, ![512, 4864]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9728, .f32⟩
  | .hbm, ⟨3, _⟩ => ⟨S32x512x1024, .f32⟩
  | .hbm, ⟨4, _⟩ => ⟨S1x1024, .f32⟩
  | .hbm, ⟨5, _⟩ => ⟨S1024x9728, .bf16⟩
  | .hbm, ⟨6, _⟩ => ⟨S16384x1024, .f32⟩
  | .hbm, ⟨7, _⟩ => ⟨S16384x4864, .bf16⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4864, .bf16⟩
  | .local _ .vmem, ⟨4, _⟩ => ⟨S512x1024, .f32⟩
  | .local _ .vmem, ⟨5, _⟩ => ⟨S512x1024, .f32⟩
  | .local _ .vmem, ⟨6, _⟩ => ⟨S512x4864, .bf16⟩
  | .local _ .vmem, ⟨7, _⟩ => ⟨S512x4864, .bf16⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4864 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S1024 : Shape := ⟨1, ![1024]⟩
abbrev S1024x9728 : Shape := ⟨2, ![1024, 9728]⟩
abbrev S32x512x1024 : Shape := ⟨3, ![32, 512, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x9728 : Shape := ⟨2, ![16384, 9728]⟩
abbrev S16384x4864 : Shape := ⟨2, ![16384, 4864]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9728, .f32⟩
  | .hbm, ⟨3, _⟩ => ⟨S32x512x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x9728, .f32⟩
  | .hbm, ⟨21, _⟩ => ⟨S16384x4864, .f32⟩
  | .hbm, ⟨22, _⟩ => ⟨S16384x4864, .bf16⟩
  | .hbm, ⟨23, _⟩ => ⟨S16384x1024, .f32⟩
  | .hbm, ⟨24, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Words.lean ====
/-
  The words of the gather's loop. One subcore's loop of sixteen trips carries five words: the two slot counters of the
  index staging (next to fetch, next to wait), the two of the row staging (next to send, next to wait) and the step.
  At trip `k` they are `w6 k … w10 k`, and every condition, offset and check of the body is a closed form of the
  subcore's first step `base i` and of `k`. All of it is finite: two cores, sixteen subcores, sixteen trips.
-/
module

public import proofs.«01_k».proof.Proof.Gen.KernelIdeal
public import proofs.«01_k».proof.Proof.Gen.KernelIdeal.Skeleton

@[expose] public section

namespace Cert.Proof.Words

open Cert.KernelIdeal Cert.KernelIdeal.Gen Idealize.ShloMosaic

/-- The step a subcore's trip `k` serves, of the 512 steps of the launch. -/
def step (i : grid0.Coords) (k : ℕ) : ℕ := 16 * ((i 1).val + 16 * (i 0).val) + k

/-- The carried words at the start of trip `k` (at `k = 16`: after the loop). -/
def w6 (k : ℕ) : BitVec 32 := if k = 16 then 16#32 else BitVec.ofNat 32 (k + 1)
def w7 (k : ℕ) : BitVec 32 := BitVec.ofNat 32 k
def w9 (k : ℕ) : BitVec 32 := BitVec.ofNat 32 (k - 1)
def w10 (k : ℕ) : BitVec 32 := if k = 16 then 0#32 else BitVec.ofNat 32 k

theorem trips_eq : k0_t1_loop.trips = 16 := by decide +kernel

theorem step_lt (i : grid0.Coords) {k : ℕ} (hk : k < 16) : step i k < 512 := by
  have h0 : (i 0).val < 2 := (i 0).isLt
  have h1 : (i 1).val < 16 := (i 1).isLt
  unfold step; omega

/-! ## Checks and conditions -/

theorem chk3 : ∀ k : Fin k0_t1_loop.trips, k0_chk3 (w7 k) := by decide +kernel
theorem chk2 : ∀ k : Fin k0_t1_loop.trips, k0_chk2 (w7 k) := by decide +kernel
theorem chk1 : ∀ (i : grid0.Coords) (k : Fin k0_t1_loop.trips), k0_chk1 i k (w6 k) (w7 k) (w7 k) (w9 k) (w10 k) := by decide +kernel
theorem chk5 : ∀ i : grid0.Coords, k0_chk5 i (w10 16) := by decide +kernel
theorem chk4 : k0_chk4 (w9 16) := by decide +kernel

theorem cond1 : ∀ (i : grid0.Coords) (k : Fin k0_t1_loop.trips), (k0_cond1 i k (w10 k) = 1#1) ↔ k.val < 15 := by decide +kernel
theorem cond2 : ∀ (i : grid0.Coords) (k : Fin k0_t1_loop.trips), k0_cond2 i k (w10 k) = 1#1 := by decide +kernel
theorem cond5 : ∀ (i : grid0.Coords) (k : Fin k0_t1_loop.trips), k0_cond5 i k (w10 k) = 1#1 := by decide +kernel
theorem cond7 : ∀ (i : grid0.Coords) (k : Fin k0_t1_loop.trips), (k0_cond7 i k (w10 k) = 1#1) ↔ 0 < k.val := by decide +kernel

/-! ## Offsets -/

theorem off1 : k0_off1 = ![0 % 2, 0, 0] := by decide +kernel
theorem off2 : ∀ i : grid0.Coords, k0_off2 i = ![step i 0 / 128, step i 0 % 128 * 128] := by decide +kernel
theorem off3 : k0_off3 = ![0 % 2] := by decide +kernel
theorem off4 : ∀ k : Fin k0_t1_loop.trips, k.val < 15 → k0_off4 (w6 k) = ![(k.val + 1) % 2, 0, 0] := by decide +kernel
theorem off5 : ∀ (i : grid0.Coords) (k : Fin k0_t1_loop.trips), k.val < 15 →
    k0_off5 i (w10 k) = ![step i (k.val + 1) / 128, step i (k.val + 1) % 128 * 128] := by decide +kernel
theorem off6 : ∀ k : Fin k0_t1_loop.trips, k.val < 15 → k0_off6 (w6 k) = ![(k.val + 1) % 2] := by decide +kernel
theorem off7 : ∀ k : Fin k0_t1_loop.trips, k0_off7 (w7 k) = ![k.val % 2, 0, 0] := by decide +kernel
theorem off8 : ∀ (i : grid0.Coords) (k : Fin k0_t1_loop.trips), k0_off8 i (w10 k) = ![step i k.val / 128, step i k.val % 128 * 128] := by
  decide +kernel
theorem off9 : ∀ k : Fin k0_t1_loop.trips, k0_off9 (w7 k) = ![k.val % 2] := by decide +kernel
theorem off10 : ∀ k : Fin k0_t1_loop.trips, k0_off10 (w7 k) = ![k.val % 2, 0, 0, 0] := by decide +kernel
theorem off11 : ∀ k : Fin k0_t1_loop.trips, k0_off11 (w7 k) = ![k.val % 2, 0, 0] := by decide +kernel
theorem off12 : ∀ k : Fin k0_t1_loop.trips, k0_off12 (w7 k) = ![k.val % 2, 0, 0, 0] := by decide +kernel
theorem off13 : ∀ (i : grid0.Coords) (k : Fin k0_t1_loop.trips), k0_off13 i (w10 k) = ![128 * step i k.val, 0, 0] := by decide +kernel
theorem off14 : ∀ k : Fin k0_t1_loop.trips, k0_off14 (w7 k) = ![k.val % 2] := by decide +kernel
theorem off15 : ∀ k : Fin k0_t1_loop.trips, k0_off15 (w9 k) = ![(k.val - 1) % 2, 0, 0, 0] := by decide +kernel
theorem off16 : ∀ (i : grid0.Coords) (k : Fin k0_t1_loop.trips), 0 < k.val → k0_off16 i (w10 k) = ![128 * step i (k.val - 1), 0, 0] := by
  decide +kernel
theorem off17 : ∀ k : Fin k0_t1_loop.trips, k0_off17 (w9 k) = ![(k.val - 1) % 2] := by decide +kernel
theorem off19 : ∀ i : grid0.Coords, k0_off19 i (w10 16) = ![128 * step i 15, 0, 0] := by decide +kernel
theorem off20 : k0_off20 (w9 16) = ![15 % 2] := by decide +kernel
theorem off21 : k0_off21 (w9 16) = ![15 % 2, 0, 0, 0] := by decide +kernel

end Cert.Proof.Words

end
-- ==== Proof.Geom.lean ====
/-
  The windows of the gather, as sets of elements. The launch has 512 steps; step `s` reads words `128 s … 128 s + 127`
  of the row numbers (an array of 4 rows of 16384: block `s % 128` of row `s / 128`) and writes rows
  `128 s … 128 s + 127` of the result. A staging buffer has two slots. Each window the kernel names by offsets is one of
  these sets, whatever spelling its offsets have; so is what a transfer through it leaves.
-/
module

public import proofs.«01_k».proof.Proof.Words
public import Idealize.ShloMosaic.Lib.Tactic
public import Idealize.ShloMosaic.Lib.Pipeline.Kit
public import Idealize.ShloMosaic.Lib.Pipeline.Value
public import Idealize.ShloMosaic.Lib.SparseCore.Stream

@[expose] public section

noncomputable section

namespace Cert.Proof.Gather

open Cert.KernelIdeal Cert.KernelIdeal.Gen Idealize.ShloMosaic

variable {F : FTy → Type}

local notation "tV" => (Memref.whole Cert.KernelIdeal.main_v0_scv : Memref Cert.KernelIdeal.sig Kind.scVector Space.hbm Cert.KernelIdeal.S98304x2x128 EltTy.i32)
local notation "aV" => (Memref.whole Cert.KernelIdeal.main_arg1_scv : Memref Cert.KernelIdeal.sig Kind.scVector Space.hbm Cert.KernelIdeal.S4x16384 EltTy.i32)
local notation "oV" => (Memref.whole Cert.KernelIdeal.main_v1_scv : Memref Cert.KernelIdeal.sig Kind.scVector Space.hbm Cert.KernelIdeal.S65536x2x128 EltTy.i32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.i32)

/-! ## Indices -/

def ixA (r : Fin 4) (c : Fin 16384) : S4x16384.Idx := fun a => match a with | 0 => r | 1 => c
def ixT (r : Fin 98304) (p : Fin 2) (l : Fin 128) : S98304x2x128.Idx := fun a => match a with | 0 => r | 1 => p | 2 => l
def ixO (r : Fin 65536) (p : Fin 2) (l : Fin 128) : S65536x2x128.Idx := fun a => match a with | 0 => r | 1 => p | 2 => l

/-- Word `n` of the row numbers, counted through the array. -/
def pos (n : ℕ) : S4x16384.Idx := ixA ⟨n / 16384 % 4, Nat.mod_lt _ (by decide)⟩ ⟨n % 16384, Nat.mod_lt _ (by decide)⟩

/-- Row `w` of a table. -/
def rowAt (t : S98304x2x128.Idx → Elt F .i32) (w : BitVec 32) (p : Fin 2) (l : Fin 128) : Elt F .i32 :=
  t (ixT ⟨w.toNat % 98304, Nat.mod_lt _ (by decide)⟩ p l)

/-- The gathered rows: row `n` of the result is the table's row that word `n` names. -/
def target (t : S98304x2x128.Idx → Elt F .i32) (ix : S4x16384.Idx → Elt F .i32) : S65536x2x128.Idx → Elt F .i32 :=
  fun x => rowAt t (ix (pos (x 0).val)) (x 1) (x 2)

/-! ## Sets -/

/-- Words `lo … hi - 1` of the row numbers. -/
def iR (lo hi : ℕ) : Finset S4x16384.Idx := Finset.univ.filter fun x => lo ≤ 16384 * (x 0).val + (x 1).val ∧ 16384 * (x 0).val + (x 1).val < hi
/-- Rows `lo … hi - 1` of the result. -/
def oR (lo hi : ℕ) : Finset S65536x2x128.Idx := Finset.univ.filter fun x => lo ≤ (x 0).val ∧ (x 0).val < hi
/-- Slot `b` of the index staging, and of the row staging. -/
def sI (b : ℕ) : Finset S2x1x128.Idx := Finset.univ.filter fun x => (x 0).val = b
def sO (b : ℕ) : Finset S2x128x2x128.Idx := Finset.univ.filter fun x => (x 0).val = b

theorem mem_iR {lo hi : ℕ} {x : S4x16384.Idx} : x ∈ iR lo hi ↔ lo ≤ 16384 * (x 0).val + (x 1).val ∧ 16384 * (x 0).val + (x 1).val < hi := by
  simp [iR]
theorem mem_oR {lo hi : ℕ} {x : S65536x2x128.Idx} : x ∈ oR lo hi ↔ lo ≤ (x 0).val ∧ (x 0).val < hi := by
  simp [oR]
theorem mem_sI {b : ℕ} {x : S2x1x128.Idx} : x ∈ sI b ↔ (x 0).val = b := by simp [sI]
theorem mem_sO {b : ℕ} {x : S2x128x2x128.Idx} : x ∈ sO b ↔ (x 0).val = b := by simp [sO]

theorem iR_union {a b c : ℕ} (h : a ≤ b) (h' : b ≤ c) : iR a c = iR a b ∪ iR b c := by
  ext x; simp only [Finset.mem_union, mem_iR]; omega
theorem iR_disjoint {a b c d : ℕ} (h : b ≤ c) : Disjoint (iR a b) (iR c d) := by
  rw [Finset.disjoint_left]; intro x; simp only [mem_iR]; omega
theorem oR_union {a b c : ℕ} (h : a ≤ b) (h' : b ≤ c) : oR a c = oR a b ∪ oR b c := by
  ext x; simp only [Finset.mem_union, mem_oR]; omega
theorem oR_disjoint {a b c d : ℕ} (h : b ≤ c) : Disjoint (oR a b) (oR c d) := by
  rw [Finset.disjoint_left]; intro x; simp only [mem_oR]; omega
theorem sI_union : (Finset.univ : Finset S2x1x128.Idx) = sI 0 ∪ sI 1 := by
  ext x; simp only [Finset.mem_union, mem_sI, Finset.mem_univ, true_iff]
  have : (x 0).val < 2 := (x 0).isLt
  omega
theorem sI_disjoint : Disjoint (sI 0) (sI 1) := by
  rw [Finset.disjoint_left]; intro x; simp only [mem_sI]; omega
theorem sO_union : (Finset.univ : Finset S2x128x2x128.Idx) = sO 0 ∪ sO 1 := by
  ext x; simp only [Finset.mem_union, mem_sO, Finset.mem_univ, true_iff]
  have : (x 0).val < 2 := (x 0).isLt
  omega
theorem sO_disjoint : Disjoint (sO 0) (sO 1) := by
  rw [Finset.disjoint_left]; intro x; simp only [mem_sO]; omega
theorem iR_all : iR 0 65536 = Finset.univ := by
  ext x; simp only [mem_iR, Finset.mem_univ, iff_true]
  have h0 : (x 0).val < 4 := (x 0).isLt
  have h1 : (x 1).val < 16384 := (x 1).isLt
  omega
theorem oR_all : oR 0 65536 = Finset.univ := by
  ext x; simp only [mem_oR, Finset.mem_univ, iff_true]
  have h0 : (x 0).val < 65536 := (x 0).isLt
  omega

/-! ## The windows -/

/-- Step `s`'s words, as the kernel slices them, and its rows of the result. -/
abbrev wI (off : Fin 2 → ℕ) (p : ∀ a, off a + S1x128.size a ≤ S4x16384.size a) : Memref sig .scVector .hbm S1x128 .i32 :=
  (aV).slice (Rect.unit (s := S4x16384) off S1x128.size p) (fun _ => rfl)
abbrev wO (off : Fin 3 → ℕ) (p : ∀ a, off a + S128x2x128.size a ≤ S65536x2x128.size a) : Memref sig .scVector .hbm S128x2x128 .i32 :=
  (oV).slice (Rect.unit (s := S65536x2x128) off S128x2x128.size p) (fun _ => rfl)
/-- A slot of a staging buffer, squeezed; and the index slot as the list the stream reads. -/
abbrev wS (off : Fin 3 → ℕ) (p : ∀ a, off a + S1x1x128.size a ≤ S2x1x128.size a) : Memref sig .scVector .vmem S1x128 .i32 :=
  ((sV).slice (Rect.unit (s := S2x1x128) off S1x1x128.size p) (fun _ => rfl)).squeeze S1x128 squeezes_S1x1x128_S1x128
abbrev wL (off : Fin 3 → ℕ) (p : ∀ a, off a + S1x1x128.size a ≤ S2x1x128.size a) : Memref sig .scVector .vmem S128 .i32 :=
  ((wS off p).slice (Rect.unit (s := S1x128) ![0, 0] S1x128.size inb_S1x128_S1x128_0_0) (fun _ => rfl)).squeeze S128 squeezes_S1x128_S128
abbrev wR (off : Fin 4 → ℕ) (p : ∀ a, off a + S1x128x2x128.size a ≤ S2x128x2x128.size a) : Memref sig .scVector .vmem S128x2x128 .i32 :=
  ((rV).slice (Rect.unit (s := S2x128x2x128) off S1x128x2x128.size p) (fun _ => rfl)).squeeze S128x2x128 squeezes_S1x128x2x128_S128x2x128
/-- The whole table, as the stream reads it. -/
abbrev wT : Memref sig .scVector .hbm S98304x2x128 .i32 :=
  (tV).slice (Rect.unit (s := S98304x2x128) ![0, 0, 0] S98304x2x128.size inb_S98304x2x128_S98304x2x128_0_0_0) (fun _ => rfl)

theorem set_wI {off : Fin 2 → ℕ} (p) {s : ℕ} (h : off = ![s / 128, s % 128 * 128]) : (wI off p).view.set = iR (128 * s) (128 * s + 128) := by
  subst h
  show ((View.whole main_arg1_scv).slice _).set = _
  rw [View.set_slice_whole]
  ext x
  rw [Rect.mem_set_unit, mem_iR]
  have h1 : (x 1).val < 16384 := (x 1).isLt
  constructor
  · intro h
    have a := h 0; have b := h 1
    simp at a b
    omega
  · intro h a
    match a with
    | 0 => simp; omega
    | 1 => simp; omega

theorem set_wO {off : Fin 3 → ℕ} (p) {s : ℕ} (h : off = ![128 * s, 0, 0]) : (wO off p).view.set = oR (128 * s) (128 * s + 128) := by
  subst h
  show ((View.whole main_v1_scv).slice _).set = _
  rw [View.set_slice_whole]
  ext x
  rw [Rect.mem_set_unit, mem_oR]
  have h1 : (x 1).val < 2 := (x 1).isLt
  have h2 : (x 2).val < 128 := (x 2).isLt
  constructor
  · intro h
    have a := h 0
    simpa using a
  · intro h a
    match a with
    | 0 => simpa using h
    | 1 => simpa using h1
    | 2 => simpa using h2

theorem set_wS {off : Fin 3 → ℕ} (p) {b : ℕ} (h : off = ![b, 0, 0]) : (wS off p).view.set = sI b := by
  subst h
  refine (View.set_reshape _ _).trans ?_
  show ((View.whole cc0_scoped0).slice _).set = _
  rw [View.set_slice_whole]
  ext x
  rw [Rect.mem_set_unit, mem_sI]
  have h1 : (x 1).val < 1 := (x 1).isLt
  have h2 : (x 2).val < 128 := (x 2).isLt
  constructor
  · intro h
    have a := h 0
    simp at a; omega
  · intro h a
    match a with
    | 0 => simp; omega
    | 1 => simpa using h1
    | 2 => simpa using h2

theorem set_wR {off : Fin 4 → ℕ} (p) {b : ℕ} (h : off = ![b, 0, 0, 0]) : (wR off p).view.set = sO b := by
  subst h
  refine (View.set_reshape _ _).trans ?_
  show ((View.whole cc0_scoped2).slice _).set = _
  rw [View.set_slice_whole]
  ext x
  rw [Rect.mem_set_unit, mem_sO]
  have h1 : (x 1).val < 128 := (x 1).isLt
  have h2 : (x 2).val < 2 := (x 2).isLt
  have h3 : (x 3).val < 128 := (x 3).isLt
  constructor
  · intro h
    have a := h 0
    simp at a; omega
  · intro h a
    match a with
    | 0 => simp; omega
    | 1 => simpa using h1
    | 2 => simpa using h2
    | 3 => simpa using h3

theorem set_wL {off : Fin 3 → ℕ} (p) : (wL off p).view.set = (wS off p).view.set := by
  show (((wS off p).view.slice (Rect.unit (s := S1x128) ![0, 0] S1x128.size inb_S1x128_S1x128_0_0)).reshape S128 squeezes_S1x128_S128.numel_eq).set = _
  rw [View.set_reshape, View.set_slice]
  rw [show (Rect.unit (s := S1x128) ![0, 0] S1x128.size inb_S1x128_S1x128_0_0).set = Finset.univ from by
    ext x; simp only [Finset.mem_univ, iff_true]; exact View.mem_set_unit_zero (by funext a; fin_cases a <;> rfl) _ x]
  rfl

theorem set_wT : (wT).view.set = Finset.univ := by
  show ((View.whole main_v0_scv).slice _).set = _
  rw [View.set_slice_whole]
  ext x; simp only [Finset.mem_univ, iff_true]; exact View.mem_set_unit_zero (by funext a; fin_cases a <;> rfl) _ x

/-! ## Where a window's elements sit -/

theorem emb_wI {off : Fin 2 → ℕ} (p) {s : ℕ} (hs : s < 512) (h : off = ![s / 128, s % 128 * 128]) (j : S1x128.Idx) :
    (wI off p).view.emb j = pos (128 * s + (j 1).val) := by
  subst h
  have h0 : (j 0).val < 1 := (j 0).isLt
  have h1 : (j 1).val < 128 := (j 1).isLt
  funext a
  apply Fin.ext
  show ((Rect.unit (s := S4x16384) ![s / 128, s % 128 * 128] S1x128.size p).emb j a : ℕ) = _
  rw [Rect.emb_apply]
  match a with
  | 0 =>
    show s / 128 + 1 * (j 0).val = (128 * s + (j 1).val) / 16384 % 4
    omega
  | 1 =>
    show s % 128 * 128 + 1 * (j 1).val = (128 * s + (j 1).val) % 16384
    omega

theorem emb_wS {off : Fin 3 → ℕ} (p) {b : ℕ} (h : off = ![b, 0, 0]) (j : S1x128.Idx) :
    ((wS off p).view.emb j 0).val = b ∧ ((wS off p).view.emb j 2).val = (j 1).val := by
  subst h
  have e : ∀ a, ((wS ![b, 0, 0] p).view.emb j a).val = ((Rect.unit (s := S2x1x128) ![b, 0, 0] S1x1x128.size p).emb
      (Shape.reshapeEquiv squeezes_S1x1x128_S1x128.numel_eq j) a : ℕ) := fun a => rfl
  have r := Shape.reshapeEquiv_cons_one (d := ![1, 128]) squeezes_S1x1x128_S1x128.numel_eq j
  constructor
  · rw [e, Rect.emb_apply, r]; simp; rfl
  · rw [e, Rect.emb_apply, r]; simp; rfl

theorem emb_wR {off : Fin 4 → ℕ} (p) {b : ℕ} (h : off = ![b, 0, 0, 0]) (j : S128x2x128.Idx) :
    ((wR off p).view.emb j 0).val = b ∧ (wR off p).view.emb j 1 = j 0 ∧ (wR off p).view.emb j 2 = j 1 ∧ (wR off p).view.emb j 3 = j 2 := by
  subst h
  have e : ∀ a, ((wR ![b, 0, 0, 0] p).view.emb j a).val = ((Rect.unit (s := S2x128x2x128) ![b, 0, 0, 0] S1x128x2x128.size p).emb
      (Shape.reshapeEquiv squeezes_S1x128x2x128_S128x2x128.numel_eq j) a : ℕ) := fun a => rfl
  have r := Shape.reshapeEquiv_cons_one (d := ![128, 2, 128]) squeezes_S1x128x2x128_S128x2x128.numel_eq j
  refine ⟨?_, Fin.ext ?_, Fin.ext ?_, Fin.ext ?_⟩
  · rw [e, Rect.emb_apply, r]; simp; rfl
  · rw [e, Rect.emb_apply, r]; simp; rfl
  · rw [e, Rect.emb_apply, r]; simp; rfl
  · rw [e, Rect.emb_apply, r]; simp; rfl

theorem emb_wO {off : Fin 3 → ℕ} (p) {s : ℕ} (h : off = ![128 * s, 0, 0]) (j : S128x2x128.Idx) :
    ((wO off p).view.emb j 0).val = 128 * s + (j 0).val ∧ (wO off p).view.emb j 1 = j 1 ∧ (wO off p).view.emb j 2 = j 2 := by
  subst h
  have e : ∀ a, ((wO ![128 * s, 0, 0] p).view.emb j a).val = ((Rect.unit (s := S65536x2x128) ![128 * s, 0, 0] S128x2x128.size p).emb j a : ℕ) :=
    fun a => rfl
  refine ⟨?_, Fin.ext ?_, Fin.ext ?_⟩
  · rw [e, Rect.emb_apply]; simp
  · rw [e, Rect.emb_apply]; simp
  · rw [e, Rect.emb_apply]; simp

theorem emb_wL {off : Fin 3 → ℕ} (p) {b : ℕ} (h : off = ![b, 0, 0]) (j : S128.Idx) :
    ((wL off p).view.emb j 0).val = b ∧ ((wL off p).view.emb j 2).val = (j 0).val := by
  have r := Shape.reshapeEquiv_cons_one (d := ![128]) squeezes_S1x128_S128.numel_eq j
  have e : (wL off p).view.emb j = (wS off p).view.emb ((Rect.unit (s := S1x128) ![0, 0] S1x128.size inb_S1x128_S1x128_0_0).emb
      (Shape.reshapeEquiv squeezes_S1x128_S128.numel_eq j)) := rfl
  have q := emb_wS p h ((Rect.unit (s := S1x128) ![0, 0] S1x128.size inb_S1x128_S1x128_0_0).emb
      (Shape.reshapeEquiv squeezes_S1x128_S128.numel_eq j))
  rw [e]
  refine ⟨q.1, q.2.trans ?_⟩
  rw [Rect.emb_apply, r]; simp; rfl

theorem emb_wT (j : S98304x2x128.Idx) : (wT).view.emb j = j := by
  funext a
  apply Fin.ext
  show ((Rect.unit (s := S98304x2x128) ![0, 0, 0] S98304x2x128.size inb_S98304x2x128_S98304x2x128_0_0_0).emb j a : ℕ) = _
  rw [Rect.emb_apply]
  match a with
  | 0 => simp
  | 1 => simp
  | 2 => simp

/-! ## What the transfers leave -/

/-- Slot `b` of the index staging holds step `s`'s words. -/
def Staged (ix : S4x16384.Idx → Elt F .i32) (s b : ℕ) (f : S2x1x128.Idx → Elt F .i32) : Prop :=
  ∀ x ∈ sI b, f x = ix (pos (128 * s + (x 2).val))

/-- Slot `b` of the row staging holds the rows step `s`'s words name. -/
def Rowed (t : S98304x2x128.Idx → Elt F .i32) (ix : S4x16384.Idx → Elt F .i32) (s b : ℕ) (f : S2x128x2x128.Idx → Elt F .i32) : Prop :=
  ∀ x ∈ sO b, f x = rowAt t (ix (pos (128 * s + (x 1).val))) (x 2) (x 3)

theorem staged_write (ix : S4x16384.Idx → Elt F .i32) {off : Fin 3 → ℕ} {off' : Fin 2 → ℕ} (p) (p') {s b : ℕ} (hs : s < 512)
    (h : off = ![b, 0, 0]) (h' : off' = ![s / 128, s % 128 * 128]) (f : S2x1x128.Idx → Elt F .i32) :
    Staged ix s b ((wS off p).view.write (Elt F) f ((wI off' p').view.read (Elt F) ix) Finset.univ) := by
  intro x hx
  rw [← set_wS p h] at hx
  obtain ⟨j, rfl⟩ := View.exists_emb_of_mem_set (wS off p).view hx
  rw [View.write_emb_of_mem _ _ (Finset.mem_univ j), View.read_apply, emb_wI p' hs h', cast_cast, cast_eq, (emb_wS p h j).2]

theorem read_wL (ix : S4x16384.Idx → Elt F .i32) {off : Fin 3 → ℕ} (p) {s b : ℕ} (h : off = ![b, 0, 0]) (f : S2x1x128.Idx → Elt F .i32)
    (hf : Staged ix s b f) (j : S128.Idx) : (wL off p).view.read (Elt F) f j = ix (pos (128 * s + (j 0).val)) := by
  rw [View.read_apply, cast_eq, ← (emb_wL p h j).2]
  exact hf _ (mem_sI.mpr (emb_wL p h j).1)

theorem rowed_write (t : S98304x2x128.Idx → Elt F .i32) (ix : S4x16384.Idx → Elt F .i32) {off : Fin 4 → ℕ} {off' : Fin 3 → ℕ} (p) (p')
    {s b : ℕ} (h : off = ![b, 0, 0, 0]) (h' : off' = ![b, 0, 0]) (fo : S2x1x128.Idx → Elt F .i32) (hfo : Staged ix s b fo)
    (hn : S128.numel = S128x2x128.size gathers_S98304x2x128_S128x2x128.axis')
    (hin : ∀ x, ((wL off' p').view.read (Elt F) fo x).toNat < S98304x2x128.size gathers_S98304x2x128_S128x2x128.axis)
    (fd : S2x128x2x128.Idx → Elt F .i32) :
    Rowed t ix s b ((wR off p).view.write (Elt F) fd (SparseCore.gatherPayload gathers_S98304x2x128_S128x2x128 ((wT).view.read (Elt F) t)
      (SparseCore.rows ((wL off' p').view.read (Elt F) fo) hn hin)) Finset.univ) := by
  intro x hx
  rw [← set_wR p h] at hx
  obtain ⟨j, rfl⟩ := View.exists_emb_of_mem_set (wR off p).view hx
  obtain ⟨-, e1, e2, e3⟩ := emb_wR p h j
  rw [View.write_emb_of_mem _ _ (Finset.mem_univ j), cast_eq, e1, e2, e3]
  unfold SparseCore.gatherPayload rowAt
  rw [View.read_apply, cast_eq, emb_wT]
  congr 1
  funext a
  match a with
  | 0 =>
    refine (Shape.Gathers.idx_axis gathers_S98304x2x128_S128x2x128 _ j).trans (Fin.ext ?_)
    unfold SparseCore.rows
    have e : ∀ q : Fin S128.numel, ((S128.rowMajor.symm q) 0).val = q.val := fun q => by
      rw [← Shape.rowMajor_val_one (S128.rowMajor.symm q)]; simp
    simp only [read_wL ix p' h' fo hfo]
    rw [e]
    have hb := hin (S128.rowMajor.symm ((j gathers_S98304x2x128_S128x2x128.axis').cast hn.symm))
    rw [read_wL ix p' h' fo hfo, e] at hb
    exact (Nat.mod_eq_of_lt hb).symm
  | 1 => exact Fin.ext (Shape.Gathers.idx_of_ne gathers_S98304x2x128_S128x2x128 _ j 1 (by decide))
  | 2 => exact Fin.ext (Shape.Gathers.idx_of_ne gathers_S98304x2x128_S128x2x128 _ j 2 (by decide))

theorem target_write (t : S98304x2x128.Idx → Elt F .i32) (ix : S4x16384.Idx → Elt F .i32) {off : Fin 3 → ℕ} {off' : Fin 4 → ℕ} (p) (p')
    {s b : ℕ} (h : off = ![128 * s, 0, 0]) (h' : off' = ![b, 0, 0, 0]) (f : S2x128x2x128.Idx → Elt F .i32) (hf : Rowed t ix s b f)
    (fd : S65536x2x128.Idx → Elt F .i32) :
    ∀ x ∈ oR (128 * s) (128 * s + 128), (wO off p).view.write (Elt F) fd ((wR off' p').view.read (Elt F) f) Finset.univ x = target t ix x := by
  intro x hx
  rw [← set_wO p h] at hx
  obtain ⟨j, rfl⟩ := View.exists_emb_of_mem_set (wO off p).view hx
  obtain ⟨e0, e1, e2⟩ := emb_wO p h j
  obtain ⟨r0, r1, r2, r3⟩ := emb_wR p' h' j
  rw [View.write_emb_of_mem _ _ (Finset.mem_univ j), View.read_apply, cast_cast, cast_eq, hf _ (mem_sO.mpr r0)]
  unfold target
  rw [e0, e1, e2, r1, r2, r3]

end Cert.Proof.Gather

end
-- ==== Proof.Steps.lean ====
/-
  One subcore's transfers. Each of the five the loop makes — fetch a step's words, wait for them, gather the rows they
  name, send the rows out, wait for that — takes the elements it names and its semaphore's counter at zero, and gives
  them back with what they then hold.
-/
module

public import proofs.«01_k».proof.Defs
public import proofs.«01_k».proof.Proof.Geom
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Locations -/

abbrev bLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
abbrev sLoc (d : Dev nD) (L : grid0.Coords) : Loc nD τ sig := (thr d L).loc cc0_scoped0
abbrev rLoc (d : Dev nD) (L : grid0.Coords) : Loc nD τ sig := (thr d L).loc cc0_scoped2

/-! ## Semaphores -/

def ix2S (b : ℕ) : S2.Idx := fun a => match a with | 0 => ⟨b % 2, Nat.mod_lt _ (by decide)⟩
/-- The semaphore of slot `b` of the index staging, and of the row staging. -/
abbrev semI (b : ℕ) : DmaSem sig := cc0_scoped1.ix (ix2S b)
abbrev semO (b : ℕ) : DmaSem sig := cc0_scoped3.ix (ix2S b)
abbrev semG : DmaSem sig := cc0_scoped4.sem

theorem sem_slot (A : DmaSems sig S2) {off : Fin 1 → ℕ} (p : ∀ a, off a + S1.size a ≤ S2.size a) {b : ℕ} (h : off = ![b]) :
    ((A.slice (Rect.unit (s := S2) off S1.size p)).squeeze S_ squeezes_S1_S_).sem = A.ix (ix2S b) := by
  subst h
  have hb : b < 2 := by have := p 0; simp at this; omega
  show A.ix ((Rect.unit (s := S2) ![b] S1.size p).emb _) = _
  congr 1
  funext a
  apply Fin.ext
  rw [Rect.emb_apply]
  match a with
  | 0 =>
    have hj : ∀ x : Fin (S1.size 0), x.val = 0 := fun x => by have : x.val < 1 := x.isLt; omega
    show b + 1 * _ = b % 2
    rw [hj]
    omega

/-! ## The transfers -/

section Steps

variable [FloatOps F] (d : Dev nD) (L : grid0.Coords)

abbrev NI : ℕ := (wS ![0, 0, 0] (by decide)).view.dmaCredit
abbrev NO : ℕ := (wO ![0, 0, 0] (by decide)).view.dmaCredit
abbrev NG : ℕ := (wR ![0, 0, 0, 0] (by decide)).view.dmaCredit

/-- Step `s`'s words, of the row numbers. -/
abbrev aBlk (ix : Buf (Elt F) (aLoc d)) (s : ℕ) : sProp 𝕄 := aLoc d ↦[iR (128 * s) (128 * s + 128)]{fullShare} ix
/-- Slot `b` of the index staging, holding step `s`'s words. -/
abbrev staged (ix : Buf (Elt F) (aLoc d)) (s b : ℕ) : sProp 𝕄 := iprop(∃ f, ⌜Staged (F := F) ix s b f⌝ ∗ sLoc d L ↦[sI b]{fullShare} f)
abbrev freeI (b : ℕ) : sProp 𝕄 := iprop(∃ f, sLoc d L ↦[sI b]{fullShare} f)
abbrev freeO (b : ℕ) : sProp 𝕄 := iprop(∃ f, rLoc d L ↦[sO b]{fullShare} f)
/-- Slot `b` of the row staging, holding step `s`'s rows. -/
abbrev rowed (t : Buf (Elt F) (tLoc d)) (ix : Buf (Elt F) (aLoc d)) (s b : ℕ) : sProp 𝕄 :=
  iprop(∃ f, ⌜Rowed (F := F) t ix s b f⌝ ∗ rLoc d L ↦[sO b]{fullShare} f)
/-- Step `s`'s rows of the result, at `g`. -/
abbrev oBlk (g : Buf (Elt F) (oLoc d)) (s : ℕ) : sProp 𝕄 := oLoc d ↦[oR (128 * s) (128 * s + 128)]{fullShare} g
/-- The fetch of step `s`'s words into slot `b`, in flight. -/
abbrev FlI (ix : Buf (Elt F) (aLoc d)) (s b : ℕ) : sProp 𝕄 :=
  Transfers.Flight countersEmb (thr d L) (.dma (semI b)) (default : HIx 1) NI iprop(staged d L ix s b ∗ aBlk d ix s)
/-- The send of step `s`'s rows out of slot `b`, in flight. -/
abbrev FlO (g : Buf (Elt F) (oLoc d)) (s b : ℕ) : sProp 𝕄 :=
  Transfers.Flight countersEmb (thr d L) (.dma (semO b)) (default : HIx 1) NO iprop(oBlk d g s ∗ freeO d L b)

/-- What one subcore owes across its task: a set of recorded waits, each one of `W` or of a transfer. -/
abbrev owing (O : CellTallies nD τ sig (HIx 1)) (W : Waits sig (HIx 1)) : sProp 𝕄 :=
  iprop(∃ W', ⌜∀ p ∈ W', p ∈ W ∨ p.2 = none⌝ ∗ owes (thr d L) O W')

theorem enqI (ix : Buf (Elt F) (aLoc d)) {s b : ℕ} (hs : s < 512) {off : Fin 3 → ℕ} {off' : Fin 2 → ℕ} (p) (p')
    (h : off = ![b, 0, 0]) (h' : off' = ![s / 128, s % 128 * 128]) {sm : DmaSem sig} (hsm : sm = semI b) {hsrc hdst hsem} {Q : PUnit → sProp 𝕄} :
    iprop(aBlk d ix s ∗ freeI d L b ∗ semVal (thr d L, .dma (semI b)) 0)
      ⊢ iprop((FlI d L ix s b -∗ Q ⟨⟩) -∗ wp frame (wpE (defs₀ (F := F)) 𝒱₀ (thr d L) none) Set.univ
          (Prog.lift (.enqueueDma (wI off' p') (.here (wS off p)) (.dma sm) hsrc hdst hsem)) Q) := by
  subst hsm
  iintro ⟨Ha, ⟨%f, Hs⟩, Hv⟩ Hk
  ihave Ha' := (Entails.of_eq (show (aBlk d ix s : sProp 𝕄) = ((wI off' p').view.loc (thr d L) ↦[(wI off' p').view.set]{fullShare} ix) by
    rw [set_wI p' h'])) $$ Ha
  ihave Hs' := (Entails.of_eq (show (sLoc d L ↦[sI b]{fullShare} f : sProp 𝕄) = ((wS off p).view.loc (thr d L) ↦[sI b]{fullShare} f) from rfl)) $$ Hs
  iapply (Transfers.wp_dmaLocal countersEmb 𝒱₀ (thr d L) none (default : HIx 1) NI rfl (by decide) (le_of_eq (set_wS p h))) $$ [Ha' Hs' Hv]
  · isplitl [Ha']; · iexact Ha'
    isplitl [Hs']; · iexact Hs'
    iexact Hv
  iintro Hfl
  rw [wp_ret]
  imodintro
  iapply Hk
  iapply (Transfers.Flight_mono ?_) $$ Hfl
  iintro ⟨Hs, Ha⟩
  isplitl [Hs]
  · iexists _
    isplitr
    · ipureintro; exact staged_write (F := F) ix p p' hs h h' f
    · iexact Hs
  · iapply (Entails.of_eq (show ((wI off' p').view.loc (thr d L) ↦[(wI off' p').view.set]{fullShare} ix : sProp 𝕄) = (aBlk d ix s : sProp 𝕄) by
      rw [set_wI p' h'])) $$ Ha

omit [FloatOps F] in
theorem owing_step {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact h p hp

/-- A wait for a transfer in flight on a semaphore: what it delivers, and the counter back at zero. -/
theorem waitD {O : CellTallies nD τ sig (HIx 1)} {W : Waits sig (HIx 1)} {N : ℕ} {Dl : sProp 𝕄} {sp sp' : Space} {sh sh' : Shape} {el el' : EltTy}
    {srcw : Memref sig (thr d L).2.kind sp' sh' el'} {dstw : Memref sig (thr d L).2.kind sp sh el} {hsrc : srcw.view.WordExact} {hdst : dstw.view.WordExact}
    (hN : dstw.view.dmaCredit = N) {sm sm' : DmaSem sig} (hsm : sm = sm') {Q : PUnit → sProp 𝕄} :
    iprop(Transfers.MayWaits (thr d L) (default : HIx 1) O ∗ Transfers.Flight countersEmb (thr d L) (.dma sm') (default : HIx 1) N Dl ∗ owing d L O W)
      ⊢ iprop((iprop(Dl ∗ semVal (thr d L, .dma sm') 0 ∗ owing d L O W) -∗ Q ⟨⟩) -∗ wp frame (wpE (defs₀ (F := F)) 𝒱₀ (thr d L) none) Set.univ
          (Prog.lift (.waitDma2 sm srcw dstw hsrc hdst)) Q) := by
  subst hsm
  iintro ⟨Hmw, Hfl, %W', %hW', HO⟩ Hk
  iapply (Transfers.wp_waitLocalO countersEmb 𝒱₀ (thr d L) none (default : HIx 1) hN) $$ [Hmw Hfl HO]
  · isplitl [Hfl]; · iexact Hfl
    isplitl [HO]; · iexact HO
    iapply (Transfers.MayWaits.elim (SemLoc.dma sm)) $$ Hmw
  iintro ⟨HD, Hv, HO⟩
  rw [wp_ret]
  imodintro
  iapply Hk
  isplitl [HD]; · iexact HD
  isplitl [Hv]; · iexact Hv
  iexists _
  isplitr
  · ipureintro; exact owing_step hW' (SemLoc.dma sm)
  · iexact HO

/-- The gather of step `s`'s rows, in flight. -/
abbrev FlG (t : Buf (Elt F) (tLoc d)) (ix : Buf (Elt F) (aLoc d)) (q : PosShare TreeShare) (s b : ℕ) : sProp 𝕄 :=
  Transfers.Flight countersEmb (thr d L) (.dma semG) (default : HIx 1) NG
    iprop(rowed d L t ix s b ∗ (tLoc d ↦{q} t) ∗ freeI d L b)

theorem enqG (t : Buf (Elt F) (tLoc d)) (ix : Buf (Elt F) (aLoc d)) (hix : ∀ j : S4x16384.Idx, (show BitVec 32 from ix j).toNat < 98304)
    (q : PosShare TreeShare) {s b : ℕ} {off : Fin 4 → ℕ} {off' : Fin 3 → ℕ} (p) (p')
    (h : off = ![b, 0, 0, 0]) (h' : off' = ![b, 0, 0]) {hp hn hsrc he hsp hr} {Q : PUnit → sProp 𝕄} :
    iprop((tLoc d ↦{q} t) ∗ staged d L ix s b ∗ freeO d L b ∗ semVal (thr d L, .dma semG) 0)
      ⊢ iprop((FlG d L t ix q s b -∗ Q ⟨⟩) -∗ wp frame (wpE (defs₀ (F := F)) 𝒱₀ (thr d L) none) Set.univ
          (SparseCore.enqueueIndirectGather hp wT (wR off p) gathers_S98304x2x128_S128x2x128 (wL off' p') hn semG hsrc he hsp hr) Q) := by
  iintro ⟨Ht, ⟨%fo, %hfo, Hs⟩, ⟨%fd, Hr⟩, Hv⟩ Hk
  have hN : ∀ h : S98304x2x128.Gathers 0 S128x2x128, ∑ j, ((wR off p).slice (S128x2x128.rowRect h.axis' j) (S128x2x128.stride_rowRect h.axis' j)).view.dmaCredit
      = NG := fun h => SparseCore.sum_rowCredit_eq_dmaCredit (wR off p) h.axis' (fun _ => rfl)
  have hin : ∀ x, ((wL off' p').view.read (Elt F) fo x).toNat < S98304x2x128.size gathers_S98304x2x128_S128x2x128.axis := fun x => by
    rw [read_wL (F := F) ix p' h' fo hfo]; exact hix _
  have hLs : (wL off' p').view.set = sI b := (set_wL p').trans (set_wS p' h')
  ihave Ht' := (Entails.of_eq (show (tLoc d ↦{q} t : sProp 𝕄) = ((wT).view.loc (thr d L) ↦[(wT).view.set]{q} t) by rw [set_wT])) $$ Ht
  ihave Hs' := (Entails.of_eq (show (sLoc d L ↦[sI b]{fullShare} fo : sProp 𝕄) = ((wL off' p').view.loc (thr d L) ↦[(wL off' p').view.set]{fullShare} fo) by
    rw [hLs])) $$ Hs
  ihave Hr' := (Entails.of_eq (show (rLoc d L ↦[sO b]{fullShare} fd : sProp 𝕄) = ((wR off p).view.loc (thr d L) ↦[(wR off p).view.set]{fullShare} fd) by
    rw [set_wR p h])) $$ Hr
  rw [← bind_pure (SparseCore.enqueueIndirectGather _ _ _ _ _ _ _ _ _ _ _)]
  iapply (SparseCore.wp_indirectGatherLocal countersEmb 𝒱₀ (thr d L) none (hg := gathers_S98304x2x128_S128x2x128) (default : HIx 1) NG (hN _) (by decide) hin) $$ [Ht' Hr' Hs' Hv]
  · isplitl [Ht']; · iexact Ht'
    isplitl [Hr']; · iexact Hr'
    isplitl [Hs']; · iexact Hs'
    iexact Hv
  iintro Hfl
  rw [wp_pure]
  imodintro
  iapply Hk
  iapply (Transfers.Flight_mono ?_) $$ Hfl
  iintro ⟨Hr, Ht, Hs⟩
  isplitl [Hr]
  · iexists _
    isplitr
    · ipureintro; exact rowed_write (F := F) t ix p p' h h' fo hfo hn hin fd
    · iapply (Entails.of_eq (show ((wR off p).view.loc (thr d L) ↦[(wR off p).view.set]{fullShare} _ : sProp 𝕄) = (rLoc d L ↦[sO b]{fullShare} _) by
        rw [set_wR p h])) $$ Hr
  isplitl [Ht]
  · iapply (Entails.of_eq (show ((wT).view.loc (thr d L) ↦[(wT).view.set]{q} t : sProp 𝕄) = (tLoc d ↦{q} t) by rw [set_wT])) $$ Ht
  · iexists _
    iapply (Entails.of_eq (show ((wL off' p').view.loc (thr d L) ↦[(wL off' p').view.set]{fullShare} fo : sProp 𝕄) = (sLoc d L ↦[sI b]{fullShare} fo) by
      rw [hLs])) $$ Hs

theorem enqO (t : Buf (Elt F) (tLoc d)) (ix : Buf (Elt F) (aLoc d)) {s b : ℕ} {off : Fin 3 → ℕ} {off' : Fin 4 → ℕ} (p) (p')
    (h : off = ![128 * s, 0, 0]) (h' : off' = ![b, 0, 0, 0]) {sm : DmaSem sig} (hsm : sm = semO b) {hsrc hdst hsem}
    (g : Buf (Elt F) (oLoc d)) {Q : PUnit → sProp 𝕄} :
    iprop(rowed d L t ix s b ∗ oBlk d g s ∗ semVal (thr d L, .dma (semO b)) 0)
      ⊢ iprop((FlO d L (target (F := F) t ix) s b -∗ Q ⟨⟩) -∗ wp frame (wpE (defs₀ (F := F)) 𝒱₀ (thr d L) none) Set.univ
          (Prog.lift (.enqueueDma (wR off' p') (.here (wO off p)) (.dma sm) hsrc hdst hsem)) Q) := by
  subst hsm
  iintro ⟨⟨%f, %hf, Hr⟩, Ho, Hv⟩ Hk
  ihave Hr' := (Entails.of_eq (show (rLoc d L ↦[sO b]{fullShare} f : sProp 𝕄) = ((wR off' p').view.loc (thr d L) ↦[(wR off' p').view.set]{fullShare} f) by
    rw [set_wR p' h'])) $$ Hr
  ihave Ho' := (Entails.of_eq (show (oBlk d g s : sProp 𝕄) = ((wO off p).view.loc (thr d L) ↦[oR (128 * s) (128 * s + 128)]{fullShare} g) from rfl)) $$ Ho
  iapply (Transfers.wp_dmaLocal countersEmb 𝒱₀ (thr d L) none (default : HIx 1) NO rfl (by decide) (le_of_eq (set_wO p h))) $$ [Hr' Ho' Hv]
  · isplitl [Hr']; · iexact Hr'
    isplitl [Ho']; · iexact Ho'
    iexact Hv
  iintro Hfl
  rw [wp_ret]
  imodintro
  iapply Hk
  iapply (Transfers.Flight_mono ?_) $$ Hfl
  iintro ⟨Ho, Hr⟩
  isplitl [Ho]
  · iapply (Entails.of_eq (pointsTo_congr (ℓ := oLoc d) (q := fullShare) (target_write (F := F) t ix p p' h h' f hf g))) $$ Ho
  · iexists f
    iapply (Entails.of_eq (show ((wR off' p').view.loc (thr d L) ↦[(wR off' p').view.set]{fullShare} f : sProp 𝕄) = (rLoc d L ↦[sO b]{fullShare} f) by
      rw [set_wR p' h'])) $$ Hr

end Steps

end Cert.Proof.Gather

end
-- ==== Proof.Tile.lean ====
/-
  One subcore's task. Its sixteen trips, each of which fetches the next step's words while it gathers this step's rows
  and sends them out while the last step's are still on their way, keep one invariant; after the last send is waited
  for, the subcore's 2048 rows of the result hold the rows of the table its words name.
-/
module

public import proofs.«01_k».proof.Proof.Steps
public import proofs.«01_k».proof.Proof.Words

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (L : grid0.Coords)

local notation "𝕄" => MT nD τ sig (HIx 1) (Elt F) ℕ UU ℕ

/-! ## What a subcore holds -/

/-- Its rows of the result from step `a` to before step `b`, at `g`; its words likewise. -/
abbrev oSpan (g : Buf (Elt F) (oLoc d)) (a b : ℕ) : sProp 𝕄 := oLoc d ↦[oR (128 * step L a) (128 * step L b)]{fullShare} g
abbrev aSpan (ix : Buf (Elt F) (aLoc d)) (a b : ℕ) : sProp 𝕄 := aLoc d ↦[iR (128 * step L a) (128 * step L b)]{fullShare} ix
/-- The counter of a staging slot's semaphore, at zero. -/
abbrev zI (b : ℕ) : sProp 𝕄 := semVal (thr d L, .dma (semI b)) 0
abbrev zO (b : ℕ) : sProp 𝕄 := semVal (thr d L, .dma (semO b)) 0
/-- Step `k`'s words on their way into their slot; past the last step, the slot free. -/
def fetched (ix : Buf (Elt F) (aLoc d)) (k : ℕ) : sProp 𝕄 :=
  if k < 16 then FlI d L ix (step L k) (k % 2) else iprop(freeI d L (k % 2) ∗ zI d L (k % 2))
/-- The rows of the step before `k` on their way out of their slot; before the first step, the slot free. -/
def sent (g : Buf (Elt F) (oLoc d)) (k : ℕ) : sProp 𝕄 :=
  if 0 < k then FlO d L g (step L (k - 1)) ((k - 1) % 2) else iprop(freeO d L ((k + 1) % 2) ∗ zO d L ((k + 1) % 2))

/-- What holds at the start of trip `k`. -/
def Inv (t : Buf (Elt F) (tLoc d)) (ix : Buf (Elt F) (aLoc d)) (g : Buf (Elt F) (oLoc d)) (q : PosShare TreeShare)
    (O : CellTallies nD τ sig (HIx 1)) (W : Waits sig (HIx 1)) (k : ℕ) (w : BitVec 32 × BitVec 32 × BitVec 32 × BitVec 32 × BitVec 32) : sProp 𝕄 :=
  iprop(⌜w = (w6 k, w7 k, w7 k, w9 k, w10 k)⌝ ∗ fetched d L ix k ∗ (freeI d L ((k + 1) % 2) ∗ zI d L ((k + 1) % 2))
    ∗ sent d L (target (F := F) t ix) k ∗ (freeO d L (k % 2) ∗ zO d L (k % 2))
    ∗ (aSpan d L ix 0 k ∗ aSpan d L ix (min 16 (k + 1)) 16)
    ∗ (oSpan d L (target (F := F) t ix) 0 (k - 1) ∗ oSpan d L g k 16)
    ∗ (tLoc d ↦{q} t) ∗ semVal (thr d L, .dma semG) 0 ∗ Transfers.MayWaits (thr d L) (default : HIx 1) O ∗ owing d L O W)

theorem assume_of {P : Prop} {dec : Decidable P} (h : P) {Q : PLift P → sProp 𝕄} :
    Q ⟨h⟩ ⊢ wp frame (wpE (defs₀ (F := F)) 𝒱₀ (thr d L) none) Set.univ (Prog.lift (TpuEff.assume P dec)) Q := by
  refine BIBase.Entails.trans ?_ (wp_assume 𝒱₀ (thr d L) none Set.univ h)
  rw [wp_ret]
  exact fupd_intro

/-! ## Spans of steps -/

theorem step_add (a b : ℕ) : step L (a + b) = step L a + b := by unfold step; omega

theorem oSpan_split (g : Buf (Elt F) (oLoc d)) {a b : ℕ} (h : a < b) : oSpan d L g a b ⊢ iprop(oBlk d g (step L a) ∗ oSpan d L g (a + 1) b) := by
  have h1 : 128 * step L (a + 1) = 128 * step L a + 128 := by rw [step_add, Nat.mul_add]
  have h2 : 128 * step L a + 128 ≤ 128 * step L b := by unfold step; omega
  have e : oR (128 * step L a) (128 * step L b) = oR (128 * step L a) (128 * step L a + 128) ∪ oR (128 * step L (a + 1)) (128 * step L b) := by
    rw [h1]; exact oR_union (Nat.le_add_right _ _) h2
  rw [oSpan, e]
  exact (pointsTo_union (oR_disjoint (le_of_eq h1.symm))).1

theorem oSpan_join (g : Buf (Elt F) (oLoc d)) {a b : ℕ} (h : a ≤ b) : iprop(oSpan d L g a b ∗ oBlk d g (step L b)) ⊢ oSpan d L g a (b + 1) := by
  have h1 : 128 * step L (b + 1) = 128 * step L b + 128 := by rw [step_add, Nat.mul_add]
  have h2 : 128 * step L a ≤ 128 * step L b := by unfold step; omega
  have e : oR (128 * step L a) (128 * step L (b + 1)) = oR (128 * step L a) (128 * step L b) ∪ oR (128 * step L b) (128 * step L b + 128) := by
    rw [h1]; exact oR_union h2 (Nat.le_add_right _ _)
  rw [oSpan, oSpan, e]
  exact (pointsTo_union (oR_disjoint le_rfl)).2

theorem aSpan_split (g : Buf (Elt F) (aLoc d)) {a b : ℕ} (h : a < b) : aSpan d L g a b ⊢ iprop(aBlk d g (step L a) ∗ aSpan d L g (a + 1) b) := by
  have h1 : 128 * step L (a + 1) = 128 * step L a + 128 := by rw [step_add, Nat.mul_add]
  have h2 : 128 * step L a + 128 ≤ 128 * step L b := by unfold step; omega
  have e : iR (128 * step L a) (128 * step L b) = iR (128 * step L a) (128 * step L a + 128) ∪ iR (128 * step L (a + 1)) (128 * step L b) := by
    rw [h1]; exact iR_union (Nat.le_add_right _ _) h2
  rw [aSpan, e]
  exact (pointsTo_union (iR_disjoint (le_of_eq h1.symm))).1

theorem aSpan_join (g : Buf (Elt F) (aLoc d)) {a b : ℕ} (h : a ≤ b) : iprop(aSpan d L g a b ∗ aBlk d g (step L b)) ⊢ aSpan d L g a (b + 1) := by
  have h1 : 128 * step L (b + 1) = 128 * step L b + 128 := by rw [step_add, Nat.mul_add]
  have h2 : 128 * step L a ≤ 128 * step L b := by unfold step; omega
  have e : iR (128 * step L a) (128 * step L (b + 1)) = iR (128 * step L a) (128 * step L b) ∪ iR (128 * step L b) (128 * step L b + 128) := by
    rw [h1]; exact iR_union h2 (Nat.le_add_right _ _)
  rw [aSpan, aSpan, e]
  exact (pointsTo_union (iR_disjoint le_rfl)).2

/-! ## The two transfers a trip makes or not -/

theorem fetchNext (ix : Buf (Elt F) (aLoc d)) (k : Fin k0_t1_loop.trips) {α : Type} {T : Prog (TpuEff nD τ sig (Elt F) Λ₀ (thr d L).2) α} {Q : α → sProp 𝕄}
    {p : k0_cond1 L k (w10 k) = 1#1 → ∀ a, k0_off5 L (w10 k) a + S1x128.size a ≤ S4x16384.size a}
    {p' : k0_cond1 L k (w10 k) = 1#1 → ∀ a, k0_off4 (w6 k) a + S1x1x128.size a ≤ S2x1x128.size a}
    {p'' : k0_cond1 L k (w10 k) = 1#1 → ∀ a, k0_off6 (w6 k) a + S1.size a ≤ S2.size a} :
    iprop(aSpan d L ix (min 16 (k.val + 1)) 16 ∗ freeI d L ((k.val + 1) % 2) ∗ zI d L ((k.val + 1) % 2))
      ⊢ iprop((iprop(aSpan d L ix (min 16 (k.val + 1 + 1)) 16 ∗ fetched d L ix (k.val + 1)) -∗ wp frame (wpE (defs₀ (F := F)) 𝒱₀ (thr d L) none) Set.univ T Q)
        -∗ wp frame (wpE (defs₀ (F := F)) 𝒱₀ (thr d L) none) Set.univ
          (if h : k0_cond1 L k (w10 k) = 1#1 then
            (Prog.lift (.enqueueDma (wI (k0_off5 L (w10 k)) (p h)) (.here (wS (k0_off4 (w6 k)) (p' h)))
              (.dma ((cc0_scoped1.slice (Rect.unit (s := S2) (k0_off6 (w6 k)) S1.size (p'' h))).squeeze S_ squeezes_S1_S_).sem)
              (View.wordExact_bits rfl) ((View.wordExact_bits rfl).reshape _ _) ⟨Or.inl rfl, trivial⟩)) >>= fun _ => T
          else T) Q) := by
  have hk16 : k.val < 16 := trips_eq ▸ k.isLt
  by_cases hk : k.val < 15
  · rw [dif_pos ((cond1 L k).2 hk), wp_bind, show min 16 (k.val + 1) = k.val + 1 by omega, show min 16 (k.val + 1 + 1) = k.val + 1 + 1 by omega]
    iintro ⟨Ha, Hs, Hz⟩ Hk
    ihave Ha' := (aSpan_split (F := F) d L ix (show k.val + 1 < 16 by omega)) $$ Ha
    icases Ha' with ⟨Hb, Ha⟩
    iapply (enqI (F := F) d L ix (step_lt L (show k.val + 1 < 16 by omega)) (p' ((cond1 L k).2 hk)) (p ((cond1 L k).2 hk))
      (off4 k hk) (off5 L k hk) (sem_slot cc0_scoped1 _ (off6 k hk))) $$ [Hb Hs Hz]
    · isplitl [Hb]; · iexact Hb
      isplitl [Hs]; · iexact Hs
      iexact Hz
    iintro Hf
    iapply Hk
    isplitl [Ha]; · iexact Ha
    iapply (Entails.of_eq (show (FlI d L ix (step L (k.val + 1)) ((k.val + 1) % 2) : sProp 𝕄) = fetched d L ix (k.val + 1) from (if_pos (by omega)).symm)) $$ Hf
  · rw [dif_neg (fun h => hk ((cond1 L k).1 h)), show min 16 (k.val + 1) = 16 by omega, show min 16 (k.val + 1 + 1) = 16 by omega]
    iintro ⟨Ha, Hs, Hz⟩ Hk
    iapply Hk
    isplitl [Ha]; · iexact Ha
    iapply (Entails.of_eq (show (iprop(freeI d L ((k.val + 1) % 2) ∗ zI d L ((k.val + 1) % 2)) : sProp 𝕄) = fetched d L ix (k.val + 1) from (if_neg (by omega)).symm)) $$ [Hs Hz]
    isplitl [Hs]; · iexact Hs
    iexact Hz

theorem awaitLast (g : Buf (Elt F) (oLoc d)) (O : CellTallies nD τ sig (HIx 1)) (W : Waits sig (HIx 1)) (k : Fin k0_t1_loop.trips)
    {α : Type} {T : Prog (TpuEff nD τ sig (Elt F) Λ₀ (thr d L).2) α} {Q : α → sProp 𝕄}
    {p : k0_cond7 L k (w10 k) = 1#1 → ∀ a, k0_off16 L (w10 k) a + S128x2x128.size a ≤ S65536x2x128.size a}
    {p' : k0_cond7 L k (w10 k) = 1#1 → ∀ a, k0_off15 (w9 k) a + S1x128x2x128.size a ≤ S2x128x2x128.size a}
    {p'' : k0_cond7 L k (w10 k) = 1#1 → ∀ a, k0_off17 (w9 k) a + S1.size a ≤ S2.size a} :
    iprop(Transfers.MayWaits (thr d L) (default : HIx 1) O ∗ sent d L g k.val ∗ oSpan d L g 0 (k.val - 1) ∗ owing d L O W)
      ⊢ iprop((iprop(Transfers.MayWaits (thr d L) (default : HIx 1) O ∗ freeO d L ((k.val + 1) % 2) ∗ zO d L ((k.val + 1) % 2) ∗ oSpan d L g 0 k.val ∗ owing d L O W)
          -∗ wp frame (wpE (defs₀ (F := F)) 𝒱₀ (thr d L) none) Set.univ T Q)
        -∗ wp frame (wpE (defs₀ (F := F)) 𝒱₀ (thr d L) none) Set.univ
          (if h : k0_cond7 L k (w10 k) = 1#1 then
            (Prog.lift (.waitDma2 ((cc0_scoped3.slice (Rect.unit (s := S2) (k0_off17 (w9 k)) S1.size (p'' h))).squeeze S_ squeezes_S1_S_).sem
              (wR (k0_off15 (w9 k)) (p' h)) (wO (k0_off16 L (w10 k)) (p h)) ((View.wordExact_bits rfl).reshape _ _) (View.wordExact_bits rfl))) >>= fun _ => T
          else T) Q) := by
  by_cases hk : 0 < k.val
  · rw [dif_pos ((cond7 L k).2 hk), wp_bind]
    iintro ⟨#Hmw, Hs, Ho, How⟩ Hk
    ihave Hs' := (Entails.of_eq (show (sent d L g k.val : sProp 𝕄) = FlO d L g (step L (k.val - 1)) ((k.val - 1) % 2) from if_pos hk)) $$ Hs
    iapply (waitD (F := F) d L (W := W) (O := O) (N := NO) (dstw := wO _ (p ((cond7 L k).2 hk))) rfl (sem_slot cc0_scoped3 _ (off17 k))) $$ [Hs' How]
    · isplitr; · iexact Hmw
      isplitl [Hs']; · iexact Hs'
      iexact How
    iintro ⟨⟨Hb, Hf⟩, Hz, How⟩
    iapply Hk
    rw [show (k.val + 1) % 2 = (k.val - 1) % 2 by omega]
    isplitr; · iexact Hmw
    isplitl [Hf]; · iexact Hf
    isplitl [Hz]; · iexact Hz
    isplitr [How]
    · have e : k.val - 1 + 1 = k.val := by omega
      ihave Hj := (oSpan_join (F := F) d L g (Nat.zero_le (k.val - 1))) $$ [Ho Hb]
      · isplitl [Ho]; · iexact Ho
        iexact Hb
      iapply (Entails.of_eq (congrArg (fun n => (oSpan d L g 0 n : sProp 𝕄)) e)) $$ Hj
    · iexact How
  · rw [dif_neg (fun h => hk ((cond7 L k).1 h))]
    iintro ⟨#Hmw, Hs, Ho, How⟩ Hk
    ihave Hs' := (Entails.of_eq (show (sent d L g k.val : sProp 𝕄) = iprop(freeO d L ((k.val + 1) % 2) ∗ zO d L ((k.val + 1) % 2)) from if_neg hk)) $$ Hs
    icases Hs' with ⟨Hf, Hz⟩
    iapply Hk
    isplitr; · iexact Hmw
    isplitl [Hf]; · iexact Hf
    isplitl [Hz]; · iexact Hz
    isplitl [Ho]
    · have e : k.val - 1 = k.val := by omega
      iapply (Entails.of_eq (congrArg (fun n => (oSpan d L g 0 n : sProp 𝕄)) e)) $$ Ho
    · iexact How

/-! ## One trip -/

theorem trip (t : Buf (Elt F) (tLoc d)) (ix : Buf (Elt F) (aLoc d)) (hix : ∀ j : S4x16384.Idx, (show BitVec 32 from ix j).toNat < 98304)
    (g : Buf (Elt F) (oLoc d)) (q : PosShare TreeShare) (O : CellTallies nD τ sig (HIx 1)) (W : Waits sig (HIx 1)) (v7 c v22 : BitVec 32) (v33 : BitVec 1)
    (k : Fin k0_t1_loop.trips) (w) :
    Inv d L t ix g q O W k w ⊢ wp frame (wpE (defs₀ (F := F)) 𝒱₀ (thr d L) none) Set.univ
      (k0_t1_body (F := F) L (Memref.whole main_v0_scv) (Memref.isWhole_whole _) (Memref.whole main_arg1_scv) (Memref.isWhole_whole _)
        (Memref.whole main_v1_scv) (Memref.isWhole_whole _) (Memref.whole cc0_scoped0) (Memref.isWhole_whole _) cc0_scoped1
        (Memref.whole cc0_scoped2) (Memref.isWhole_whole _) cc0_scoped3 cc0_scoped4
        (Scalar.muli (Scalar.addi (Scalar.addi 0#32 (Scalar.muli (BitVec.ofNat 32 (L 1).val) 1#32)) (Scalar.muli (BitVec.ofNat 32 (L 0).val) 16#32)) 16#32)
        v7 c v22 v33 k w)
      (Inv d L t ix g q O W (k + 1)) := by
  unfold Inv
  iintro ⟨%hw, Hfe, HI, Hse, HO, Ha, Ho, Ht, Hg, Hmw, How⟩
  subst hw
  simp only [k0_t1_body, wp_bind]
  rw [k0_part1_eq_skeleton]
  simp only [k0_part1_skel, wp_bind]
  iapply (assume_of (F := F) d L (chk3 k))
  iapply (assume_of (F := F) d L (chk2 k))
  iapply (assume_of (F := F) d L (chk1 L k))
  rw [wp_pure]
  imodintro
  rw [k0_part2_eq_skeleton]
  simp only [k0_part2_skel, wp_pure]
  imodintro
  rw [k0_part3_eq_skeleton]
  simp only [k0_part3_skel]
  -- the next step's words are fetched
  have hk16 : k.val < 16 := trips_eq ▸ k.isLt
  ihave Hfe' := (Entails.of_eq (show (fetched d L ix k.val : sProp 𝕄) = FlI d L ix (step L k.val) (k.val % 2) from if_pos hk16)) $$ Hfe
  icases Ha with ⟨Ha, Hb⟩
  icases HI with ⟨Hfi, Hzi⟩
  iapply (fetchNext (F := F) d L ix k) $$ [Hb Hfi Hzi]
  · isplitl [Hb]; · iexact Hb
    isplitl [Hfi]; · iexact Hfi
    iexact Hzi
  iintro ⟨Hb, Hfe⟩
  rw [wp_pure]
  imodintro
  -- this step's words are waited for
  rw [k0_part4_eq_skeleton]
  simp only [k0_part4_skel, dif_pos (cond2 L k), ite_self, wp_bind]
  icases Hmw with #Hmw
  iapply (waitD (F := F) d L (W := W) (O := O) (N := NI) (dstw := wS (k0_off7 (w7 k)) (k0_off7_inb L k _ _ _ _ _ (chk1 L k) (cond2 L k))) rfl
    (sem_slot cc0_scoped1 _ (off9 k))) $$ [Hfe' How]
  · isplitr; · iexact Hmw
    isplitl [Hfe']; · iexact Hfe'
    iexact How
  iintro ⟨⟨Hs, Hab⟩, Hzi, How⟩
  ihave Ha := (aSpan_join (F := F) d L ix (Nat.zero_le k.val)) $$ [Ha Hab]
  · isplitl [Ha]; · iexact Ha
    iexact Hab
  -- the rows they name are gathered
  icases HO with ⟨Hfo, Hzo⟩
  iapply (enqG (F := F) d L t ix hix q (k0_off10_inb _ (chk2 k)) (k0_off11_inb _ (chk3 k)) (off10 k) (off11 k)) $$ [Ht Hs Hfo Hg]
  · isplitl [Ht]; · iexact Ht
    isplitl [Hs]; · iexact Hs
    isplitl [Hfo]; · iexact Hfo
    iexact Hg
  iintro Hfg
  unfold SparseCore.waitIndirectGather
  iapply (waitD (F := F) d L (W := W) (O := O) (N := NG) (dstw := wR (k0_off10 (w7 k)) (k0_off10_inb _ (chk2 k))) rfl rfl) $$ [Hfg How]
  · isplitr; · iexact Hmw
    isplitl [Hfg]; · iexact Hfg
    iexact How
  iintro ⟨⟨Hr, Ht, Hfi⟩, Hg, How⟩
  rw [wp_pure]
  imodintro
  -- and sent out
  rw [k0_part5_eq_skeleton]
  simp only [k0_part5_skel, dif_pos (cond5 L k), ite_self, wp_bind]
  icases Ho with ⟨Hod, Ho⟩
  ihave Ho' := (oSpan_split (F := F) d L g hk16) $$ Ho
  icases Ho' with ⟨Hob, Ho⟩
  iapply (enqO (F := F) d L t ix (k0_off13_inb L k _ _ _ _ _ (chk1 L k) (cond5 L k)) (k0_off12_inb L k _ _ _ _ _ (chk1 L k) (cond5 L k))
    (off13 L k) (off12 k) (sem_slot cc0_scoped3 _ (off14 k)) g) $$ [Hr Hob Hzo]
  · isplitl [Hr]; · iexact Hr
    isplitl [Hob]; · iexact Hob
    iexact Hzo
  iintro Hfo
  iapply (awaitLast (F := F) d L (target (F := F) t ix) O W k) $$ [Hse Hod How]
  · isplitr; · iexact Hmw
    isplitl [Hse]; · iexact Hse
    isplitl [Hod]; · iexact Hod
    iexact How
  iintro ⟨-, Hfo', Hzo, Hod, How⟩
  simp only [wp_pure]
  imodintro
  imodintro
  isplitr
  · ipureintro
    clear hix hk16
    revert L k
    decide +kernel
  isplitl [Hfe]; · iexact Hfe
  rw [show (k.val + 1 + 1) % 2 = k.val % 2 by omega, show k.val + 1 - 1 = k.val by omega]
  isplitl [Hfi Hzi]
  · isplitl [Hfi]; · iexact Hfi
    iexact Hzi
  isplitl [Hfo]
  · iapply (Entails.of_eq (show (FlO d L (target (F := F) t ix) (step L k.val) (k.val % 2) : sProp 𝕄) = sent d L (target (F := F) t ix) (k.val + 1) from
      (if_pos (Nat.succ_pos _)).symm)) $$ Hfo
  isplitl [Hfo' Hzo]
  · isplitl [Hfo']; · iexact Hfo'
    iexact Hzo
  isplitl [Ha Hb]
  · isplitl [Ha]; · iexact Ha
    iexact Hb
  isplitl [Hod Ho]
  · isplitl [Hod]; · iexact Hod
    iexact Ho
  isplitl [Ht]; · iexact Ht
  isplitl [Hg]; · iexact Hg
  isplitr; · iexact Hmw
  iexact How

end Cert.Proof.Gather

end
-- ==== Proof.Task.lean ====
/-
  One subcore's whole task: the first fetch, the sixteen trips, the wait for the last send. From its words, its share of
  the table and its rows of the result it ends with those rows at the table's rows its words name.
-/
module

public import proofs.«01_k».proof.Proof.Tile

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (L : grid0.Coords)

local notation "𝕄" => MT nD τ sig (HIx 1) (Elt F) ℕ UU ℕ

/-! ## The staging buffers, slot by slot -/

omit [FloatOps F] in
theorem slotsI : (iprop(∃ f, sLoc d L ↦{fullShare} f) : sProp 𝕄) ⊢ iprop(freeI d L 0 ∗ freeI d L 1) := by
  iintro ⟨%f, H⟩
  ihave H' := (Entails.of_eq (show (sLoc d L ↦{fullShare} f : sProp 𝕄) = (sLoc d L ↦[sI 0 ∪ sI 1]{fullShare} f) from
    congrArg (fun I => (sLoc d L ↦[I]{fullShare} f : sProp 𝕄)) sI_union)) $$ H
  ihave H2 := (pointsTo_union (ℓ := sLoc d L) (q := fullShare) (f := f) sI_disjoint).1 $$ H'
  icases H2 with ⟨H0, H1⟩
  isplitl [H0]
  · iexists _; iexact H0
  · iexists _; iexact H1

omit [FloatOps F] in
theorem joinI : iprop(freeI d L 0 ∗ freeI d L 1) ⊢ (iprop(∃ f, sLoc d L ↦{fullShare} f) : sProp 𝕄) := by
  iintro ⟨⟨%f, H0⟩, ⟨%g, H1⟩⟩
  ihave H := (pointsTo_join (ℓ := sLoc d L) (q := fullShare) (f := f) (g := g) sI_disjoint) $$ [H0 H1]
  · isplitl [H0]; · iexact H0
    iexact H1
  iexists _
  iapply (Entails.of_eq (congrArg (fun I => (sLoc d L ↦[I]{fullShare} (sI 1).piecewise g f : sProp 𝕄)) sI_union.symm)) $$ H

omit [FloatOps F] in
theorem slotsO : (iprop(∃ f, rLoc d L ↦{fullShare} f) : sProp 𝕄) ⊢ iprop(freeO d L 0 ∗ freeO d L 1) := by
  iintro ⟨%f, H⟩
  ihave H' := (Entails.of_eq (show (rLoc d L ↦{fullShare} f : sProp 𝕄) = (rLoc d L ↦[sO 0 ∪ sO 1]{fullShare} f) from
    congrArg (fun I => (rLoc d L ↦[I]{fullShare} f : sProp 𝕄)) sO_union)) $$ H
  ihave H2 := (pointsTo_union (ℓ := rLoc d L) (q := fullShare) (f := f) sO_disjoint).1 $$ H'
  icases H2 with ⟨H0, H1⟩
  isplitl [H0]
  · iexists _; iexact H0
  · iexists _; iexact H1

omit [FloatOps F] in
theorem joinO : iprop(freeO d L 0 ∗ freeO d L 1) ⊢ (iprop(∃ f, rLoc d L ↦{fullShare} f) : sProp 𝕄) := by
  iintro ⟨⟨%f, H0⟩, ⟨%g, H1⟩⟩
  ihave H := (pointsTo_join (ℓ := rLoc d L) (q := fullShare) (f := f) (g := g) sO_disjoint) $$ [H0 H1]
  · isplitl [H0]; · iexact H0
    iexact H1
  iexists _
  iapply (Entails.of_eq (congrArg (fun I => (rLoc d L ↦[I]{fullShare} (sO 1).piecewise g f : sProp 𝕄)) sO_union.symm)) $$ H

/-! ## Empty spans -/

theorem aSpan_nil (ix : Buf (Elt F) (aLoc d)) (a b : ℕ) (h : a ≤ b) : aSpan d L ix a b ⊢ iprop(aSpan d L ix a a ∗ aSpan d L ix a b) := by
  have e : iR (128 * step L a) (128 * step L b) = iR (128 * step L a) (128 * step L a) ∪ iR (128 * step L a) (128 * step L b) :=
    iR_union le_rfl (by unfold step; omega)
  refine BIBase.Entails.trans (Entails.of_eq (congrArg (fun I => (aLoc d ↦[I]{fullShare} ix : sProp 𝕄)) e)) ?_
  exact (pointsTo_union (iR_disjoint le_rfl)).1
theorem aSpan_snoc (ix : Buf (Elt F) (aLoc d)) (a b : ℕ) (h : a ≤ b) : iprop(aSpan d L ix a b ∗ aSpan d L ix b b) ⊢ aSpan d L ix a b := by
  have e : iR (128 * step L a) (128 * step L b) = iR (128 * step L a) (128 * step L b) ∪ iR (128 * step L b) (128 * step L b) :=
    iR_union (by unfold step; omega) le_rfl
  refine BIBase.Entails.trans ?_ (Entails.of_eq (congrArg (fun I => (aLoc d ↦[I]{fullShare} ix : sProp 𝕄)) e.symm))
  exact (pointsTo_union (iR_disjoint le_rfl)).2
theorem oSpan_nil (g g' : Buf (Elt F) (oLoc d)) (a b : ℕ) (h : a ≤ b) : oSpan d L g a b ⊢ iprop(oSpan d L g' a a ∗ oSpan d L g a b) := by
  have e : oR (128 * step L a) (128 * step L b) = oR (128 * step L a) (128 * step L a) ∪ oR (128 * step L a) (128 * step L b) :=
    oR_union le_rfl (by unfold step; omega)
  refine BIBase.Entails.trans (Entails.of_eq (congrArg (fun I => (oLoc d ↦[I]{fullShare} g : sProp 𝕄)) e)) ?_
  refine BIBase.Entails.trans (pointsTo_union (oR_disjoint le_rfl)).1 ?_
  iintro ⟨H, H'⟩
  isplitl [H]
  · iapply (Entails.of_eq (pointsTo_congr (fun i hi => by rw [mem_oR] at hi; omega))) $$ H
  · iexact H'

/-! ## The task -/

set_option maxHeartbeats 4000000 in
theorem task (t : Buf (Elt F) (tLoc d)) (ix : Buf (Elt F) (aLoc d)) (hix : ∀ j : S4x16384.Idx, (show BitVec 32 from ix j).toNat < 98304)
    (g : Buf (Elt F) (oLoc d)) (q : PosShare TreeShare) (O : CellTallies nD τ sig (HIx 1)) (W : Waits sig (HIx 1)) :
    iprop(Transfers.MayWaits (thr d L) (default : HIx 1) O ∗ (freeI d L 0 ∗ freeI d L 1) ∗ (freeO d L 0 ∗ freeO d L 1)
        ∗ (zI d L 0 ∗ zI d L 1 ∗ zO d L 0 ∗ zO d L 1 ∗ semVal (thr d L, .dma semG) 0)
        ∗ (aSpan d L ix 0 16 ∗ (tLoc d ↦{q} t) ∗ oSpan d L g 0 16) ∗ owing d L O W)
      ⊢ wp frame (wpE (defs₀ (F := F)) 𝒱₀ (thr d L) none) Set.univ
      (cc0_sc_gather_rows (F := F) L (Memref.whole main_v0_scv) (Memref.isWhole_whole _) (Memref.whole main_arg1_scv) (Memref.isWhole_whole _)
        (Memref.whole main_v1_scv) (Memref.isWhole_whole _) (Memref.whole cc0_scoped0) (Memref.isWhole_whole _) cc0_scoped1
        (Memref.whole cc0_scoped2) (Memref.isWhole_whole _) cc0_scoped3 cc0_scoped4)
      fun _ => iprop((freeI d L 0 ∗ freeI d L 1) ∗ (freeO d L 0 ∗ freeO d L 1)
        ∗ (zI d L 0 ∗ zI d L 1 ∗ zO d L 0 ∗ zO d L 1 ∗ semVal (thr d L, .dma semG) 0)
        ∗ (aSpan d L ix 0 16 ∗ (tLoc d ↦{q} t) ∗ oSpan d L (target (F := F) t ix) 0 16) ∗ owing d L O W) := by
  rw [cc0_sc_gather_rows_eq_skeleton]
  unfold cc0_sc_gather_rows_skel
  rw [k0_part6_eq_skeleton]
  simp only [k0_part6_skel, wp_bind, wp_pure]
  iintro ⟨#Hmw, ⟨Hi0, Hi1⟩, ⟨Ho0, Ho1⟩, ⟨Zi0, Zi1, Zo0, Zo1, Zg⟩, ⟨Ha, Ht, Ho⟩, How⟩
  imodintro
  rw [k0_part7_eq_skeleton]
  simp only [k0_part7_skel, wp_bind]
  ihave Ha' := (aSpan_nil (F := F) d L ix 0 16 (by decide)) $$ Ha
  icases Ha' with ⟨Hae, Ha⟩
  ihave Ho' := (oSpan_nil (F := F) d L g (target (F := F) t ix) 0 16 (by decide)) $$ Ho
  icases Ho' with ⟨Hoe, Ho⟩
  ihave Ha' := (aSpan_split (F := F) d L ix (show 0 < 16 by decide)) $$ Ha
  icases Ha' with ⟨Hab, Ha⟩
  -- the first step's words are fetched
  iapply (enqI (F := F) d L ix (step_lt L (show 0 < 16 by decide)) k0_off1_inb (k0_off2_inb L) off1 (off2 L) (sem_slot cc0_scoped1 _ off3)) $$ [Hab Hi0 Zi0]
  · isplitl [Hab]; · iexact Hab
    isplitl [Hi0]; · iexact Hi0
    iexact Zi0
  iintro Hf
  -- the sixteen trips
  iapply (Scf.wp_for _ _ _ _ _ _ _ _ _ (Inv d L t ix g q O W) (trip d L t ix hix g q O W _ _ _ _))
  isplitl [Hf Hi1 Zi1 Ho0 Ho1 Zo0 Zo1 Zg Ha Hae Ho Hoe Ht How]
  · unfold Inv
    isplitr; · ipureintro; decide
    isplitl [Hf]
    · iapply (Entails.of_eq (show (FlI d L ix (step L 0) (0 % 2) : sProp 𝕄) = fetched d L ix 0 from (if_pos (by decide)).symm)) $$ Hf
    isplitl [Hi1 Zi1]
    · isplitl [Hi1]; · iexact Hi1
      iexact Zi1
    isplitl [Ho1 Zo1]
    · iapply (Entails.of_eq (show (iprop(freeO d L ((0 + 1) % 2) ∗ zO d L ((0 + 1) % 2)) : sProp 𝕄) = sent d L (target (F := F) t ix) 0 from (if_neg (by decide)).symm))
      isplitl [Ho1]; · iexact Ho1
      iexact Zo1
    isplitl [Ho0 Zo0]
    · isplitl [Ho0]; · iexact Ho0
      iexact Zo0
    isplitl [Ha Hae]
    · isplitl [Hae]; · iexact Hae
      iexact Ha
    isplitl [Ho Hoe]
    · isplitl [Hoe]; · iexact Hoe
      iexact Ho
    isplitl [Ht]; · iexact Ht
    isplitl [Zg]; · iexact Zg
    isplitr; · iexact Hmw
    iexact How
  iintro %acc Hinv
  rw [show Scf.trips _ _ _ = 16 from trips_eq]
  unfold Inv
  icases Hinv with ⟨%hw, Hfe, ⟨Hi1, Zi1⟩, Hse, ⟨Ho0, Zo0⟩, ⟨Ha, Hae⟩, ⟨Ho, -⟩, Ht, Zg, -, How⟩
  subst hw
  iapply (assume_of (F := F) d L (chk5 L))
  iapply (assume_of (F := F) d L chk4)
  simp only [wp_pure]
  imodintro
  ihave Hfe' := (Entails.of_eq (show (fetched d L ix 16 : sProp 𝕄) = iprop(freeI d L 0 ∗ zI d L 0) from if_neg (by decide))) $$ Hfe
  icases Hfe' with ⟨Hi0, Zi0⟩
  ihave Hse' := (Entails.of_eq (show (sent d L (target (F := F) t ix) 16 : sProp 𝕄) = FlO d L (target (F := F) t ix) (step L 15) 1 from if_pos (by decide))) $$ Hse
  -- the last send is waited for
  iapply (waitD (F := F) d L (W := W) (O := O) (N := NO) (dstw := wO (k0_off19 L (w10 16)) (k0_off19_inb L _ (chk5 L))) rfl
    (sem_slot cc0_scoped3 _ off20)) $$ [Hse' How]
  · isplitr; · iexact Hmw
    isplitl [Hse']; · iexact Hse'
    iexact How
  iintro ⟨⟨Hb, Ho1⟩, Zo1, How⟩
  imodintro
  isplitl [Hi0 Hi1]
  · isplitl [Hi0]; · iexact Hi0
    iexact Hi1
  isplitl [Ho0 Ho1]
  · isplitl [Ho0]; · iexact Ho0
    iexact Ho1
  isplitl [Zi0 Zi1 Zo0 Zo1 Zg]
  · isplitl [Zi0]; · iexact Zi0
    isplitl [Zi1]; · iexact Zi1
    isplitl [Zo0]; · iexact Zo0
    isplitl [Zo1]; · iexact Zo1
    iexact Zg
  isplitr [How]
  · isplitl [Ha Hae]
    · iapply (aSpan_snoc (F := F) d L ix 0 16 (by decide))
      isplitl [Ha]; · iexact Ha
      iexact Hae
    isplitl [Ht]; · iexact Ht
    iapply (oSpan_join (F := F) d L (target (F := F) t ix) (show 0 ≤ 15 by decide))
    isplitl [Ho]; · iexact Ho
    iexact Hb
  · iexact How

end Cert.Proof.Gather

end
-- ==== Proof.Launch.lean ====
/-
  The launch: the table's view is made, the two SparseCores take a half of the words, of the result and a share of the
  table each, their subcores a sixteenth of it, and the result comes back whole at the gathered rows. One run, over any
  float values; the claims read it.
-/
module

public import proofs.«01_k».proof.Proof.Task

@[expose] public section

noncomputable section

namespace Cert.Proof.Gather

open Cert.KernelIdeal Cert.KernelIdeal.Gen Cert.Proof.Words

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The subcore's own buffers and semaphores -/

section Own

variable (d : Dev nD) (L : grid0.Coords)

abbrev cellI (b : ℕ) : GSem nD τ sig := (thr d L, .dma (semI b))
abbrev cellO (b : ℕ) : GSem nD τ sig := (thr d L, .dma (semO b))
abbrev cellG : GSem nD τ sig := (thr d L, .dma semG)

theorem sem_ne {x y : DmaSem sig} (h : x ≠ y) : ((thr d L, SemLoc.dma x) : GSem nD τ sig) ≠ (thr d L, SemLoc.dma y) :=
  fun e => h (SemLoc.dma.inj (congrArg Prod.snd e))

theorem mem_own {x : DmaSem sig} (h : (SemLoc.dma x : SemLoc sig).isScoped .scVector = true) :
    ((thr d L, SemLoc.dma x) : GSem nD τ sig) ∈ ownCells (thr d L) := mem_ownCells.mpr ⟨rfl, h⟩

theorem ownSems0_V :
    (ownSems0 (thr d L) : sProp 𝕄)
      = iprop(semVal (cellI d L 0) 0 ∗ semVal (cellI d L 1) 0 ∗ semVal (cellO d L 0) 0 ∗ semVal (cellO d L 1) 0 ∗ semVal (cellG d L) 0
          ∗ bigSep ((((((ownCells (thr d L)).erase (cellI d L 0)).erase (cellI d L 1)).erase (cellO d L 0)).erase (cellO d L 1)).erase (cellG d L))
              fun g => semVal g 0) := by
  unfold SparseCore.Cfg.ownSems0
  rw [SparseCore.bigSep_erase' (mem_own d L (x := semI 0) (by decide)),
    SparseCore.bigSep_erase' (Finset.mem_erase.mpr ⟨sem_ne d L (show semI 1 ≠ semI 0 by decide), mem_own d L (x := semI 1) (by decide)⟩),
    SparseCore.bigSep_erase' (Finset.mem_erase.mpr ⟨sem_ne d L (show semO 0 ≠ semI 1 by decide),
      Finset.mem_erase.mpr ⟨sem_ne d L (show semO 0 ≠ semI 0 by decide), mem_own d L (x := semO 0) (by decide)⟩⟩),
    SparseCore.bigSep_erase' (Finset.mem_erase.mpr ⟨sem_ne d L (show semO 1 ≠ semO 0 by decide),
      Finset.mem_erase.mpr ⟨sem_ne d L (show semO 1 ≠ semI 1 by decide),
      Finset.mem_erase.mpr ⟨sem_ne d L (show semO 1 ≠ semI 0 by decide), mem_own d L (x := semO 1) (by decide)⟩⟩⟩),
    SparseCore.bigSep_erase' (Finset.mem_erase.mpr ⟨sem_ne d L (show semG ≠ semO 1 by decide),
      Finset.mem_erase.mpr ⟨sem_ne d L (show semG ≠ semO 0 by decide),
      Finset.mem_erase.mpr ⟨sem_ne d L (show semG ≠ semI 1 by decide),
      Finset.mem_erase.mpr ⟨sem_ne d L (show semG ≠ semI 0 by decide), mem_own d L (x := semG) (by decide)⟩⟩⟩⟩)]

theorem ownBufs_V :
    (ownBufs (thr d L) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Own

/-! ## The task as the launch runs it -/

variable [FloatOps F]

theorem tile_body (d : Dev nD) (L : grid0.Coords) (hF : (K (F := F)).Facts)
    (t : Buf (Elt F) (tLoc d)) (ix : Buf (Elt F) (aLoc d)) (hix : ∀ j : S4x16384.Idx, (show BitVec 32 from ix j).toNat < 98304)
    (g : Buf (Elt F) (oLoc d)) (q : PosShare TreeShare) (O : CellTallies nD τ sig (HIx 1)) (W : Waits sig (HIx 1)) (hO : ∀ g, O g none = 0) :
    iprop(levAts (K (F := F)).L (K (F := F)).lev ∗ emp
        ∗ (aSpan d L ix 0 16 ∗ (tLoc d ↦{q} t) ∗ oSpan d L g 0 16)
        ∗ scopedBufs (thr d L) ∗ scopedSems0 (thr d L) ∗ owes (thr d L) O W)
      ⊢ wp frame (wpE (defs₀ (F := F)) 𝒱₀ (thr d L) none) Set.univ
      (cc0_sc_gather_rows (F := F) L (Memref.whole main_v0_scv) (Memref.isWhole_whole _) (Memref.whole main_arg1_scv) (Memref.isWhole_whole _)
        (Memref.whole main_v1_scv) (Memref.isWhole_whole _) (Memref.whole cc0_scoped0) (Memref.isWhole_whole _) cc0_scoped1
        (Memref.whole cc0_scoped2) (Memref.isWhole_whole _) cc0_scoped3 cc0_scoped4)
      fun _ => iprop((aSpan d L ix 0 16 ∗ (tLoc d ↦{q} t) ∗ oSpan d L (target (F := F) t ix) 0 16)
        ∗ scopedBufs (thr d L) ∗ scopedSems0 (thr d L) ∗ owing d L O W) := by
  rw [(K (F := F)).scopedBufs_V hF d (cV L) (jV L), SparseCore.Cfg.scopedSems0_V (Val := Elt F) d (cV L) (jV L), ownSems0_V, ownBufs_V]
  iintro ⟨#Hlv, -, Hp, ⟨Hs, Hr, Hbufs⟩, ⟨H0, H1, H2, H3, H4, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (slotsI (F := F) d L) $$ Hs
  ihave Hr' := (slotsO (F := F) d L) $$ Hr
  iapply (wp_wand_r frame _ _)
  isplitl [Hmw Hs' Hr' H0 H1 H2 H3 H4 Hp HO]
  · iapply (task (F := F) d L t ix hix g q O W)
    isplitl [Hmw]; · iexact Hmw
    isplitl [Hs']; · iexact Hs'
    isplitl [Hr']; · iexact Hr'
    isplitl [H0 H1 H2 H3 H4]
    · isplitl [H0]; · iexact H0
      isplitl [H1]; · iexact H1
      isplitl [H2]; · iexact H2
      isplitl [H3]; · iexact H3
      iexact H4
    isplitl [Hp]; · iexact Hp
    iexists _
    isplitr
    swap; · iexact HO
    ipureintro; exact fun p hp => .inl hp
  iintro %_ ⟨Hs, Hr, ⟨H0, H1, H2, H3, H4⟩, Hp, HO⟩
  isplitl [Hp]; · iexact Hp
  isplitl [Hs Hr Hbufs]
  · isplitl [Hs]; · iapply (joinI (F := F) d L) $$ Hs
    isplitl [Hr]; · iapply (joinO (F := F) d L) $$ Hr
    iexact Hbufs
  isplitl [H0 H1 H2 H3 H4 Hsems]
  · isplitl [H0]; · iexact H0
    isplitl [H1]; · iexact H1
    isplitl [H2]; · iexact H2
    isplitl [H3]; · iexact H3
    isplitl [H4]; · iexact H4
    iexact Hsems
  iexact HO

/-! ## The shares -/

def coordsV (c : Fin (grid0.bound 0)) (s : Fin (grid0.bound 1)) : grid0.Coords :=
  fun | 0 => c | 1 => s | ⟨_ + 2, h⟩ => absurd h (Nat.not_lt.2 (Nat.le_add_left _ _))

theorem step_coords (c : Fin 2) (i : Fin 16) (k : ℕ) : 128 * step (coordsV c i) k = 32768 * c.val + 2048 * i.val + 128 * k := by
  show 128 * (16 * (i.val + 16 * c.val) + k) = _
  omega

/-- Core `c`'s words, and its rows of the result. -/
abbrev iC (c : Fin 2) : Finset S4x16384.Idx := iR (32768 * c.val) (32768 * c.val + 32768)
abbrev oC (c : Fin 2) : Finset S65536x2x128.Idx := oR (32768 * c.val) (32768 * c.val + 32768)
/-- Subcore `i`'s of core `c`. -/
abbrev iT (c : Fin 2) (i : Fin 16) : Finset S4x16384.Idx := iR (128 * step (coordsV c i) 0) (128 * step (coordsV c i) 16)
abbrev oT (c : Fin 2) (i : Fin 16) : Finset S65536x2x128.Idx := oR (128 * step (coordsV c i) 0) (128 * step (coordsV c i) 16)

theorem iC_disjoint : ∀ c ∈ (Finset.univ : Finset (Fin 2)), ∀ c' ∈ (Finset.univ : Finset (Fin 2)), c ≠ c' → Disjoint (iC c) (iC c') := by
  intro c _ c' _ h
  have h : c.val ≠ c'.val := fun e => h (Fin.ext e)
  rw [Finset.disjoint_left]; intro x; simp only [mem_iR]; omega
theorem oC_disjoint : ∀ c ∈ (Finset.univ : Finset (Fin 2)), ∀ c' ∈ (Finset.univ : Finset (Fin 2)), c ≠ c' → Disjoint (oC c) (oC c') := by
  intro c _ c' _ h
  have h : c.val ≠ c'.val := fun e => h (Fin.ext e)
  rw [Finset.disjoint_left]; intro x; simp only [mem_oR]; omega
theorem iT_disjoint (c : Fin 2) : ∀ i ∈ (Finset.univ : Finset (Fin 16)), ∀ j ∈ (Finset.univ : Finset (Fin 16)), i ≠ j → Disjoint (iT c i) (iT c j) := by
  intro i _ j _ h
  have h : i.val ≠ j.val := fun e => h (Fin.ext e)
  rw [Finset.disjoint_left]; intro x; simp only [mem_iR, step_coords]; omega
theorem oT_disjoint (c : Fin 2) : ∀ i ∈ (Finset.univ : Finset (Fin 16)), ∀ j ∈ (Finset.univ : Finset (Fin 16)), i ≠ j → Disjoint (oT c i) (oT c j) := by
  intro i _ j _ h
  have h : i.val ≠ j.val := fun e => h (Fin.ext e)
  rw [Finset.disjoint_left]; intro x; simp only [mem_oR, step_coords]; omega
theorem iC_cover : (Finset.univ : Finset (Fin 2)).biUnion iC = Finset.univ := by
  ext x
  simp only [Finset.mem_biUnion, Finset.mem_univ, true_and, iff_true, mem_iR]
  have h0 : (x 0).val < 4 := (x 0).isLt
  have h1 : (x 1).val < 16384 := (x 1).isLt
  exact ⟨⟨(16384 * (x 0).val + (x 1).val) / 32768, by omega⟩, by show 32768 * (_ / _) ≤ _; omega, by show _ < 32768 * (_ / _) + _; omega⟩
theorem oC_cover : (Finset.univ : Finset (Fin 2)).biUnion oC = Finset.univ := by
  ext x
  simp only [Finset.mem_biUnion, Finset.mem_univ, true_and, iff_true, mem_oR]
  have h0 : (x 0).val < 65536 := (x 0).isLt
  exact ⟨⟨(x 0).val / 32768, by omega⟩, by show 32768 * (_ / _) ≤ _; omega, by show _ < 32768 * (_ / _) + _; omega⟩
theorem iT_cover (c : Fin 2) : (Finset.univ : Finset (Fin 16)).biUnion (iT c) = iC c := by
  ext x
  simp only [Finset.mem_biUnion, Finset.mem_univ, true_and, mem_iR, step_coords]
  constructor
  · rintro ⟨i, h⟩; have := i.isLt; omega
  · intro h
    exact ⟨⟨(16384 * (x 0).val + (x 1).val - 32768 * c.val) / 2048, by omega⟩, by dsimp only; omega, by dsimp only; omega⟩
theorem oT_cover (c : Fin 2) : (Finset.univ : Finset (Fin 16)).biUnion (oT c) = oC c := by
  ext x
  simp only [Finset.mem_biUnion, Finset.mem_univ, true_and, mem_oR, step_coords]
  constructor
  · rintro ⟨i, h⟩; have := i.isLt; omega
  · intro h
    exact ⟨⟨((x 0).val - 32768 * c.val) / 2048, by omega⟩, by dsimp only; omega, by dsimp only; omega⟩

/-- Core `c`'s share of the table, and subcore `i`'s of that. -/
abbrev qC (c : Fin 2) : PosShare TreeShare := pieceOf fullShare 2 (by decide) c
abbrev qT (c : Fin 2) (i : Fin 16) : PosShare TreeShare := pieceOf (qC c) 16 (by decide) i

/-! ## What the handshakes carry -/

variable (m : (ℓ : Loc nD τ sig) → Buf (Elt F) ℓ) (ρ : Dev nD → PrngReg)

abbrev t' : DevRef τ sig := Proc.devRef .tc (main_v0 : Ref sig .tc)
abbrev b' : DevRef τ sig := Proc.devRef .tc (main_arg0 : Ref sig .tc)
abbrev a' : DevRef τ sig := Proc.devRef .tc (main_arg1 : Ref sig .tc)
abbrev o' : DevRef τ sig := Proc.devRef .tc (main_v1 : Ref sig .tc)
abbrev opR : HloOp τ sig (Elt F) := StableHlo.reshape main_arg0 main_v0 (rfl : (.i32 : EltTy) = .i32) shapeCasts_S98304x256_S98304x2x128
def V0 (d : Dev nD) : Valuation τ sig (Elt F) := fun b => m (d, b)
/-- The table as rows of two lines, and the result. -/
def tbl (d : Dev nD) : Buf (Elt F) (tLoc d) := shapeCast S98304x2x128 (m (bLoc d)) shapeCasts_S98304x256_S98304x2x128
def out (d : Dev nD) : Buf (Elt F) (oLoc d) := target (F := F) (tbl m d) (m (aLoc d))

abbrev corePts (d : Dev nD) (g : Buf (Elt F) (oLoc d)) (c : Fin 2) : sProp 𝕄 :=
  iprop((aLoc d ↦[iC c]{fullShare} m (aLoc d)) ∗ (tLoc d ↦{qC c} tbl m d) ∗ oLoc d ↦[oC c]{fullShare} g)
abbrev tilePts (d : Dev nD) (g : Buf (Elt F) (oLoc d)) (c : Fin 2) (i : Fin 16) : sProp 𝕄 :=
  iprop((aLoc d ↦[iT c i]{fullShare} m (aLoc d)) ∗ (tLoc d ↦{qT c i} tbl m d) ∗ oLoc d ↦[oT c i]{fullShare} g)

def P : (K (F := F)).Pay (nD := nD) (Val := Elt F) (Name := ℕ) (U := UU) where
  st := fun q d c => match q with | 0 => corePts m d (m (oLoc d)) (Fin.cast nCore_zero c)
  dn := fun q d c => match q with | 0 => corePts m d (out m d) (Fin.cast nCore_zero c)
  go := fun q d c i => match q with | 0 => tilePts m d (m (oLoc d)) (Fin.cast nCore_zero c) (Fin.cast nSub_zero i)
  td := fun q d c i => match q with | 0 => tilePts m d (out m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePts m d (m (oLoc d)) (Fin.cast nCore_zero c)))
  dn q d c := match q with
    | 0 => (inferInstance : BI.Storable (upEmb : UEmb _ 𝕄) (corePts m d (out m d) (Fin.cast nCore_zero c)))
  go q d c i := match q with
    | 0 => (inferInstance : BI.Storable (upEmb : UEmb _ 𝕄) (tilePts m d (m (oLoc d)) (Fin.cast nCore_zero c) (Fin.cast nSub_zero i)))
  td q d c i := match q with
    | 0 => (inferInstance : BI.Storable (upEmb : UEmb _ 𝕄) (tilePts m d (out m d) (Fin.cast nCore_zero c) (Fin.cast nSub_zero i)))

/-- What the proof asks of the launch memory: every row number is below the table's rows. -/
def PreOK : Prop := ∀ (d : Dev nD) (j : S4x16384.Idx), (show BitVec 32 from m (aLoc d) j).toNat < 98304

theorem tiles_eq (d : Dev nD) (g : Buf (Elt F) (oLoc d)) (c : Fin 2) :
    (bigSep Finset.univ fun i : Fin 16 => tilePts m d g c i) = corePts m d g c := by
  rw [bigSep_sep', bigSep_sep', ← pointsTo_biUnion Finset.univ (ℓ := aLoc d) (iT c) (iT_disjoint c), iT_cover,
    ← pointsTo_biUnion Finset.univ (ℓ := oLoc d) (oT c) (oT_disjoint c), oT_cover, ← pointsTo_piecesOf]

theorem cores_eq (d : Dev nD) (g : Buf (Elt F) (oLoc d)) :
    (bigSep Finset.univ fun c : Fin 2 => corePts m d g c) = iprop((aLoc d ↦{fullShare} m (aLoc d)) ∗ (tLoc d ↦{fullShare} tbl m d) ∗ oLoc d ↦{fullShare} g) := by
  rw [bigSep_sep', bigSep_sep', ← pointsTo_biUnion Finset.univ (ℓ := aLoc d) iC iC_disjoint, iC_cover,
    ← pointsTo_biUnion Finset.univ (ℓ := oLoc d) oC oC_disjoint, oC_cover, ← pointsTo_piecesOf]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show corePts m d (m (oLoc d)) (Fin.cast nCore_zero c) ⊢ |={Set.univ}=> iprop(
      (bigSep Finset.univ fun i : Fin ((K (F := F)).nSub 0) => tilePts m d (m (oLoc d)) (Fin.cast nCore_zero c) (Fin.cast nSub_zero i))
      ∗ ((bigSep Finset.univ fun i : Fin ((K (F := F)).nSub 0) => tilePts m d (out m d) (Fin.cast nCore_zero c) (Fin.cast nSub_zero i))
          -∗ corePts m d (out m d) (Fin.cast nCore_zero c)))
  rw [bigSep_tasks (F := F) (fun i => tilePts m d (m (oLoc d)) (Fin.cast nCore_zero c) i),
    bigSep_tasks (F := F) (fun i => tilePts m d (out m d) (Fin.cast nCore_zero c) i), tiles_eq, tiles_eq]
  iintro H; imodintro
  isplitl [H]; · iexact H
  iintro H; iexact H

/-! ## The obligation -/

theorem defs₀_vector (c : Fin τ.nSC) (s : Fin τ.nSub) :
    defs₀ (F := F) (.scVector c s) 0 ()
      = SparseCore.onTile hcore0 hsub0 (fun c s => cc0_sc_gather_rows (coordsV c s)
          (Memref.whole main_v0_scv) (Memref.isWhole_whole _) (Memref.whole main_arg1_scv) (Memref.isWhole_whole _)
          (Memref.whole main_v1_scv) (Memref.isWhole_whole _) (Memref.whole cc0_scoped0) (Memref.isWhole_whole _) cc0_scoped1
          (Memref.whole cc0_scoped2) (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) hF (tbl m d) (m (aLoc d)) (hpre d) (m (oLoc d))
    (qT (Fin.cast nCore_zero c) (Fin.cast nSub_zero i)) O W hO).trans (wp_mono frame _ _ fun _ => obl_post)

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev S4 : Finset (DevRef τ sig) := {b', a', t', o'}

theorem held_S4 (d : Dev nD) (W : Valuation τ sig (Elt F)) :
    (held (T d) S4 W : sProp 𝕄)
      = iprop((bLoc d ↦{fullShare} W b') ∗ (aLoc d ↦{fullShare} W a') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((bLoc d ↦{fullShare} W main_arg0) ∗ (aLoc d ↦{fullShare} W main_arg1)
      ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem held_V1 (d : Dev nD) :
    (held (T d) S4 ((opR (F := F)).result (V0 m d)) : sProp 𝕄)
      = iprop((bLoc d ↦{fullShare} m (bLoc d)) ∗ (aLoc d ↦{fullShare} m (aLoc d)) ∗ (tLoc d ↦{fullShare} tbl m d) ∗ oLoc d ↦{fullShare} m (oLoc d)) := by
  rw [held_S4, (opR (F := F)).result_of_not_mem (V0 m d) (b := b') (show b' ∉ ({t'} : Finset (DevRef τ sig)) by decide),
    (opR (F := F)).result_of_not_mem (V0 m d) (b := a') (show a' ∉ ({t'} : Finset (DevRef τ sig)) by decide),
    (opR (F := F)).result_of_not_mem (V0 m d) (b := o') (show o' ∉ ({t'} : Finset (DevRef τ sig)) by decide),
    show (opR (F := F)).result (V0 m d) t' = tbl m d from (StableHlo.reshape_result _ _ _ _ _ _ _).trans rfl]
  rfl

theorem st0_eq (d : Dev nD) : (bigSep Finset.univ fun c : Fin ((K (F := F)).nCore 0) => (P m).st 0 d c)
    = iprop((aLoc d ↦{fullShare} m (aLoc d)) ∗ (tLoc d ↦{fullShare} tbl m d) ∗ oLoc d ↦{fullShare} m (oLoc d)) :=
  (bigSep_cores (F := F) (fun c => corePts m d (m (oLoc d)) c)).trans (cores_eq m d _)
theorem dn0_eq (d : Dev nD) : (bigSep Finset.univ fun c : Fin ((K (F := F)).nCore 0) => (P m).dn 0 d c)
    = iprop((aLoc d ↦{fullShare} m (aLoc d)) ∗ (tLoc d ↦{fullShare} tbl m d) ∗ oLoc d ↦{fullShare} out m d) :=
  (bigSep_cores (F := F) (fun c => corePts m d (out m d) c)).trans (cores_eq m d _)

/-- What @main leaves the claims: the arguments at their launch contents, the result at the gathered rows. -/
abbrev FIN (d : Dev nD) : sProp 𝕄 :=
  iprop((bLoc d ↦{fullShare} m (bLoc d)) ∗ (aLoc d ↦{fullShare} m (aLoc d)) ∗ oLoc d ↦{fullShare} out m d)

theorem hR : (opR (F := F)).bufs ⊆ S4 := show ({b', t'} : Finset (DevRef τ sig)) ⊆ S4 by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hx, Ha, Ht, Ho⟩
  iapply ((K (F := F)).wp_run (D (F := F)) 𝒱 (EH := EH) (P := P m) κ d 0) $$ [Hst Hx Ha Ht Ho Hb Hts]
  isplitr; · iexact Hctx
  isplitl [Hst]; · iexact Hst
  isplitl [Ha Ht Ho]
  · rw [st0_eq]
    isplitl [Ha]; · iexact Ha
    isplitl [Ht]; · iexact Ht
    iexact Ho
  iintro ⟨Hst, Hdn⟩
  ihave Hdn' := (Entails.of_eq (dn0_eq m d)) $$ Hdn
  icases Hdn' with ⟨Ha, -, Ho⟩
  imodintro
  isplitl [Hst]; · iexact Hst
  isplitr [Hb Hts]
  · isplitl [Hx]; · iexact Hx
    isplitl [Ha]; · iexact Ha
    iexact Ho
  isplitl [Hb] <;> iassumption

def fq (d : Dev nD) (s' : Phys nD τ sig (Elt F)) : Prop :=
  s'.mem.mem (oLoc d) = out m d ∧ s'.mem.mem (bLoc d) = m (bLoc d) ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := bLoc d) (I := Finset.univ) (q := fullShare) (f := m (bLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (oLoc c) = out m c ∧ r.2.mem (bLoc c) = m (bLoc c) ∧ r.2.mem (aLoc c) = m (aLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kfacts v₀
    (fun q hq => match q with | 0 => nomatch hq)
    (fun q _ => match q with | 0 => tileObl m kfacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  What the reference computes: row `n` of its result is the table's row that word `n` of the row numbers names. jnp's
  indexing adds the table's length to a negative row number first; the row numbers are not negative, so that changes none.
-/
module

public import proofs.«01_k».proof.Proof.Launch
public import proofs.«01_k».proof.Proof.Gen.Reference.Run
public import proofs.«01_k».proof.Proof.Gen.Pre_idx_in_rows
public import Idealize.ShloMosaic.Lib.Routing.Ops
public import Idealize.ShloMosaic.Lib.ValueLayout

@[expose] public section

noncomputable section

namespace Cert.Proof.Value

open Idealize.ShloMosaic Idealize.ShloMosaic.ValueIdx Cert.Reference Cert.Reference.Gen

variable {F : FTy → Type}

/-- The row numbers as jnp's indexing reads them: the table's length added to a negative one. -/
abbrev wrapped (ix : S4x16384.Idx → BitVec 32) : IVec S65536 32 :=
  select (cmpi .slt (shapeCast _ ix shapeCasts_S4x16384_S65536) (broadcastInDim S65536 ![] bcast_S_S65536 (constantI S_ 32 0#32)))
    (addi (shapeCast _ ix shapeCasts_S4x16384_S65536) (broadcastInDim S65536 ![] bcast_S_S65536 (constantI S_ 32 98304#32)))
    (shapeCast _ ix shapeCasts_S4x16384_S65536)

theorem not_neg (w : BitVec 32) (h : w.toNat < 98304) : IntOp.cmpi .slt w 0#32 = 0#1 := by
  have h0 : BitVec.slt w 0#32 = false := by
    simp only [BitVec.slt_eq_decide, decide_eq_false_iff_not, BitVec.toInt_eq_toNat_cond, BitVec.toNat_ofNat, Nat.reducePow, Nat.reduceMod]
    omega
  show BitVec.ofBool (BitVec.slt w 0#32) = 0#1
  rw [h0]; rfl

theorem cast_words (ix : S4x16384.Idx → BitVec 32) (n : Fin 65536) :
    shapeCast S65536 ix shapeCasts_S4x16384_S65536 (ix1 n) = ix (Cert.Proof.Gather.pos n.val) :=
  shapeCast_apply ix _ _ _ (by
    rw [Shape.rowMajor_val_two, Shape.rowMajor_val_one]
    show n.val / 16384 % 4 * 16384 + n.val % 16384 = n.val
    have := n.isLt
    omega)

theorem wrapped_apply (ix : S4x16384.Idx → BitVec 32) (hix : ∀ j, (ix j).toNat < 98304) (n : Fin 65536) :
    wrapped ix (ix1 n) = ix (Cert.Proof.Gather.pos n.val) := by
  show (if IntOp.cmpi .slt (shapeCast S65536 ix shapeCasts_S4x16384_S65536 (ix1 n)) 0#32 = 1#1 then _
    else shapeCast S65536 ix shapeCasts_S4x16384_S65536 (ix1 n)) = _
  rw [cast_words, not_neg _ (hix _), if_neg (by decide)]

/-- The reference's result is the gathered rows of the table seen as rows of two lines of 128. -/
theorem reference_eq (tab : S98304x256.Idx → Elt F .i32) (ix : S4x16384.Idx → BitVec 32) (hix : ∀ j, (ix j).toNat < 98304) :
    shapeCast S65536x2x128 (Host.gather gather_S98304x256_S65536x1_S65536x256_1_0_n_n_0_1_1256 tab
        (broadcastInDim S65536x1 ![0] bcast_S65536_S65536x1_0 (wrapped ix))) shapeCasts_S65536x256_S65536x2x128
      = Cert.Proof.Gather.target (F := F) (shapeCast Cert.KernelIdeal.S98304x2x128 tab Cert.KernelIdeal.Gen.shapeCasts_S98304x256_S98304x2x128) ix := by
  funext x
  obtain ⟨n, p, l, rfl⟩ : ∃ (n : Fin 65536) (p : Fin 2) (l : Fin 128), x = ix3 n p l := ⟨x 0, x 1, x 2, by
    funext a; match a with | 0 => rfl | 1 => rfl | 2 => rfl⟩
  have hp := p.isLt
  have hl := l.isLt
  have hw := hix (Cert.Proof.Gather.pos n.val)
  rw [shapeCast_apply _ _ (ix3 n p l) (ix2 n (⟨128 * p.val + l.val, by omega⟩ : Fin 256)) (by
    rw [Shape.rowMajor_val_two, Shape.rowMajor_val_three]
    show n.val * 256 + (128 * p.val + l.val) = (n.val * 2 + p.val) * 128 + l.val
    omega)]
  rw [Routing.gather_row gather_S98304x256_S65536x1_S65536x256_1_0_n_n_0_1_1256 rfl rfl rfl rfl rfl tab _ n _
    ⟨(ix (Cert.Proof.Gather.pos n.val)).toNat, hw⟩ (by
      show wrapped ix _ = _
      refine (congrArg (wrapped ix) (?_ : _ = ix1 n)).trans ?_
      · funext a; match a with | 0 => rfl
      · exact (wrapped_apply ix hix n).trans (by simp)) (by decide)]
  show _ = shapeCast Cert.KernelIdeal.S98304x2x128 tab _ (Cert.Proof.Gather.ixT ⟨(ix (Cert.Proof.Gather.pos n.val)).toNat % 98304, _⟩ p l)
  refine (shapeCast_apply _ _ _ _ ?_).symm
  rw [Shape.rowMajor_val_two, Shape.rowMajor_val_three]
  show (ix (Cert.Proof.Gather.pos n.val)).toNat * 256 + (128 * p.val + l.val)
    = ((ix (Cert.Proof.Gather.pos n.val)).toNat % 98304 * 2 + p.val) * 128 + l.val
  rw [Nat.mod_eq_of_lt hw]
  omega

/-- The precondition: every row number, not negative as a signed word, is its own value, below the table's rows. -/
theorem in_rows (tab : Cert.Pre_idx_in_rows.S98304x256.Idx → Elt F .i32) (ix : S4x16384.Idx → BitVec 32) [FloatOps F]
    (h : ∀ j, Cert.Pre_idx_in_rows.fn (F := F) tab ix j = 1#1) (j : S4x16384.Idx) : (ix j).toNat < 98304 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 98304#32) = 1#1 → v.toNat < 98304 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := h j
  simp only [Cert.Pre_idx_in_rows.fn, andi, cmpi, broadcastInDim, constantI] at e
  exact key _ e

end Cert.Proof.Value

end
-- ==== Proof.ExpertsBody.lean ====
/-
  The experts' body at one grid point: four tiles of 512 rows, each computed from the point's rows and its expert's three
  matrices and stored into its rows of the output block, or passed over.
-/
module

public import proofs.«01_k».proof.Defs
public import proofs.«01_k».proof.Proof.Gen.Kernel2Ideal.Skeleton
public import proofs.«01_k».proof.Proof.Gen.Kernel2Ideal.Launch
public import Idealize.ShloMosaic.Lib.Pipeline.Frame
public import Idealize.ShloMosaic.Lib.Tactic

@[expose] public section

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a tile leaves in the output block -/

/-- One write through a rectangle, read back: the rectangle's values over what was there. -/
theorem read_writes_one {sh : Shape} {e : EltTy} {κ : Kind} {sp : Space} (v : View sig κ sp sh e) (f : v.ty.Contents (Elt F)) (r : Rect sh) (w : r.shape.Idx → Elt F e) :
    v.read (Elt F) (v.writes (Elt F) f [⟨r, w⟩]) = r.overlay (v.read (Elt F) f) w := by
  funext y
  by_cases hy : y ∈ r.set
  · obtain ⟨x, hx⟩ := r.exists_idx_of_mem hy
    have hx : r.emb x = y := hx
    subst hx
    rw [Rect.overlay_emb]; exact View.read_writes_cons_emb v f r w [] x
  · rw [Rect.overlay_of_not_mem _ _ _ hy]
    exact View.read_writes_cons_miss v f ⟨r, w⟩ [] y hy

/-- The output block after tile 1: rows 0 to 511 at the tile's payload when its condition holds, the rest as it was. -/
def upd1 (b : BitVec 1) (X : Vec F S2x2048x256 .i32) (G U : Vec F S1x1024x512 .bf16) (D : Vec F S1x512x1024 .bf16) (Y : Vec F S2048x1024 .bf16) : Vec F S2048x1024 .bf16 :=
  if b = 1#1 then
    (Rect.unit (s := S2048x1024) ![0, 0] S512x1024.size inb_S2048x1024_S512x1024_0_0).overlay Y
      (k0_pay1 (k0_pay5 (fun x => X ((Rect.unit (s := S2x2048x256) ![0, 0, 0] S1x512x256.size inb_S2x2048x256_S1x512x256_0_0_0).emb x))
          (fun x => X ((Rect.unit (s := S2x2048x256) ![1, 0, 0] S1x512x256.size inb_S2x2048x256_S1x512x256_1_0_0).emb x))
          (fun x => G ((Rect.unit (s := S1x1024x512) ![0, 0, 0] S1x1024x512.size inb_S1x1024x512_S1x1024x512_0_0_0).emb x))
          (fun x => U ((Rect.unit (s := S1x1024x512) ![0, 0, 0] S1x1024x512.size inb_S1x1024x512_S1x1024x512_0_0_0).emb x)))
        (fun x => D ((Rect.unit (s := S1x512x1024) ![0, 0, 0] S1x512x1024.size inb_S1x512x1024_S1x512x1024_0_0_0).emb x)))
  else Y

/-- The output block after tile 2: rows 512 to 1023 at the tile's payload when its condition holds, the rest as it was. -/
def upd2 (b : BitVec 1) (X : Vec F S2x2048x256 .i32) (G U : Vec F S1x1024x512 .bf16) (D : Vec F S1x512x1024 .bf16) (Y : Vec F S2048x1024 .bf16) : Vec F S2048x1024 .bf16 :=
  if b = 1#1 then
    (Rect.unit (s := S2048x1024) ![512, 0] S512x1024.size inb_S2048x1024_S512x1024_512_0).overlay Y
      (k0_pay2 (k0_pay6 (fun x => X ((Rect.unit (s := S2x2048x256) ![0, 512, 0] S1x512x256.size inb_S2x2048x256_S1x512x256_0_512_0).emb x))
          (fun x => X ((Rect.unit (s := S2x2048x256) ![1, 512, 0] S1x512x256.size inb_S2x2048x256_S1x512x256_1_512_0).emb x))
          (fun x => G ((Rect.unit (s := S1x1024x512) ![0, 0, 0] S1x1024x512.size inb_S1x1024x512_S1x1024x512_0_0_0).emb x))
          (fun x => U ((Rect.unit (s := S1x1024x512) ![0, 0, 0] S1x1024x512.size inb_S1x1024x512_S1x1024x512_0_0_0).emb x)))
        (fun x => D ((Rect.unit (s := S1x512x1024) ![0, 0, 0] S1x512x1024.size inb_S1x512x1024_S1x512x1024_0_0_0).emb x)))
  else Y

/-- The output block after tile 3: rows 1024 to 1535 at the tile's payload when its condition holds, the rest as it was. -/
def upd3 (b : BitVec 1) (X : Vec F S2x2048x256 .i32) (G U : Vec F S1x1024x512 .bf16) (D : Vec F S1x512x1024 .bf16) (Y : Vec F S2048x1024 .bf16) : Vec F S2048x1024 .bf16 :=
  if b = 1#1 then
    (Rect.unit (s := S2048x1024) ![1024, 0] S512x1024.size inb_S2048x1024_S512x1024_1024_0).overlay Y
      (k0_pay3 (k0_pay7 (fun x => X ((Rect.unit (s := S2x2048x256) ![0, 1024, 0] S1x512x256.size inb_S2x2048x256_S1x512x256_0_1024_0).emb x))
          (fun x => X ((Rect.unit (s := S2x2048x256) ![1, 1024, 0] S1x512x256.size inb_S2x2048x256_S1x512x256_1_1024_0).emb x))
          (fun x => G ((Rect.unit (s := S1x1024x512) ![0, 0, 0] S1x1024x512.size inb_S1x1024x512_S1x1024x512_0_0_0).emb x))
          (fun x => U ((Rect.unit (s := S1x1024x512) ![0, 0, 0] S1x1024x512.size inb_S1x1024x512_S1x1024x512_0_0_0).emb x)))
        (fun x => D ((Rect.unit (s := S1x512x1024) ![0, 0, 0] S1x512x1024.size inb_S1x512x1024_S1x512x1024_0_0_0).emb x)))
  else Y

/-- The output block after tile 4: rows 1536 to 2047 at the tile's payload when its condition holds, the rest as it was. -/
def upd4 (b : BitVec 1) (X : Vec F S2x2048x256 .i32) (G U : Vec F S1x1024x512 .bf16) (D : Vec F S1x512x1024 .bf16) (Y : Vec F S2048x1024 .bf16) : Vec F S2048x1024 .bf16 :=
  if b = 1#1 then
    (Rect.unit (s := S2048x1024) ![1536, 0] S512x1024.size inb_S2048x1024_S512x1024_1536_0).overlay Y
      (k0_pay4 (k0_pay8 (fun x => X ((Rect.unit (s := S2x2048x256) ![0, 1536, 0] S1x512x256.size inb_S2x2048x256_S1x512x256_0_1536_0).emb x))
          (fun x => X ((Rect.unit (s := S2x2048x256) ![1, 1536, 0] S1x512x256.size inb_S2x2048x256_S1x512x256_1_1536_0).emb x))
          (fun x => G ((Rect.unit (s := S1x1024x512) ![0, 0, 0] S1x1024x512.size inb_S1x1024x512_S1x1024x512_0_0_0).emb x))
          (fun x => U ((Rect.unit (s := S1x1024x512) ![0, 0, 0] S1x1024x512.size inb_S1x1024x512_S1x1024x512_0_0_0).emb x)))
        (fun x => D ((Rect.unit (s := S1x512x1024) ![0, 0, 0] S1x512x1024.size inb_S1x512x1024_S1x512x1024_0_0_0).emb x)))
  else Y

/-! ## The four tiles -/

/-- Tile 1, taken or passed over. -/
theorem tile1 (c : Dev nD) (i : grid0.Coords)
    (arg1 : Memref sig .tc .smem S96 .i32) (harg1 : arg1.IsWhole) (arg2 : Memref sig .tc .smem S24 .i32) (harg2 : arg2.IsWhole)
    (arg3 : Memref sig .tc .smem S1 .i32) (harg3 : arg3.IsWhole) (arg4 : Memref sig .tc .vmem S2x2048x256 .i32) (harg4 : arg4.IsWhole)
    (arg5 : Memref sig .tc .vmem S1x1024x512 .bf16) (harg5 : arg5.IsWhole) (arg6 : Memref sig .tc .vmem S1x1024x512 .bf16) (harg6 : arg6.IsWhole)
    (arg7 : Memref sig .tc .vmem S1x512x1024 .bf16) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S1x1024x512 .bf16) (harg14 : arg14.IsWhole)
    (arg15 : Memref sig .tc .vmem S1x1024x512 .bf16) (harg15 : arg15.IsWhole) (arg16 : Memref sig .tc .vmem S1x512x1024 .bf16) (harg16 : arg16.IsWhole)
    (arg17 : Memref sig .tc .vmem S2048x1024 .bf16) (harg17 : arg17.IsWhole)
    (b : BitVec 1) (X : Vec F S2x2048x256 .i32) (G U : Vec F S1x1024x512 .bf16) (D : Vec F S1x512x1024 .bf16) (Y : Vec F S2048x1024 .bf16) (K : PUnit → sProp 𝕄) :
    iprop(owns (c : Thread nD τ) arg4 fullShare X ∗ owns (c : Thread nD τ) arg5 fullShare G ∗ owns (c : Thread nD τ) arg6 fullShare U
        ∗ owns (c : Thread nD τ) arg7 fullShare D ∗ owns (c : Thread nD τ) arg17 fullShare Y
        ∗ (iprop(owns (c : Thread nD τ) arg4 fullShare X ∗ owns (c : Thread nD τ) arg5 fullShare G ∗ owns (c : Thread nD τ) arg6 fullShare U
        ∗ owns (c : Thread nD τ) arg7 fullShare D ∗ owns (c : Thread nD τ) arg17 fullShare (upd1 b X G U D Y)) -∗ K ⟨⟩))
      ⊢ wp frame (wpE (defs₀ (F := F)) Variants.none c none) Set.univ
          (if b = 1#1 then do
            let v67 : FVec F S512x512 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            let v68 : Vec F S1x512x1024 .bf16 ← Prog.lift (.load arg7 (Rect.unit (s := S1x512x1024) ![0, 0, 0] S1x512x1024.size inb_S1x512x1024_S1x512x1024_0_0_0).toLoadRect (View.loadsAt_vmem h_S1x512x1024))
            let v72 : Vec F S512x1024 .bf16 ← Prog.lift (.load arg17 (Rect.unit (s := S2048x1024) ![0, 0] S512x1024.size inb_S2048x1024_S512x1024_0_0).toLoadRect (View.loadsAt_vmem h_S512x1024))
            Prog.lift (.store arg17 (Rect.unit (s := S2048x1024) ![0, 0] S512x1024.size inb_S2048x1024_S512x1024_0_0) (k0_pay1 v67 v68) Finset.univ (View.stores_vmem h_S512x1024 (harg17.storeExact_slice rfl _ packedbf16_S2048x1024_S512x1024_0_0) (fun _ => rfl)) (.inl rfl))
            pure ⟨⟩
          else do pure ⟨⟩) K := by
  by_cases hb : b = 1#1
  · rw [if_pos hb, upd1, if_pos hb, k0_part1_eq_skeleton]; unfold k0_part1_skel
    unfold owns
    iintro ⟨⟨%f4, %h4, H4⟩, ⟨%fg, %hg, Hg⟩, ⟨%fu, %hu, Hu⟩, ⟨%fd, %hd, Hd⟩, ⟨%fo, %ho, Ho⟩, Hk⟩
    sl_exec
    sl_step
    iapply Hk
    isplitl [H4]
    · iexists f4; isplitr; · ipureintro; exact h4
      iexact H4
    isplitl [Hg]
    · iexists fg; isplitr; · ipureintro; exact hg
      iexact Hg
    isplitl [Hu]
    · iexists fu; isplitr; · ipureintro; exact hu
      iexact Hu
    isplitl [Hd]
    · iexists fd; isplitr; · ipureintro; exact hd
      iexact Hd
    iexists _; isplitr; swap; · iexact Ho
    ipureintro
    rw [read_writes_one, ho]
    subst h4 hg hu hd
    rfl
  · rw [if_neg hb, upd1, if_neg hb]
    iintro ⟨H4, Hg, Hu, Hd, Ho, Hk⟩
    sl_step
    iapply Hk
    isplitl [H4]; · iexact H4
    isplitl [Hg]; · iexact Hg
    isplitl [Hu]; · iexact Hu
    isplitl [Hd]; · iexact Hd
    iexact Ho

/-- Tile 2, taken or passed over. -/
theorem tile2 (c : Dev nD) (i : grid0.Coords)
    (arg1 : Memref sig .tc .smem S96 .i32) (harg1 : arg1.IsWhole) (arg2 : Memref sig .tc .smem S24 .i32) (harg2 : arg2.IsWhole)
    (arg3 : Memref sig .tc .smem S1 .i32) (harg3 : arg3.IsWhole) (arg4 : Memref sig .tc .vmem S2x2048x256 .i32) (harg4 : arg4.IsWhole)
    (arg5 : Memref sig .tc .vmem S1x1024x512 .bf16) (harg5 : arg5.IsWhole) (arg6 : Memref sig .tc .vmem S1x1024x512 .bf16) (harg6 : arg6.IsWhole)
    (arg7 : Memref sig .tc .vmem S1x512x1024 .bf16) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S1x1024x512 .bf16) (harg14 : arg14.IsWhole)
    (arg15 : Memref sig .tc .vmem S1x1024x512 .bf16) (harg15 : arg15.IsWhole) (arg16 : Memref sig .tc .vmem S1x512x1024 .bf16) (harg16 : arg16.IsWhole)
    (arg17 : Memref sig .tc .vmem S2048x1024 .bf16) (harg17 : arg17.IsWhole)
    (b : BitVec 1) (X : Vec F S2x2048x256 .i32) (G U : Vec F S1x1024x512 .bf16) (D : Vec F S1x512x1024 .bf16) (Y : Vec F S2048x1024 .bf16) (K : PUnit → sProp 𝕄) :
    iprop(owns (c : Thread nD τ) arg4 fullShare X ∗ owns (c : Thread nD τ) arg8 fullShare G ∗ owns (c : Thread nD τ) arg9 fullShare U
        ∗ owns (c : Thread nD τ) arg10 fullShare D ∗ owns (c : Thread nD τ) arg17 fullShare Y
        ∗ (iprop(owns (c : Thread nD τ) arg4 fullShare X ∗ owns (c : Thread nD τ) arg8 fullShare G ∗ owns (c : Thread nD τ) arg9 fullShare U
        ∗ owns (c : Thread nD τ) arg10 fullShare D ∗ owns (c : Thread nD τ) arg17 fullShare (upd2 b X G U D Y)) -∗ K ⟨⟩))
      ⊢ wp frame (wpE (defs₀ (F := F)) Variants.none c none) Set.univ
          (if b = 1#1 then do
            let v67 : FVec F S512x512 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            let v68 : Vec F S1x512x1024 .bf16 ← Prog.lift (.load arg10 (Rect.unit (s := S1x512x1024) ![0, 0, 0] S1x512x1024.size inb_S1x512x1024_S1x512x1024_0_0_0).toLoadRect (View.loadsAt_vmem h_S1x512x1024))
            let v72 : Vec F S512x1024 .bf16 ← Prog.lift (.load arg17 (Rect.unit (s := S2048x1024) ![512, 0] S512x1024.size inb_S2048x1024_S512x1024_512_0).toLoadRect (View.loadsAt_vmem h_S512x1024))
            Prog.lift (.store arg17 (Rect.unit (s := S2048x1024) ![512, 0] S512x1024.size inb_S2048x1024_S512x1024_512_0) (k0_pay2 v67 v68) Finset.univ (View.stores_vmem h_S512x1024 (harg17.storeExact_slice rfl _ packedbf16_S2048x1024_S512x1024_512_0) (fun _ => rfl)) (.inl rfl))
            pure ⟨⟩
          else do pure ⟨⟩) K := by
  by_cases hb : b = 1#1
  · rw [if_pos hb, upd2, if_pos hb, k0_part2_eq_skeleton]; unfold k0_part2_skel
    unfold owns
    iintro ⟨⟨%f4, %h4, H4⟩, ⟨%fg, %hg, Hg⟩, ⟨%fu, %hu, Hu⟩, ⟨%fd, %hd, Hd⟩, ⟨%fo, %ho, Ho⟩, Hk⟩
    sl_exec
    sl_step
    iapply Hk
    isplitl [H4]
    · iexists f4; isplitr; · ipureintro; exact h4
      iexact H4
    isplitl [Hg]
    · iexists fg; isplitr; · ipureintro; exact hg
      iexact Hg
    isplitl [Hu]
    · iexists fu; isplitr; · ipureintro; exact hu
      iexact Hu
    isplitl [Hd]
    · iexists fd; isplitr; · ipureintro; exact hd
      iexact Hd
    iexists _; isplitr; swap; · iexact Ho
    ipureintro
    rw [read_writes_one, ho]
    subst h4 hg hu hd
    rfl
  · rw [if_neg hb, upd2, if_neg hb]
    iintro ⟨H4, Hg, Hu, Hd, Ho, Hk⟩
    sl_step
    iapply Hk
    isplitl [H4]; · iexact H4
    isplitl [Hg]; · iexact Hg
    isplitl [Hu]; · iexact Hu
    isplitl [Hd]; · iexact Hd
    iexact Ho

/-- Tile 3, taken or passed over. -/
theorem tile3 (c : Dev nD) (i : grid0.Coords)
    (arg1 : Memref sig .tc .smem S96 .i32) (harg1 : arg1.IsWhole) (arg2 : Memref sig .tc .smem S24 .i32) (harg2 : arg2.IsWhole)
    (arg3 : Memref sig .tc .smem S1 .i32) (harg3 : arg3.IsWhole) (arg4 : Memref sig .tc .vmem S2x2048x256 .i32) (harg4 : arg4.IsWhole)
    (arg5 : Memref sig .tc .vmem S1x1024x512 .bf16) (harg5 : arg5.IsWhole) (arg6 : Memref sig .tc .vmem S1x1024x512 .bf16) (harg6 : arg6.IsWhole)
    (arg7 : Memref sig .tc .vmem S1x512x1024 .bf16) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S1x1024x512 .bf16) (harg14 : arg14.IsWhole)
    (arg15 : Memref sig .tc .vmem S1x1024x512 .bf16) (harg15 : arg15.IsWhole) (arg16 : Memref sig .tc .vmem S1x512x1024 .bf16) (harg16 : arg16.IsWhole)
    (arg17 : Memref sig .tc .vmem S2048x1024 .bf16) (harg17 : arg17.IsWhole)
    (b : BitVec 1) (X : Vec F S2x2048x256 .i32) (G U : Vec F S1x1024x512 .bf16) (D : Vec F S1x512x1024 .bf16) (Y : Vec F S2048x1024 .bf16) (K : PUnit → sProp 𝕄) :
    iprop(owns (c : Thread nD τ) arg4 fullShare X ∗ owns (c : Thread nD τ) arg11 fullShare G ∗ owns (c : Thread nD τ) arg12 fullShare U
        ∗ owns (c : Thread nD τ) arg13 fullShare D ∗ owns (c : Thread nD τ) arg17 fullShare Y
        ∗ (iprop(owns (c : Thread nD τ) arg4 fullShare X ∗ owns (c : Thread nD τ) arg11 fullShare G ∗ owns (c : Thread nD τ) arg12 fullShare U
        ∗ owns (c : Thread nD τ) arg13 fullShare D ∗ owns (c : Thread nD τ) arg17 fullShare (upd3 b X G U D Y)) -∗ K ⟨⟩))
      ⊢ wp frame (wpE (defs₀ (F := F)) Variants.none c none) Set.univ
          (if b = 1#1 then do
            let v67 : FVec F S512x512 .bf16 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            let v68 : Vec F S1x512x1024 .bf16 ← Prog.lift (.load arg13 (Rect.unit (s := S1x512x1024) ![0, 0, 0] S1x512x1024.size inb_S1x512x1024_S1x512x1024_0_0_0).toLoadRect (View.loadsAt_vmem h_S1x512x1024))
            let v72 : Vec F S512x1024 .bf16 ← Prog.lift (.load arg17 (Rect.unit (s := S2048x1024) ![1024, 0] S512x1024.size inb_S2048x1024_S512x1024_1024_0).toLoadRect (View.loadsAt_vmem h_S512x1024))
            Prog.lift (.store arg17 (Rect.unit (s := S2048x1024) ![1024, 0] S512x1024.size inb_S2048x1024_S512x1024_1024_0) (k0_pay3 v67 v68) Finset.univ (View.stores_vmem h_S512x1024 (harg17.storeExact_slice rfl _ packedbf16_S2048x1024_S512x1024_1024_0) (fun _ => rfl)) (.inl rfl))
            pure ⟨⟩
          else do pure ⟨⟩) K := by
  by_cases hb : b = 1#1
  · rw [if_pos hb, upd3, if_pos hb, k0_part3_eq_skeleton]; unfold k0_part3_skel
    unfold owns
    iintro ⟨⟨%f4, %h4, H4⟩, ⟨%fg, %hg, Hg⟩, ⟨%fu, %hu, Hu⟩, ⟨%fd, %hd, Hd⟩, ⟨%fo, %ho, Ho⟩, Hk⟩
    sl_exec
    sl_step
    iapply Hk
    isplitl [H4]
    · iexists f4; isplitr; · ipureintro; exact h4
      iexact H4
    isplitl [Hg]
    · iexists fg; isplitr; · ipureintro; exact hg
      iexact Hg
    isplitl [Hu]
    · iexists fu; isplitr; · ipureintro; exact hu
      iexact Hu
    isplitl [Hd]
    · iexists fd; isplitr; · ipureintro; exact hd
      iexact Hd
    iexists _; isplitr; swap; · iexact Ho
    ipureintro
    rw [read_writes_one, ho]
    subst h4 hg hu hd
    rfl
  · rw [if_neg hb, upd3, if_neg hb]
    iintro ⟨H4, Hg, Hu, Hd, Ho, Hk⟩
    sl_step
    iapply Hk
    isplitl [H4]; · iexact H4
    isplitl [Hg]; · iexact Hg
    isplitl [Hu]; · iexact Hu
    isplitl [Hd]; · iexact Hd
    iexact Ho

/-- Tile 4, taken or passed over. -/
theorem tile4 (c : Dev nD) (i : grid0.Coords)
    (arg1 : Memref sig .tc .smem S96 .i32) (harg1 : arg1.IsWhole) (arg2 : Memref sig .tc .smem S24 .i32) (harg2 : arg2.IsWhole)
    (arg3 : Memref sig .tc .smem S1 .i32) (harg3 : arg3.IsWhole) (arg4 : Memref sig .tc .vmem S2x2048x256 .i32) (harg4 : arg4.IsWhole)
    (arg5 : Memref sig .tc .vmem S1x1024x512 .bf16) (harg5 : arg5.IsWhole) (arg6 : Memref sig .tc .vmem S1x1024x512 .bf16) (harg6 : arg6.IsWhole)
    (arg7 : Memref sig .tc .vmem S1x512x1024 .bf16) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S1x1024x512 .bf16) (harg14 : arg14.IsWhole)
    (arg15 : Memref sig .tc .vmem S1x1024x512 .bf16) (harg15 : arg15.IsWhole) (arg16 : Memref sig .tc .vmem S1x512x1024 .bf16) (harg16 : arg16.IsWhole)
    (arg17 : Memref sig .tc .vmem S2048x1024 .bf16) (harg17 : arg17.IsWhole)
    (b : BitVec 1) (X : Vec F S2x2048x256 .i32) (G U : Vec F S1x1024x512 .bf16) (D : Vec F S1x512x1024 .bf16) (Y : Vec F S2048x1024 .bf16) (K : PUnit → sProp 𝕄) :
    iprop(owns (c : Thread nD τ) arg4 fullShare X ∗ owns (c : Thread nD τ) arg14 fullShare G ∗ owns (c : Thread nD τ) arg15 fullShare U
        ∗ owns (c : Thread nD τ) arg16 fullShare D ∗ owns (c : Thread nD τ) arg17 fullShare Y
        ∗ (iprop(owns (c : Thread nD τ) arg4 fullShare X ∗ owns (c : Thread nD τ) arg14 fullShare G ∗ owns (c : Thread nD τ) arg15 fullShare U
        ∗ owns (c : Thread nD τ) arg16 fullShare D ∗ owns (c : Thread nD τ) arg17 fullShare (upd4 b X G U D Y)) -∗ K ⟨⟩))
      ⊢ wp frame (wpE (defs₀ (F := F)) Variants.none c none) Set.univ
          (if b = 1#1 then do
            let v67 : FVec F S512x512 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            let v68 : Vec F S1x512x1024 .bf16 ← Prog.lift (.load arg16 (Rect.unit (s := S1x512x1024) ![0, 0, 0] S1x512x1024.size inb_S1x512x1024_S1x512x1024_0_0_0).toLoadRect (View.loadsAt_vmem h_S1x512x1024))
            let v72 : Vec F S512x1024 .bf16 ← Prog.lift (.load arg17 (Rect.unit (s := S2048x1024) ![1536, 0] S512x1024.size inb_S2048x1024_S512x1024_1536_0).toLoadRect (View.loadsAt_vmem h_S512x1024))
            Prog.lift (.store arg17 (Rect.unit (s := S2048x1024) ![1536, 0] S512x1024.size inb_S2048x1024_S512x1024_1536_0) (k0_pay4 v67 v68) Finset.univ (View.stores_vmem h_S512x1024 (harg17.storeExact_slice rfl _ packedbf16_S2048x1024_S512x1024_1536_0) (fun _ => rfl)) (.inl rfl))
            pure ⟨⟩
          else do pure ⟨⟩) K := by
  by_cases hb : b = 1#1
  · rw [if_pos hb, upd4, if_pos hb, k0_part4_eq_skeleton]; unfold k0_part4_skel
    unfold owns
    iintro ⟨⟨%f4, %h4, H4⟩, ⟨%fg, %hg, Hg⟩, ⟨%fu, %hu, Hu⟩, ⟨%fd, %hd, Hd⟩, ⟨%fo, %ho, Ho⟩, Hk⟩
    sl_exec
    sl_step
    iapply Hk
    isplitl [H4]
    · iexists f4; isplitr; · ipureintro; exact h4
      iexact H4
    isplitl [Hg]
    · iexists fg; isplitr; · ipureintro; exact hg
      iexact Hg
    isplitl [Hu]
    · iexists fu; isplitr; · ipureintro; exact hu
      iexact Hu
    isplitl [Hd]
    · iexists fd; isplitr; · ipureintro; exact hd
      iexact Hd
    iexists _; isplitr; swap; · iexact Ho
    ipureintro
    rw [read_writes_one, ho]
    subst h4 hg hu hd
    rfl
  · rw [if_neg hb, upd4, if_neg hb]
    iintro ⟨H4, Hg, Hu, Hd, Ho, Hk⟩
    sl_step
    iapply Hk
    isplitl [H4]; · iexact H4
    isplitl [Hg]; · iexact Hg
    isplitl [Hu]; · iexact Hu
    isplitl [Hd]; · iexact Hd
    iexact Ho

/-! ## The body -/

/-- A conditional whose two ways join: its ways end first, then what follows. -/
theorem join_eq (b : Prop) [Decidable b] {α β γ : Type} (A : Prog (TpuEff nD τ sig (Elt F) Λ₀ .tc) α) (B : α → Prog (TpuEff nD τ sig (Elt F) Λ₀ .tc) β)
    (C : α → β → Prog (TpuEff nD τ sig (Elt F) Λ₀ .tc) γ) (S : α → β → γ → Prog (TpuEff nD τ sig (Elt F) Λ₀ .tc) PUnit) (J : Prog (TpuEff nD τ sig (Elt F) Λ₀ .tc) PUnit) :
    (if _h : b then A >>= fun a => B a >>= fun v => C a v >>= fun w => S a v w >>= fun _ => J else J)
      = (if b then A >>= fun a => B a >>= fun v => C a v >>= fun w => S a v w >>= fun _ => (Pure.pure PUnit.unit : Prog (TpuEff nD τ sig (Elt F) Λ₀ .tc) PUnit)
          else (Pure.pure PUnit.unit : Prog (TpuEff nD τ sig (Elt F) Λ₀ .tc) PUnit)) >>= fun _ => J := by
  by_cases hb : b
  · rw [dif_pos hb, if_pos hb]; simp only [bind_assoc, pure_bind]
  · rw [dif_neg hb, if_neg hb]; simp only [pure_bind]

theorem wp_join (c : Dev nD) (b : Prop) [Decidable b] {α β γ : Type} (A : Prog (TpuEff nD τ sig (Elt F) Λ₀ .tc) α) (B : α → Prog (TpuEff nD τ sig (Elt F) Λ₀ .tc) β)
    (C : α → β → Prog (TpuEff nD τ sig (Elt F) Λ₀ .tc) γ) (S : α → β → γ → Prog (TpuEff nD τ sig (Elt F) Λ₀ .tc) PUnit) (J : Prog (TpuEff nD τ sig (Elt F) Λ₀ .tc) PUnit) (K : PUnit → sProp 𝕄) :
    wp frame (wpE (defs₀ (F := F)) Variants.none c none) Set.univ
        (if _h : b then A >>= fun a => B a >>= fun v => C a v >>= fun w => S a v w >>= fun _ => J else J) K
      = wp frame (wpE (defs₀ (F := F)) Variants.none c none) Set.univ
        (if b then A >>= fun a => B a >>= fun v => C a v >>= fun w => S a v w >>= fun _ => (Pure.pure PUnit.unit : Prog (TpuEff nD τ sig (Elt F) Λ₀ .tc) PUnit)
          else (Pure.pure PUnit.unit : Prog (TpuEff nD τ sig (Elt F) Λ₀ .tc) PUnit))
        fun _ => wp frame (wpE (defs₀ (F := F)) Variants.none c none) Set.univ J K := by
  rw [join_eq, wp_bind]

/-- A prefetched table's share during the points, at its contents. -/
abbrev tbPt (c : Dev nD) {S : Shape} (M : Memref sig .tc .smem S .i32) (f : Buf (Elt F) (M.view.loc (c : Thread nD τ))) : sProp 𝕄 :=
  M.view.loc (c : Thread nD τ) ↦{fullShare.right} f
/-- The word the second table holds for the point, and the third table's one word. -/
def word2 (c : Dev nD) (i : grid0.Coords) (arg2 : Memref sig .tc .smem S24 .i32) (t2 : Buf (Elt F) (arg2.view.loc (c : Thread nD τ))) : BitVec 32 :=
  (arg2.access (Rect.unit (s := S24) (k0_off1 i) S1.size (k0_off1_inb i))).read (Elt F) t2 (Shape.Idx.first (numel1_S1.symm ▸ Nat.one_pos))
def word3 (c : Dev nD) (arg3 : Memref sig .tc .smem S1 .i32) (t3 : Buf (Elt F) (arg3.view.loc (c : Thread nD τ))) : BitVec 32 :=
  (arg3.access (Rect.unit (s := S1) ![0] S1.size inb_S1_S1_0)).read (Elt F) t3 (Shape.Idx.first (numel1_S1.symm ▸ Nat.one_pos))

set_option maxHeartbeats 1000000 in
theorem kernelRun (c : Dev nD) (i : grid0.Coords)
    (arg1 : Memref sig .tc .smem S96 .i32) (harg1 : arg1.IsWhole) (arg2 : Memref sig .tc .smem S24 .i32) (harg2 : arg2.IsWhole)
    (arg3 : Memref sig .tc .smem S1 .i32) (harg3 : arg3.IsWhole) (arg4 : Memref sig .tc .vmem S2x2048x256 .i32) (harg4 : arg4.IsWhole)
    (arg5 : Memref sig .tc .vmem S1x1024x512 .bf16) (harg5 : arg5.IsWhole) (arg6 : Memref sig .tc .vmem S1x1024x512 .bf16) (harg6 : arg6.IsWhole)
    (arg7 : Memref sig .tc .vmem S1x512x1024 .bf16) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S1x1024x512 .bf16) (harg14 : arg14.IsWhole)
    (arg15 : Memref sig .tc .vmem S1x1024x512 .bf16) (harg15 : arg15.IsWhole) (arg16 : Memref sig .tc .vmem S1x512x1024 .bf16) (harg16 : arg16.IsWhole)
    (arg17 : Memref sig .tc .vmem S2048x1024 .bf16) (harg17 : arg17.IsWhole)
    (t1 : Buf (Elt F) (arg1.view.loc (c : Thread nD τ))) (t2 : Buf (Elt F) (arg2.view.loc (c : Thread nD τ))) (t3 : Buf (Elt F) (arg3.view.loc (c : Thread nD τ)))
    (X : Vec F S2x2048x256 .i32) (G1 U1 G2 U2 G3 U3 G4 U4 : Vec F S1x1024x512 .bf16) (D1 D2 D3 D4 : Vec F S1x512x1024 .bf16) (Y : Vec F S2048x1024 .bf16) (K : PUnit → sProp 𝕄) :
    iprop((tbPt c arg1 t1 ∗ tbPt c arg2 t2 ∗ tbPt c arg3 t3) ∗ owns (c : Thread nD τ) arg4 fullShare X ∗ owns (c : Thread nD τ) arg5 fullShare G1 ∗ owns (c : Thread nD τ) arg6 fullShare U1 ∗ owns (c : Thread nD τ) arg7 fullShare D1 ∗ owns (c : Thread nD τ) arg8 fullShare G2 ∗ owns (c : Thread nD τ) arg9 fullShare U2 ∗ owns (c : Thread nD τ) arg10 fullShare D2 ∗ owns (c : Thread nD τ) arg11 fullShare G3 ∗ owns (c : Thread nD τ) arg12 fullShare U3 ∗ owns (c : Thread nD τ) arg13 fullShare D3 ∗ owns (c : Thread nD τ) arg14 fullShare G4 ∗ owns (c : Thread nD τ) arg15 fullShare U4 ∗ owns (c : Thread nD τ) arg16 fullShare D4 ∗ owns (c : Thread nD τ) arg17 fullShare Y
        ∗ (iprop((tbPt c arg1 t1 ∗ tbPt c arg2 t2 ∗ tbPt c arg3 t3) ∗ owns (c : Thread nD τ) arg4 fullShare X ∗ owns (c : Thread nD τ) arg5 fullShare G1 ∗ owns (c : Thread nD τ) arg6 fullShare U1 ∗ owns (c : Thread nD τ) arg7 fullShare D1 ∗ owns (c : Thread nD τ) arg8 fullShare G2 ∗ owns (c : Thread nD τ) arg9 fullShare U2 ∗ owns (c : Thread nD τ) arg10 fullShare D2 ∗ owns (c : Thread nD τ) arg11 fullShare G3 ∗ owns (c : Thread nD τ) arg12 fullShare U3 ∗ owns (c : Thread nD τ) arg13 fullShare D3 ∗ owns (c : Thread nD τ) arg14 fullShare G4 ∗ owns (c : Thread nD τ) arg15 fullShare U4 ∗ owns (c : Thread nD τ) arg16 fullShare D4 ∗ owns (c : Thread nD τ) arg17 fullShare (upd4 (k0_cond4 i (word2 c i arg2 t2) (word3 c arg3 t3)) X G4 U4 D4 (upd3 (k0_cond3 i (word2 c i arg2 t2) (word3 c arg3 t3)) X G3 U3 D3 (upd2 (k0_cond2 i (word2 c i arg2 t2) (word3 c arg3 t3)) X G2 U2 D2 (upd1 (k0_cond1 i (word2 c i arg2 t2) (word3 c arg3 t3)) X G1 U1 D1 Y))))) -∗ K ⟨⟩))
      ⊢ wp frame (wpE (defs₀ (F := F)) Variants.none c none) Set.univ
          (cc0_experts i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_experts_eq_skeleton]; unfold cc0_experts_skel
  iintro ⟨⟨T1, T2, T3⟩, H4, H5, H6, H7, H8, H9, H10, H11, H12, H13, H14, H15, H16, H17, Hk⟩
  sl_exec
  iapply (Entails.of_eq (wp_join (F := F) c _ _ _ _ _ _ _).symm)
  iapply (tile1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ X G1 U1 D1 _ _)
  isplitl [H4]; · iexact H4
  isplitl [H5]; · iexact H5
  isplitl [H6]; · iexact H6
  isplitl [H7]; · iexact H7
  isplitl [H17]; · iexact H17
  iintro ⟨H4, H5, H6, H7, H17⟩
  sl_exec
  iapply (Entails.of_eq (wp_join (F := F) c _ _ _ _ _ _ _).symm)
  iapply (tile2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ X G2 U2 D2 _ _)
  isplitl [H4]; · iexact H4
  isplitl [H8]; · iexact H8
  isplitl [H9]; · iexact H9
  isplitl [H10]; · iexact H10
  isplitl [H17]; · iexact H17
  iintro ⟨H4, H8, H9, H10, H17⟩
  sl_exec
  iapply (Entails.of_eq (wp_join (F := F) c _ _ _ _ _ _ _).symm)
  iapply (tile3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ X G3 U3 D3 _ _)
  isplitl [H4]; · iexact H4
  isplitl [H11]; · iexact H11
  isplitl [H12]; · iexact H12
  isplitl [H13]; · iexact H13
  isplitl [H17]; · iexact H17
  iintro ⟨H4, H11, H12, H13, H17⟩
  sl_exec
  iapply (Entails.of_eq (wp_join (F := F) c _ _ _ _ _ _ _).symm)
  iapply (tile4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ X G4 U4 D4 _ _)
  isplitl [H4]; · iexact H4
  isplitl [H14]; · iexact H14
  isplitl [H15]; · iexact H15
  isplitl [H16]; · iexact H16
  isplitl [H17]; · iexact H17
  iintro ⟨H4, H14, H15, H16, H17⟩
  sl_step
  iapply Hk
  isplitl [T1 T2 T3]
  · isplitl [T1]; · iexact T1
    isplitl [T2]; · iexact T2
    iexact T3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Cert.Proof.Experts

end
-- ==== Proof.ExpertsRun.lean ====
/-
  The experts' call as the pipeline runs it: at each of the 24 points the body finds every input window at its block of its
  array, and leaves in the output window the four tiles' rows over what it found there. From any memory whose tables pass the
  pipeline's side condition the call runs to its end.
-/
module

public import proofs.«01_k».proof.Proof.ExpertsBody
public import Idealize.ShloMosaic.Lib.Pipeline.ArrRel
public import Idealize.ShloMosaic.Lib.Pipeline.Value

@[expose] public section

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The tables, as the launch memory holds them -/

/-- A buffer's launch contents. -/
def V (c : Dev nD) (b : Ref sig .tc) : Buf (Elt F) ((c : Thread nD τ).loc b) := m ((c : Thread nD τ).loc b)
/-- The three tables' contents: the mesh has one device. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- The pipeline's side condition of the tables: every block is inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tb1 : Memref sig .tc .smem S96 .i32 := Memref.whole main_arg1
abbrev tb2 : Memref sig .tc .smem S24 .i32 := Memref.whole main_arg2
abbrev tb3 : Memref sig .tc .smem S1 .i32 := Memref.whole main_arg3

theorem PhiT_eq (c : Dev nD) :
    (Pipeline.ΦT pre0 (tbl m) c : sProp 𝕄) = iprop(tbPt c tb1 (tbl m 0) ∗ tbPt c tb2 (tbl m 1) ∗ tbPt c tb3 (tbl m 2)) := by
  unfold Pipeline.ΦT Pipeline.prefHeld
  rw [show (Finset.univ : Finset (Fin 3)) = insert 0 (insert 1 {2}) from by decide, bigSep_insert (by decide), bigSep_insert (by decide), bigSep_singleton]
  rfl

/-! ## What the windows hold -/

variable (hO : Ok m)

/-- The block of a window's array at a point, as launched. -/
def iblk (c : Dev nD) (w : Fin 14) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))
abbrev xs (c : Dev nD) (t : Fin (cfgM m hO).N) : Vec F S2x2048x256 .i32 := iblk m hO c 0 t
abbrev wg1 (c : Dev nD) (t : Fin (cfgM m hO).N) : Vec F S1x1024x512 .bf16 := iblk m hO c 1 t
abbrev wu1 (c : Dev nD) (t : Fin (cfgM m hO).N) : Vec F S1x1024x512 .bf16 := iblk m hO c 2 t
abbrev wd1 (c : Dev nD) (t : Fin (cfgM m hO).N) : Vec F S1x512x1024 .bf16 := iblk m hO c 3 t
abbrev wg2 (c : Dev nD) (t : Fin (cfgM m hO).N) : Vec F S1x1024x512 .bf16 := iblk m hO c 4 t
abbrev wu2 (c : Dev nD) (t : Fin (cfgM m hO).N) : Vec F S1x1024x512 .bf16 := iblk m hO c 5 t
abbrev wd2 (c : Dev nD) (t : Fin (cfgM m hO).N) : Vec F S1x512x1024 .bf16 := iblk m hO c 6 t
abbrev wg3 (c : Dev nD) (t : Fin (cfgM m hO).N) : Vec F S1x1024x512 .bf16 := iblk m hO c 7 t
abbrev wu3 (c : Dev nD) (t : Fin (cfgM m hO).N) : Vec F S1x1024x512 .bf16 := iblk m hO c 8 t
abbrev wd3 (c : Dev nD) (t : Fin (cfgM m hO).N) : Vec F S1x512x1024 .bf16 := iblk m hO c 9 t
abbrev wg4 (c : Dev nD) (t : Fin (cfgM m hO).N) : Vec F S1x1024x512 .bf16 := iblk m hO c 10 t
abbrev wu4 (c : Dev nD) (t : Fin (cfgM m hO).N) : Vec F S1x1024x512 .bf16 := iblk m hO c 11 t
abbrev wd4 (c : Dev nD) (t : Fin (cfgM m hO).N) : Vec F S1x512x1024 .bf16 := iblk m hO c 12 t
/-- Whether tile 1 is taken at a point. -/
def bit1 (c : Dev nD) (i : grid0.Coords) : BitVec 1 := k0_cond1 i (word2 (F := F) c i tb2 (tbl m 1)) (word3 (F := F) c tb3 (tbl m 2))
/-- Whether tile 2 is taken at a point. -/
def bit2 (c : Dev nD) (i : grid0.Coords) : BitVec 1 := k0_cond2 i (word2 (F := F) c i tb2 (tbl m 1)) (word3 (F := F) c tb3 (tbl m 2))
/-- Whether tile 3 is taken at a point. -/
def bit3 (c : Dev nD) (i : grid0.Coords) : BitVec 1 := k0_cond3 i (word2 (F := F) c i tb2 (tbl m 1)) (word3 (F := F) c tb3 (tbl m 2))
/-- Whether tile 4 is taken at a point. -/
def bit4 (c : Dev nD) (i : grid0.Coords) : BitVec 1 := k0_cond4 i (word2 (F := F) c i tb2 (tbl m 1)) (word3 (F := F) c tb3 (tbl m 2))

/-- What the body leaves in the output window at a point, over what it found there. -/
def outOf (c : Dev nD) (t : Fin (cfgM m hO).N) (Y : Vec F S2048x1024 .bf16) : Vec F S2048x1024 .bf16 :=
  (upd4 (bit4 m c (grid0.coords t)) (xs m hO c t) (wg4 m hO c t) (wu4 m hO c t) (wd4 m hO c t) (upd3 (bit3 m c (grid0.coords t)) (xs m hO c t) (wg3 m hO c t) (wu3 m hO c t) (wd3 m hO c t) (upd2 (bit2 m c (grid0.coords t)) (xs m hO c t) (wg2 m hO c t) (wu2 m hO c t) (wd2 m hO c t) (upd1 (bit1 m c (grid0.coords t)) (xs m hO c t) (wg1 m hO c t) (wu1 m hO c t) (wd1 m hO c t) Y))))

/-- The proof data on a core: an input window is left as found, the output window by `outOf`; the tables are held beside. -/
def rdat (c : Dev nD) : Pipeline.RDat τ (Elt F) Unit ℕ (UR sig nD τ) ℕ (cfgM m hO) c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun _ Y X => X = Y
    | 9 => fun _ Y X => X = Y
    | 10 => fun _ Y X => X = Y
    | 11 => fun _ Y X => X = Y
    | 12 => fun _ Y X => X = Y
    | 13 => fun t Y X => X = outOf m hO c t Y
    | ⟨_ + 14, h⟩ => absurd h (Nat.not_lt.2 (Nat.le_add_left _ _))
  Φ _ := iprop(Pipeline.ΦA spec0 c ∗ Pipeline.ΦT pre0 (tbl m) c)
  q := Pipeline.shareOf spec0
  owed _ := 0

theorem keeps (c : Dev nD) : ∀ w : Fin 14, (spec0 w).isOut = false → ∀ t Y X, (rdat m hO c).after w t Y X → X = Y := fun
  | 0 => fun _ _ _ _ h => h
  | 1 => fun _ _ _ _ h => h
  | 2 => fun _ _ _ _ h => h
  | 3 => fun _ _ _ _ h => h
  | 4 => fun _ _ _ _ h => h
  | 5 => fun _ _ _ _ h => h
  | 6 => fun _ _ _ _ h => h
  | 7 => fun _ _ _ _ h => h
  | 8 => fun _ _ _ _ h => h
  | 9 => fun _ _ _ _ h => h
  | 10 => fun _ _ _ _ h => h
  | 11 => fun _ _ _ _ h => h
  | 12 => fun _ _ _ _ h => h
  | 13 => fun h => absurd h (by decide)
  | ⟨_ + 14, h⟩ => absurd h (Nat.not_lt.2 (Nat.le_add_left _ _))

theorem fetched_eq (c : Dev nD) : ∀ (w : Fin 14) (t : Fin (cfgM m hO).N) d, (rdat m hO c).fetched w t d = iblk m hO c w t := fun
  | 0 => fun _ _ => rfl
  | 1 => fun _ _ => rfl
  | 2 => fun _ _ => rfl
  | 3 => fun _ _ => rfl
  | 4 => fun _ _ => rfl
  | 5 => fun _ _ => rfl
  | 6 => fun _ _ => rfl
  | 7 => fun _ _ => rfl
  | 8 => fun _ _ => rfl
  | 9 => fun _ _ => rfl
  | 10 => fun _ _ => rfl
  | 11 => fun _ _ => rfl
  | 12 => fun _ _ => rfl
  | 13 => fun _ _ => rfl
  | ⟨_ + 14, h⟩ => absurd h (Nat.not_lt.2 (Nat.le_add_left _ _))

/-- An input window holds its array's block wherever the body is handed it. -/
theorem finds_in (c : Dev nD) (w : Fin 14) (hw : (spec0 w).isOut = false) (t : Fin (cfgM m hO).N) (Y : ((cfgM m hO).win w).block.Idx → Elt F ((cfgM m hO).win w).elt)
    (h : (rdat m hO c).Finds w t Y) : Y = iblk m hO c w t := by
  obtain ⟨d, hd⟩ := Pipeline.RDat.finds_in_eq_fetched (rdat m hO c) w hw (fun _ _ _ => rfl) (keeps m hO c w hw) t Y h
  exact hd.trans (fetched_eq m hO c w t d)

/-! ## The body at a point -/

abbrev ms0 (t : Fin (cfgM m hO).N) : Memref sig .tc .vmem S2x2048x256 .i32 := spec0_0.stage ((cfgM m hO).slots t 0)
abbrev hs0 (t : Fin (cfgM m hO).N) : (ms0 m hO t).IsWhole := hstage0_0 (((cfgM m hO).slots t 0).cast nbuf0_0)
abbrev ms1 (t : Fin (cfgM m hO).N) : Memref sig .tc .vmem S1x1024x512 .bf16 := spec0_1.stage ((cfgM m hO).slots t 1)
abbrev hs1 (t : Fin (cfgM m hO).N) : (ms1 m hO t).IsWhole := hstage0_1 (((cfgM m hO).slots t 1).cast nbuf0_1)
abbrev ms2 (t : Fin (cfgM m hO).N) : Memref sig .tc .vmem S1x1024x512 .bf16 := spec0_2.stage ((cfgM m hO).slots t 2)
abbrev hs2 (t : Fin (cfgM m hO).N) : (ms2 m hO t).IsWhole := hstage0_2 (((cfgM m hO).slots t 2).cast nbuf0_2)
abbrev ms3 (t : Fin (cfgM m hO).N) : Memref sig .tc .vmem S1x512x1024 .bf16 := spec0_3.stage ((cfgM m hO).slots t 3)
abbrev hs3 (t : Fin (cfgM m hO).N) : (ms3 m hO t).IsWhole := hstage0_3 (((cfgM m hO).slots t 3).cast nbuf0_3)
abbrev ms4 (t : Fin (cfgM m hO).N) : Memref sig .tc .vmem S1x1024x512 .bf16 := spec0_4.stage ((cfgM m hO).slots t 4)
abbrev hs4 (t : Fin (cfgM m hO).N) : (ms4 m hO t).IsWhole := hstage0_4 (((cfgM m hO).slots t 4).cast nbuf0_4)
abbrev ms5 (t : Fin (cfgM m hO).N) : Memref sig .tc .vmem S1x1024x512 .bf16 := spec0_5.stage ((cfgM m hO).slots t 5)
abbrev hs5 (t : Fin (cfgM m hO).N) : (ms5 m hO t).IsWhole := hstage0_5 (((cfgM m hO).slots t 5).cast nbuf0_5)
abbrev ms6 (t : Fin (cfgM m hO).N) : Memref sig .tc .vmem S1x512x1024 .bf16 := spec0_6.stage ((cfgM m hO).slots t 6)
abbrev hs6 (t : Fin (cfgM m hO).N) : (ms6 m hO t).IsWhole := hstage0_6 (((cfgM m hO).slots t 6).cast nbuf0_6)
abbrev ms7 (t : Fin (cfgM m hO).N) : Memref sig .tc .vmem S1x1024x512 .bf16 := spec0_7.stage ((cfgM m hO).slots t 7)
abbrev hs7 (t : Fin (cfgM m hO).N) : (ms7 m hO t).IsWhole := hstage0_7 (((cfgM m hO).slots t 7).cast nbuf0_7)
abbrev ms8 (t : Fin (cfgM m hO).N) : Memref sig .tc .vmem S1x1024x512 .bf16 := spec0_8.stage ((cfgM m hO).slots t 8)
abbrev hs8 (t : Fin (cfgM m hO).N) : (ms8 m hO t).IsWhole := hstage0_8 (((cfgM m hO).slots t 8).cast nbuf0_8)
abbrev ms9 (t : Fin (cfgM m hO).N) : Memref sig .tc .vmem S1x512x1024 .bf16 := spec0_9.stage ((cfgM m hO).slots t 9)
abbrev hs9 (t : Fin (cfgM m hO).N) : (ms9 m hO t).IsWhole := hstage0_9 (((cfgM m hO).slots t 9).cast nbuf0_9)
abbrev ms10 (t : Fin (cfgM m hO).N) : Memref sig .tc .vmem S1x1024x512 .bf16 := spec0_10.stage ((cfgM m hO).slots t 10)
abbrev hs10 (t : Fin (cfgM m hO).N) : (ms10 m hO t).IsWhole := hstage0_10 (((cfgM m hO).slots t 10).cast nbuf0_10)
abbrev ms11 (t : Fin (cfgM m hO).N) : Memref sig .tc .vmem S1x1024x512 .bf16 := spec0_11.stage ((cfgM m hO).slots t 11)
abbrev hs11 (t : Fin (cfgM m hO).N) : (ms11 m hO t).IsWhole := hstage0_11 (((cfgM m hO).slots t 11).cast nbuf0_11)
abbrev ms12 (t : Fin (cfgM m hO).N) : Memref sig .tc .vmem S1x512x1024 .bf16 := spec0_12.stage ((cfgM m hO).slots t 12)
abbrev hs12 (t : Fin (cfgM m hO).N) : (ms12 m hO t).IsWhole := hstage0_12 (((cfgM m hO).slots t 12).cast nbuf0_12)
abbrev ms13 (t : Fin (cfgM m hO).N) : Memref sig .tc .vmem S2048x1024 .bf16 := spec0_13.stage ((cfgM m hO).slots t 13)
abbrev hs13 (t : Fin (cfgM m hO).N) : (ms13 m hO t).IsWhole := hstage0_13 (((cfgM m hO).slots t 13).cast nbuf0_13)

abbrev bodyAt (t : Fin (cfgM m hO).N) : Prog (TpuEff nD τ sig (Elt F) Λ₀ .tc) PUnit :=
  cc0_experts (grid0.coords t) tb1 (Memref.isWhole_whole _) tb2 (Memref.isWhole_whole _) tb3 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) (ms9 m hO t) (hs9 m hO t) (ms10 m hO t) (hs10 m hO t) (ms11 m hO t) (hs11 m hO t) (ms12 m hO t) (hs12 m hO t) (ms13 m hO t) (hs13 m hO t)

theorem defs₀_row (t : Fin (cfgM m hO).N) : defs₀ (F := F) .tc (cfgM m hO).body ((cfgM m hO).bodyArgs t ((cfgM m hO).slots t)) = bodyAt m hO t := by
  unfold defs₀; rw [Defs.onTc_tc]

theorem bodyTriple (c : Dev nD) (t : Fin (cfgM m hO).N) (Y : Vec F S2048x1024 .bf16) :
    iprop((Pipeline.ΦA spec0 c ∗ Pipeline.ΦT pre0 (tbl m) c) ∗ (rdat m hO c).owesAt () t.castSucc ∗ owns (c : Thread nD τ) (ms0 m hO t) fullShare (xs m hO c t) ∗ owns (c : Thread nD τ) (ms1 m hO t) fullShare (wg1 m hO c t) ∗ owns (c : Thread nD τ) (ms2 m hO t) fullShare (wu1 m hO c t) ∗ owns (c : Thread nD τ) (ms3 m hO t) fullShare (wd1 m hO c t) ∗ owns (c : Thread nD τ) (ms4 m hO t) fullShare (wg2 m hO c t) ∗ owns (c : Thread nD τ) (ms5 m hO t) fullShare (wu2 m hO c t) ∗ owns (c : Thread nD τ) (ms6 m hO t) fullShare (wd2 m hO c t) ∗ owns (c : Thread nD τ) (ms7 m hO t) fullShare (wg3 m hO c t) ∗ owns (c : Thread nD τ) (ms8 m hO t) fullShare (wu3 m hO c t) ∗ owns (c : Thread nD τ) (ms9 m hO t) fullShare (wd3 m hO c t) ∗ owns (c : Thread nD τ) (ms10 m hO t) fullShare (wg4 m hO c t) ∗ owns (c : Thread nD τ) (ms11 m hO t) fullShare (wu4 m hO c t) ∗ owns (c : Thread nD τ) (ms12 m hO t) fullShare (wd4 m hO c t) ∗ owns (c : Thread nD τ) (ms13 m hO t) fullShare Y)
      ⊢ wp frame (wpE (defs₀ (F := F)) Variants.none c none) Set.univ (bodyAt m hO t) fun _ =>
        iprop((Pipeline.ΦA spec0 c ∗ Pipeline.ΦT pre0 (tbl m) c) ∗ (rdat m hO c).owesAt () t.castSucc ∗ owns (c : Thread nD τ) (ms0 m hO t) fullShare (xs m hO c t) ∗ owns (c : Thread nD τ) (ms1 m hO t) fullShare (wg1 m hO c t) ∗ owns (c : Thread nD τ) (ms2 m hO t) fullShare (wu1 m hO c t) ∗ owns (c : Thread nD τ) (ms3 m hO t) fullShare (wd1 m hO c t) ∗ owns (c : Thread nD τ) (ms4 m hO t) fullShare (wg2 m hO c t) ∗ owns (c : Thread nD τ) (ms5 m hO t) fullShare (wu2 m hO c t) ∗ owns (c : Thread nD τ) (ms6 m hO t) fullShare (wd2 m hO c t) ∗ owns (c : Thread nD τ) (ms7 m hO t) fullShare (wg3 m hO c t) ∗ owns (c : Thread nD τ) (ms8 m hO t) fullShare (wu3 m hO c t) ∗ owns (c : Thread nD τ) (ms9 m hO t) fullShare (wd3 m hO c t) ∗ owns (c : Thread nD τ) (ms10 m hO t) fullShare (wg4 m hO c t) ∗ owns (c : Thread nD τ) (ms11 m hO t) fullShare (wu4 m hO c t) ∗ owns (c : Thread nD τ) (ms12 m hO t) fullShare (wd4 m hO c t) ∗ owns (c : Thread nD τ) (ms13 m hO t) fullShare (outOf m hO c t Y)) := by
  rw [PhiT_eq]
  iintro ⟨⟨HA, HT⟩, HO, H0, H1, H2, H3, H4, H5, H6, H7, H8, H9, H10, H11, H12, H13⟩
  iapply (kernelRun c (grid0.coords t) tb1 (Memref.isWhole_whole _) tb2 (Memref.isWhole_whole _) tb3 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) (ms9 m hO t) (hs9 m hO t) (ms10 m hO t) (hs10 m hO t) (ms11 m hO t) (hs11 m hO t) (ms12 m hO t) (hs12 m hO t) (ms13 m hO t) (hs13 m hO t) (tbl m 0) (tbl m 1) (tbl m 2) (xs m hO c t) (wg1 m hO c t) (wu1 m hO c t) (wg2 m hO c t) (wu2 m hO c t) (wg3 m hO c t) (wu3 m hO c t) (wg4 m hO c t) (wu4 m hO c t) (wd1 m hO c t) (wd2 m hO c t) (wd3 m hO c t) (wd4 m hO c t) Y _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨HT, H0, H1, H2, H3, H4, H5, H6, H7, H8, H9, H10, H11, H12, H13⟩
  isplitl [HA HT]
  · isplitl [HA]; · iexact HA
    iexact HT
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : (rdat m hO c).BodyObligation (defs₀ (F := F)) Variants.none () Set.univ := fun t Y hY => by
  rw [bigSep_W0, bigSep_W0, defs₀_row]
  have e0 : Y 0 = iblk m hO c 0 t := finds_in m hO c 0 rfl t _ (hY 0)
  have e1 : Y 1 = iblk m hO c 1 t := finds_in m hO c 1 rfl t _ (hY 1)
  have e2 : Y 2 = iblk m hO c 2 t := finds_in m hO c 2 rfl t _ (hY 2)
  have e3 : Y 3 = iblk m hO c 3 t := finds_in m hO c 3 rfl t _ (hY 3)
  have e4 : Y 4 = iblk m hO c 4 t := finds_in m hO c 4 rfl t _ (hY 4)
  have e5 : Y 5 = iblk m hO c 5 t := finds_in m hO c 5 rfl t _ (hY 5)
  have e6 : Y 6 = iblk m hO c 6 t := finds_in m hO c 6 rfl t _ (hY 6)
  have e7 : Y 7 = iblk m hO c 7 t := finds_in m hO c 7 rfl t _ (hY 7)
  have e8 : Y 8 = iblk m hO c 8 t := finds_in m hO c 8 rfl t _ (hY 8)
  have e9 : Y 9 = iblk m hO c 9 t := finds_in m hO c 9 rfl t _ (hY 9)
  have e10 : Y 10 = iblk m hO c 10 t := finds_in m hO c 10 rfl t _ (hY 10)
  have e11 : Y 11 = iblk m hO c 11 t := finds_in m hO c 11 rfl t _ (hY 11)
  have e12 : Y 12 = iblk m hO c 12 t := finds_in m hO c 12 rfl t _ (hY 12)
  rw [e0, e1, e2, e3, e4, e5, e6, e7, e8, e9, e10, e11, e12]
  refine triple_restated (bodyTriple m hO c t (Y 13)) rfl .rfl fun _ => ?_
  iintro ⟨HΦ, HO, H0, H1, H2, H3, H4, H5, H6, H7, H8, H9, H10, H11, H12, H13⟩
  isplitl [HΦ]
  · iapply (show iprop(Pipeline.ΦA spec0 c ∗ Pipeline.ΦT pre0 (tbl m) c) ⊢ (rdat m hO c).Φ t.succ from .rfl)
    iexact HΦ
  isplitl [HO]
  · iapply (show (rdat m hO c).owesAt () t.castSucc ⊢ (rdat m hO c).owesAt () t.succ from .rfl)
    iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  iexists _; isplitr; swap; · iexact H13
  ipureintro; exact rfl

/-! ## The run -/

theorem hmain : Pipeline.HMainP (Ix := Unit) (Name := ℕ) (U := UR sig nD τ) (Lvl := ℕ) (pcfgs (F := F)) 0 defs₀ Variants.none m (main (F := F)) (V m) :=
  Pipeline.hmainP_region pcfgs 0 defs₀ Variants.none m main fun c => (main_chain c).trans rfl

set_option backward.isDefEq.respectTransparency.types false in
/-- From any memory whose tables pass the side condition, with zero counters: every weakly fair execution ends, the arrays at
    what the write-backs left, every other buffer as launched, every counter at zero. -/
theorem run :
    θ_run defs (onTc (τ := τ) (main (F := F))) (s₀ m ρ)
      (fun r => Pipeline.RDat.FramePost (cfgM m hO) (fun c => rdat m hO c) (V m) r ∧ r.2.sem = fun _ => 0) :=
  Pipeline.RDat.θ_run_frameP_track_shared pcfgs (fun _ => adm m hO) (0 : Fin 1) launch₀0 defs₀ Variants.none (fun c => rdat m hO c) m ρ main
    (hbody := fun c => body_obligation m hO c) (hq := fun _ _ _ => rfl) (howed := fun _ _ => rfl) (V := V m) (hmain := hmain m)
    (hA := fun _ _ => rfl) (hpf := fun c k => V_pre m c k) (hin := fun _ => .rfl)
    (hout := fun c => (show iprop(Pipeline.ΦA spec0 c ∗ Pipeline.ΦT pre0 (tbl m) c) ⊢ (Pipeline.ΦA spec0 c : sProp 𝕄) from by iintro ⟨H, -⟩; iexact H))
    (Q' := _) (hQ' := fun _ h => h)

end Cert.Proof.Experts

end
-- ==== Proof.ExpertsTables.lean ====
/-
  The experts call's tables. Under the precondition the expert of every tile is below 32, the block of every step is the
  least of the step and the last live block, and the live tiles end in that last block; so every window's block is
  inside its array, and which tiles a step computes is a comparison of numbers.
-/
module

public import proofs.«01_k».proof.Proof.ExpertsRun
public import proofs.«01_k».proof.Proof.Gen.Pre_tables_ok
public import Idealize.ShloMosaic.Lib.Affine
public import Idealize.ShloMosaic.Lib.Pipeline.Value
public import Idealize.ShloMosaic.Lib.ValueLayout

@[expose] public section

namespace Cert.Proof.Experts

open Cert.Kernel2Ideal Cert.Kernel2Ideal.Gen
open Idealize.ShloMosaic Idealize.ShloMosaic.TcCoe Idealize.ShloMosaic.Tactic Idealize.ShloMosaic.ValueIdx

/-- What the precondition says of the tables: `L` is the last live block. -/
structure TablesOK (te : S96.Idx → BitVec 32) (pr : S24.Idx → BitVec 32) (nu : S1.Idx → BitVec 32) (L : ℕ) : Prop where
  te_lt : ∀ k : Fin 96, (te (ix1 k)).toNat < 32
  L_lt : L < 24
  pr_eq : ∀ j : Fin 24, (pr (ix1 j)).toNat = min j.val L
  nu_gt : 4 * L < (nu (ix1 0)).toNat
  nu_le : (nu (ix1 0)).toNat ≤ 4 * L + 4

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- The precondition at one tile, in words. -/
theorem words_of_bit (e r l n : BitVec 32) (j : ℕ) (hj : j < 24)
    (h : IntOp.andi (IntOp.andi (IntOp.cmpi .sge e 0#32) (IntOp.cmpi .slt e 32#32))
      (IntOp.andi (IntOp.andi (IntOp.andi (IntOp.cmpi .eq r (IntOp.minsi (BitVec.ofNat 32 j) l)) (IntOp.cmpi .sge l 0#32)) (IntOp.cmpi .slt l 24#32))
        (IntOp.andi (IntOp.cmpi .slt (IntOp.muli 4#32 l) n) (IntOp.cmpi .sle n (IntOp.addi (IntOp.muli 4#32 l) 4#32)))) = 1#1) :
    e.toNat < 32 ∧ l.toNat < 24 ∧ r.toNat = min j l.toNat ∧ 4 * l.toNat < n.toNat ∧ n.toNat ≤ 4 * l.toNat + 4 := by
  simp only [IntOp.cmpi, andi_ofBool, ofBool_eq_one, Bool.and_eq_true, BitVec.sle_eq_decide, BitVec.slt_eq_decide, IntOp.muli, IntOp.addi,
    decide_eq_true_eq, BitVec.toInt_eq_toNat_cond, BitVec.toNat_ofNat, BitVec.toNat_mul, BitVec.toNat_add, Nat.reducePow, Nat.reduceMod, beq_iff_eq] at h
  obtain ⟨⟨h1, h2⟩, ⟨⟨h3, h4⟩, h5⟩, h6, h7⟩ := h
  have hl : l.toNat < 24 := by omega
  refine ⟨by omega, hl, ?_, by omega, by omega⟩
  rw [h3]
  show (if (BitVec.ofNat 32 j).slt l then BitVec.ofNat 32 j else l).toNat = _
  have hjn : (BitVec.ofNat 32 j).toNat = j := by rw [BitVec.toNat_ofNat]; omega
  by_cases hc : j < l.toNat
  · rw [if_pos (by rw [BitVec.slt_eq_decide, decide_eq_true_eq, BitVec.toInt_eq_toNat_cond, BitVec.toInt_eq_toNat_cond, hjn]; omega), hjn]
    omega
  · rw [if_neg (by rw [BitVec.slt_eq_decide, decide_eq_true_eq, BitVec.toInt_eq_toNat_cond, BitVec.toInt_eq_toNat_cond, hjn]; omega)]
    omega

theorem tables_of_pre {F : FTy → Type} [FloatOps F] (a0 : IVec Cert.Pre_tables_ok.S2x49152x256 32) (te : S96.Idx → BitVec 32) (pr : S24.Idx → BitVec 32) (nu : S1.Idx → BitVec 32)
    (a4 a5 : FVec F Cert.Pre_tables_ok.S32x1024x512 .bf16) (a6 : FVec F Cert.Pre_tables_ok.S32x512x1024 .bf16)
    (h : ∀ x, Cert.Pre_tables_ok.fn (F := F) a0 te pr nu a4 a5 a6 x = 1#1) : ∃ L, TablesOK te pr nu L := by
  have key : ∀ (j : Fin 24) (q : Fin 4), (te (ix1 (⟨4 * j.val + q.val, by omega⟩ : Fin 96))).toNat < 32 ∧ (pr (ix1 (23 : Fin 24))).toNat < 24
      ∧ (pr (ix1 j)).toNat = min j.val (pr (ix1 (23 : Fin 24))).toNat ∧ 4 * (pr (ix1 (23 : Fin 24))).toNat < (nu (ix1 0)).toNat
      ∧ (nu (ix1 0)).toNat ≤ 4 * (pr (ix1 (23 : Fin 24))).toNat + 4 := by
    intro j q
    refine words_of_bit _ _ _ _ j.val j.isLt ?_
    have e := h (ix2 j q)
    simp only [Cert.Pre_tables_ok.fn, Cert.Pre_tables_ok.fn_part1, andi, cmpi] at e
    rw [shapeCast_apply _ _ (ix2 j q) (ix1 (⟨4 * j.val + q.val, by omega⟩ : Fin 96)) (by
      rw [Shape.rowMajor_val_one, Shape.rowMajor_val_two]
      show 4 * j.val + q.val = j.val * 4 + q.val
      omega)] at e
    have e1 (hs) : (extractStridedSlice Cert.Pre_tables_ok.S1 ![23] pr hs) = fun _ => pr (ix1 (23 : Fin 24)) := by
      funext x
      refine congrArg pr ?_
      funext a; match a with | 0 => exact Fin.ext (by have : (x 0).val < 1 := (x 0).isLt; show 23 + (x 0).val = 23; omega)
    have e2 : nu = fun _ => nu (ix1 0) := by
      funext x
      refine congrArg nu ?_
      funext a; match a with | 0 => exact Subsingleton.elim (α := Fin 1) _ _
    have e3 (f : IVec Cert.Pre_tables_ok.S24 1) (h1 h2) : broadcastInDim Cert.Pre_tables_ok.S24x4 ![0, 1] h1 (broadcastInDim Cert.Pre_tables_ok.S24x1 ![0] h2 f) (ix2 j q) = f (ix1 j) := by
      rw [broadcastInDim_apply _ _ _ _ (ix2 j (0 : Fin 1)) (by
          intro a; match a with | 0 => rfl | 1 => rfl),
        broadcastInDim_apply _ _ _ _ (ix1 j) (by intro a; match a with | 0 => rfl)]
    rw [e3, e1, e2] at e
    exact e
  have h0 := key 0 0
  refine ⟨(pr (ix1 (23 : Fin 24))).toNat, fun k => ?_, h0.2.1, fun j => (key j 0).2.2.1, h0.2.2.2.1, h0.2.2.2.2⟩
  have := (key ⟨k.val / 4, by omega⟩ ⟨k.val % 4, by omega⟩).1
  rwa [show (⟨4 * (k.val / 4) + k.val % 4, by omega⟩ : Fin 96) = k from Fin.ext (by show 4 * (k.val / 4) + k.val % 4 = k.val; omega)] at this

/-! ## The index maps -/

variable {F : FTy → Type} [FloatOps F]

theorem te_at (pf : pre0.Contents (Elt F)) (i : grid0.Coords) (r : Fin 4)
    (inb : ∀ a, (![(Scalar.indexCast (Scalar.addi (Scalar.muli 4#32 (BitVec.ofNat 32 (i 0).val)) (BitVec.ofNat 32 r.val))).toNat] : Fin 1 → Nat) a + S1.size a ≤ S96.size a) :
    pf.at 0 (Rect.unit (s := S96) ![(Scalar.indexCast (Scalar.addi (Scalar.muli 4#32 (BitVec.ofNat 32 (i 0).val)) (BitVec.ofNat 32 r.val))).toNat] S1.size inb) numel1_S1
      = pf 0 (ix1 (⟨4 * (i 0).val + r.val, by have : (i 0).val < 24 := (i 0).isLt; omega⟩ : Fin 96)) := by
  have hi : (i 0).val < 24 := (i 0).isLt
  refine (fun (x y : S96.Idx) (hxy : x = y) => show pf 0 x = pf 0 y from hxy ▸ rfl) _ _ ?_
  funext (a : Fin 1); match a with
  | 0 =>
    refine Fin.ext ?_
    show (Scalar.indexCast (Scalar.addi (Scalar.muli 4#32 (BitVec.ofNat 32 (i 0).val)) (BitVec.ofNat 32 r.val))).toNat + 1 * 0 = 4 * (i 0).val + r.val
    simp only [Scalar.indexCast, Scalar.addi, Scalar.muli, IntOp.addi, IntOp.muli]
    simp only [BitVec.toNat_add, BitVec.toNat_mul, BitVec.toNat_ofNat, Nat.reducePow, Nat.reduceMod]
    omega

theorem pr_at (pf : pre0.Contents (Elt F)) (i : grid0.Coords)
    (inb : ∀ a, (![(Scalar.indexCast (BitVec.ofNat 32 (i 0).val)).toNat] : Fin 1 → Nat) a + S1.size a ≤ S24.size a) :
    pf.at 1 (Rect.unit (s := S24) ![(Scalar.indexCast (BitVec.ofNat 32 (i 0).val)).toNat] S1.size inb) numel1_S1 = pf 1 (ix1 (i 0 : Fin 24)) := by
  have hi : (i 0).val < 24 := (i 0).isLt
  refine (fun (x y : S24.Idx) (hxy : x = y) => show pf 1 x = pf 1 y from hxy ▸ rfl) _ _ ?_
  funext (a : Fin 1); match a with
  | 0 =>
    refine Fin.ext ?_
    show (Scalar.indexCast (BitVec.ofNat 32 (i 0).val)).toNat + 1 * 0 = (i 0).val
    simp only [Scalar.indexCast]
    simp only [BitVec.toNat_ofNat, Nat.reducePow, Nat.reduceMod]; omega

theorem map0 (pf : pre0.Contents (Elt F)) (i : grid0.Coords) :
    cc0_transform_0 k0_off1_inb numel1_S1 pf i = ![0, BitVec.toNat (w := 32) (pf 1 (ix1 (i 0 : Fin 24))), 0] := by
  unfold cc0_transform_0
  exact congrArg (fun v : BitVec 32 => (![0, v.toNat, 0] : Fin 3 → Nat)) (pr_at pf i _)
theorem map13 (pf : pre0.Contents (Elt F)) (i : grid0.Coords) :
    cc0_transform_13 k0_off1_inb numel1_S1 pf i = ![BitVec.toNat (w := 32) (pf 1 (ix1 (i 0 : Fin 24))), 0] := by
  unfold cc0_transform_13
  exact congrArg (fun v : BitVec 32 => (![v.toNat, 0] : Fin 2 → Nat)) (pr_at pf i _)
theorem map1 (pf : pre0.Contents (Elt F)) (i : grid0.Coords) :
    cc0_transform_1 k0_off2_inb numel1_S1 pf i = ![BitVec.toNat (w := 32) (pf 0 (ix1 (⟨4 * (i 0).val + 0, by have : (i 0).val < 24 := (i 0).isLt; omega⟩ : Fin 96))), 0, 0] := by
  unfold cc0_transform_1
  exact congrArg (fun v : BitVec 32 => (![v.toNat, 0, 0] : Fin 3 → Nat)) (te_at pf i 0 _)
theorem map2 (pf : pre0.Contents (Elt F)) (i : grid0.Coords) :
    cc0_transform_2 k0_off2_inb numel1_S1 pf i = ![BitVec.toNat (w := 32) (pf 0 (ix1 (⟨4 * (i 0).val + 0, by have : (i 0).val < 24 := (i 0).isLt; omega⟩ : Fin 96))), 0, 0] := by
  unfold cc0_transform_2
  exact congrArg (fun v : BitVec 32 => (![v.toNat, 0, 0] : Fin 3 → Nat)) (te_at pf i 0 _)
theorem map3 (pf : pre0.Contents (Elt F)) (i : grid0.Coords) :
    cc0_transform_3 k0_off2_inb numel1_S1 pf i = ![BitVec.toNat (w := 32) (pf 0 (ix1 (⟨4 * (i 0).val + 0, by have : (i 0).val < 24 := (i 0).isLt; omega⟩ : Fin 96))), 0, 0] := by
  unfold cc0_transform_3
  exact congrArg (fun v : BitVec 32 => (![v.toNat, 0, 0] : Fin 3 → Nat)) (te_at pf i 0 _)
theorem map4 (pf : pre0.Contents (Elt F)) (i : grid0.Coords) :
    cc0_transform_4 k0_off2_inb numel1_S1 pf i = ![BitVec.toNat (w := 32) (pf 0 (ix1 (⟨4 * (i 0).val + 1, by have : (i 0).val < 24 := (i 0).isLt; omega⟩ : Fin 96))), 0, 0] := by
  unfold cc0_transform_4
  exact congrArg (fun v : BitVec 32 => (![v.toNat, 0, 0] : Fin 3 → Nat)) (te_at pf i 1 _)
theorem map5 (pf : pre0.Contents (Elt F)) (i : grid0.Coords) :
    cc0_transform_5 k0_off2_inb numel1_S1 pf i = ![BitVec.toNat (w := 32) (pf 0 (ix1 (⟨4 * (i 0).val + 1, by have : (i 0).val < 24 := (i 0).isLt; omega⟩ : Fin 96))), 0, 0] := by
  unfold cc0_transform_5
  exact congrArg (fun v : BitVec 32 => (![v.toNat, 0, 0] : Fin 3 → Nat)) (te_at pf i 1 _)
theorem map6 (pf : pre0.Contents (Elt F)) (i : grid0.Coords) :
    cc0_transform_6 k0_off2_inb numel1_S1 pf i = ![BitVec.toNat (w := 32) (pf 0 (ix1 (⟨4 * (i 0).val + 1, by have : (i 0).val < 24 := (i 0).isLt; omega⟩ : Fin 96))), 0, 0] := by
  unfold cc0_transform_6
  exact congrArg (fun v : BitVec 32 => (![v.toNat, 0, 0] : Fin 3 → Nat)) (te_at pf i 1 _)
theorem map7 (pf : pre0.Contents (Elt F)) (i : grid0.Coords) :
    cc0_transform_7 k0_off2_inb numel1_S1 pf i = ![BitVec.toNat (w := 32) (pf 0 (ix1 (⟨4 * (i 0).val + 2, by have : (i 0).val < 24 := (i 0).isLt; omega⟩ : Fin 96))), 0, 0] := by
  unfold cc0_transform_7
  exact congrArg (fun v : BitVec 32 => (![v.toNat, 0, 0] : Fin 3 → Nat)) (te_at pf i 2 _)
theorem map8 (pf : pre0.Contents (Elt F)) (i : grid0.Coords) :
    cc0_transform_8 k0_off2_inb numel1_S1 pf i = ![BitVec.toNat (w := 32) (pf 0 (ix1 (⟨4 * (i 0).val + 2, by have : (i 0).val < 24 := (i 0).isLt; omega⟩ : Fin 96))), 0, 0] := by
  unfold cc0_transform_8
  exact congrArg (fun v : BitVec 32 => (![v.toNat, 0, 0] : Fin 3 → Nat)) (te_at pf i 2 _)
theorem map9 (pf : pre0.Contents (Elt F)) (i : grid0.Coords) :
    cc0_transform_9 k0_off2_inb numel1_S1 pf i = ![BitVec.toNat (w := 32) (pf 0 (ix1 (⟨4 * (i 0).val + 2, by have : (i 0).val < 24 := (i 0).isLt; omega⟩ : Fin 96))), 0, 0] := by
  unfold cc0_transform_9
  exact congrArg (fun v : BitVec 32 => (![v.toNat, 0, 0] : Fin 3 → Nat)) (te_at pf i 2 _)
theorem map10 (pf : pre0.Contents (Elt F)) (i : grid0.Coords) :
    cc0_transform_10 k0_off2_inb numel1_S1 pf i = ![BitVec.toNat (w := 32) (pf 0 (ix1 (⟨4 * (i 0).val + 3, by have : (i 0).val < 24 := (i 0).isLt; omega⟩ : Fin 96))), 0, 0] := by
  unfold cc0_transform_10
  exact congrArg (fun v : BitVec 32 => (![v.toNat, 0, 0] : Fin 3 → Nat)) (te_at pf i 3 _)
theorem map11 (pf : pre0.Contents (Elt F)) (i : grid0.Coords) :
    cc0_transform_11 k0_off2_inb numel1_S1 pf i = ![BitVec.toNat (w := 32) (pf 0 (ix1 (⟨4 * (i 0).val + 3, by have : (i 0).val < 24 := (i 0).isLt; omega⟩ : Fin 96))), 0, 0] := by
  unfold cc0_transform_11
  exact congrArg (fun v : BitVec 32 => (![v.toNat, 0, 0] : Fin 3 → Nat)) (te_at pf i 3 _)
theorem map12 (pf : pre0.Contents (Elt F)) (i : grid0.Coords) :
    cc0_transform_12 k0_off2_inb numel1_S1 pf i = ![BitVec.toNat (w := 32) (pf 0 (ix1 (⟨4 * (i 0).val + 3, by have : (i 0).val < 24 := (i 0).isLt; omega⟩ : Fin 96))), 0, 0] := by
  unfold cc0_transform_12
  exact congrArg (fun v : BitVec 32 => (![v.toNat, 0, 0] : Fin 3 → Nat)) (te_at pf i 3 _)

/-- Under the precondition every window's block is inside its array. -/
theorem ok_of_tables (pf : pre0.Contents (Elt F)) {L : ℕ} (h : TablesOK (pf 0) (pf 1) (pf 2) L) : ok0 (F := F) pf := by
  have hL := h.L_lt
  refine ⟨fun i => ⟨fun a => ?_, .inl rfl⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩⟩
  · have hp := h.pr_eq (i 0)
    rw [map0]
    match a with
    | 0 => exact Nat.le_refl 2
    | 1 => show (BitVec.toNat (w := 32) (pf 1 (ix1 (i 0 : Fin 24))) + 1) * 2048 ≤ 49152; omega
    | 2 => exact Nat.le_refl 256
  · have he := h.te_lt ⟨4 * (i 0).val + 0, by have : (i 0).val < 24 := (i 0).isLt; omega⟩
    rw [map1]
    match a with
    | 0 => show (BitVec.toNat (w := 32) (pf 0 (ix1 (⟨4 * (i 0).val + 0, _⟩ : Fin 96))) + 1) * 1 ≤ 32; omega
    | 1 => exact Nat.le_refl 1024
    | 2 => exact Nat.le_refl 512
  · have he := h.te_lt ⟨4 * (i 0).val + 0, by have : (i 0).val < 24 := (i 0).isLt; omega⟩
    rw [map2]
    match a with
    | 0 => show (BitVec.toNat (w := 32) (pf 0 (ix1 (⟨4 * (i 0).val + 0, _⟩ : Fin 96))) + 1) * 1 ≤ 32; omega
    | 1 => exact Nat.le_refl 1024
    | 2 => exact Nat.le_refl 512
  · have he := h.te_lt ⟨4 * (i 0).val + 0, by have : (i 0).val < 24 := (i 0).isLt; omega⟩
    rw [map3]
    match a with
    | 0 => show (BitVec.toNat (w := 32) (pf 0 (ix1 (⟨4 * (i 0).val + 0, _⟩ : Fin 96))) + 1) * 1 ≤ 32; omega
    | 1 => exact Nat.le_refl 512
    | 2 => exact Nat.le_refl 1024
  · have he := h.te_lt ⟨4 * (i 0).val + 1, by have : (i 0).val < 24 := (i 0).isLt; omega⟩
    rw [map4]
    match a with
    | 0 => show (BitVec.toNat (w := 32) (pf 0 (ix1 (⟨4 * (i 0).val + 1, _⟩ : Fin 96))) + 1) * 1 ≤ 32; omega
    | 1 => exact Nat.le_refl 1024
    | 2 => exact Nat.le_refl 512
  · have he := h.te_lt ⟨4 * (i 0).val + 1, by have : (i 0).val < 24 := (i 0).isLt; omega⟩
    rw [map5]
    match a with
    | 0 => show (BitVec.toNat (w := 32) (pf 0 (ix1 (⟨4 * (i 0).val + 1, _⟩ : Fin 96))) + 1) * 1 ≤ 32; omega
    | 1 => exact Nat.le_refl 1024
    | 2 => exact Nat.le_refl 512
  · have he := h.te_lt ⟨4 * (i 0).val + 1, by have : (i 0).val < 24 := (i 0).isLt; omega⟩
    rw [map6]
    match a with
    | 0 => show (BitVec.toNat (w := 32) (pf 0 (ix1 (⟨4 * (i 0).val + 1, _⟩ : Fin 96))) + 1) * 1 ≤ 32; omega
    | 1 => exact Nat.le_refl 512
    | 2 => exact Nat.le_refl 1024
  · have he := h.te_lt ⟨4 * (i 0).val + 2, by have : (i 0).val < 24 := (i 0).isLt; omega⟩
    rw [map7]
    match a with
    | 0 => show (BitVec.toNat (w := 32) (pf 0 (ix1 (⟨4 * (i 0).val + 2, _⟩ : Fin 96))) + 1) * 1 ≤ 32; omega
    | 1 => exact Nat.le_refl 1024
    | 2 => exact Nat.le_refl 512
  · have he := h.te_lt ⟨4 * (i 0).val + 2, by have : (i 0).val < 24 := (i 0).isLt; omega⟩
    rw [map8]
    match a with
    | 0 => show (BitVec.toNat (w := 32) (pf 0 (ix1 (⟨4 * (i 0).val + 2, _⟩ : Fin 96))) + 1) * 1 ≤ 32; omega
    | 1 => exact Nat.le_refl 1024
    | 2 => exact Nat.le_refl 512
  · have he := h.te_lt ⟨4 * (i 0).val + 2, by have : (i 0).val < 24 := (i 0).isLt; omega⟩
    rw [map9]
    match a with
    | 0 => show (BitVec.toNat (w := 32) (pf 0 (ix1 (⟨4 * (i 0).val + 2, _⟩ : Fin 96))) + 1) * 1 ≤ 32; omega
    | 1 => exact Nat.le_refl 512
    | 2 => exact Nat.le_refl 1024
  · have he := h.te_lt ⟨4 * (i 0).val + 3, by have : (i 0).val < 24 := (i 0).isLt; omega⟩
    rw [map10]
    match a with
    | 0 => show (BitVec.toNat (w := 32) (pf 0 (ix1 (⟨4 * (i 0).val + 3, _⟩ : Fin 96))) + 1) * 1 ≤ 32; omega
    | 1 => exact Nat.le_refl 1024
    | 2 => exact Nat.le_refl 512
  · have he := h.te_lt ⟨4 * (i 0).val + 3, by have : (i 0).val < 24 := (i 0).isLt; omega⟩
    rw [map11]
    match a with
    | 0 => show (BitVec.toNat (w := 32) (pf 0 (ix1 (⟨4 * (i 0).val + 3, _⟩ : Fin 96))) + 1) * 1 ≤ 32; omega
    | 1 => exact Nat.le_refl 1024
    | 2 => exact Nat.le_refl 512
  · have he := h.te_lt ⟨4 * (i 0).val + 3, by have : (i 0).val < 24 := (i 0).isLt; omega⟩
    rw [map12]
    match a with
    | 0 => show (BitVec.toNat (w := 32) (pf 0 (ix1 (⟨4 * (i 0).val + 3, _⟩ : Fin 96))) + 1) * 1 ≤ 32; omega
    | 1 => exact Nat.le_refl 512
    | 2 => exact Nat.le_refl 1024
  · have hp := h.pr_eq (i 0)
    rw [map13]
    match a with
    | 0 => show (BitVec.toNat (w := 32) (pf 1 (ix1 (i 0 : Fin 24))) + 1) * 2048 ≤ 49152; omega
    | 1 => exact Nat.le_refl 1024

end Cert.Proof.Experts

end
-- ==== Proof.ExpertsRead.lean ====
/-
  What the experts call leaves in its result. A step writes, into its block's rows of each live tile, that tile's payload:
  a function of the tile's 512 rows and of its expert's three weight blocks. The steps past the last live block write
  nothing, and their block is that one, still in its staging buffer. So every row of a live tile ends at its payload.
-/
module

public import proofs.«01_k».proof.Proof.ExpertsTables

@[expose] public section

namespace Cert.Proof.Experts

open Cert.Kernel2Ideal Cert.Kernel2Ideal.Gen
open Idealize.ShloMosaic Idealize.ShloMosaic.TcCoe Idealize.ShloMosaic.Tactic Idealize.ShloMosaic.ValueIdx

variable {F : FTy → Type} [FloatOps F]

/-- A tile's payload, from its rows' words and its expert's weights. -/
noncomputable def tile (A B : Vec F S1x512x256 .i32) (G U : Vec F S1x1024x512 .bf16) (D : Vec F S1x512x1024 .bf16) : Vec F S512x1024 .bf16 :=
  k0_pay1 (k0_pay5 A B G U) D

theorem tile_congr {A A' B B' : Vec F S1x512x256 .i32} {G G' U U' : Vec F S1x1024x512 .bf16} {D D' : Vec F S1x512x1024 .bf16}
    (hA : A = A') (hB : B = B') (hG : G = G') (hU : U = U') (hD : D = D') : tile A B G U D = tile A' B' G' U' D' := by
  subst hA hB hG hU hD; rfl

/-! ## One tile of the output block -/

theorem tile_eq1 (A B : Vec F S1x512x256 .i32) (G U : Vec F S1x1024x512 .bf16) (D : Vec F S1x512x1024 .bf16) :
    k0_pay1 (k0_pay5 A B G U) D = tile A B G U D := rfl
theorem tile_eq2 (A B : Vec F S1x512x256 .i32) (G U : Vec F S1x1024x512 .bf16) (D : Vec F S1x512x1024 .bf16) :
    k0_pay2 (k0_pay6 A B G U) D = tile A B G U D := rfl
theorem tile_eq3 (A B : Vec F S1x512x256 .i32) (G U : Vec F S1x1024x512 .bf16) (D : Vec F S1x512x1024 .bf16) :
    k0_pay3 (k0_pay7 A B G U) D = tile A B G U D := rfl
theorem tile_eq4 (A B : Vec F S1x512x256 .i32) (G U : Vec F S1x1024x512 .bf16) (D : Vec F S1x512x1024 .bf16) :
    k0_pay4 (k0_pay8 A B G U) D = tile A B G U D := rfl

theorem unitG (G : Vec F S1x1024x512 .bf16) : (fun x => G ((Rect.unit (s := S1x1024x512) ![0, 0, 0] S1x1024x512.size inb_S1x1024x512_S1x1024x512_0_0_0).emb x)) = G :=
  funext fun x => congrArg G (funext fun a => Fin.ext (by
    match a with
    | 0 => show 0 + 1 * (x 0).val = (x 0).val; omega
    | 1 => show 0 + 1 * (x 1).val = (x 1).val; omega
    | 2 => show 0 + 1 * (x 2).val = (x 2).val; omega))
theorem unitD (D : Vec F S1x512x1024 .bf16) : (fun x => D ((Rect.unit (s := S1x512x1024) ![0, 0, 0] S1x512x1024.size inb_S1x512x1024_S1x512x1024_0_0_0).emb x)) = D :=
  funext fun x => congrArg D (funext fun a => Fin.ext (by
    match a with
    | 0 => show 0 + 1 * (x 0).val = (x 0).val; omega
    | 1 => show 0 + 1 * (x 1).val = (x 1).val; omega
    | 2 => show 0 + 1 * (x 2).val = (x 2).val; omega))

/-- Half `p` of the 512 rows of a block from row `o` on. -/
def rowsOf (X : Vec F S2x2048x256 .i32) (p : Fin 2) (o : Fin 1537) : Vec F S1x512x256 .i32 :=
  fun x => X (ix3 p (⟨o.val + (x 1).val, by have : (x 1).val < 512 := (x 1).isLt; omega⟩ : Fin 2048) (⟨(x 2).val, (x 2).isLt⟩ : Fin 256))

theorem rows1_0 (X : Vec F S2x2048x256 .i32) :
    (fun x => X ((Rect.unit (s := S2x2048x256) ![0, 0, 0] S1x512x256.size inb_S2x2048x256_S1x512x256_0_0_0).emb x)) = rowsOf X 0 0 :=
  funext fun x => congrArg X (funext fun a => Fin.ext (by
    match a with
    | 0 => have : (x 0).val < 1 := (x 0).isLt; show 0 + 1 * (x 0).val = 0; omega
    | 1 => show 0 + 1 * (x 1).val = 0 + (x 1).val; omega
    | 2 => show 0 + 1 * (x 2).val = (x 2).val; omega))
theorem rows1_1 (X : Vec F S2x2048x256 .i32) :
    (fun x => X ((Rect.unit (s := S2x2048x256) ![1, 0, 0] S1x512x256.size inb_S2x2048x256_S1x512x256_1_0_0).emb x)) = rowsOf X 1 0 :=
  funext fun x => congrArg X (funext fun a => Fin.ext (by
    match a with
    | 0 => have : (x 0).val < 1 := (x 0).isLt; show 1 + 1 * (x 0).val = 1; omega
    | 1 => show 0 + 1 * (x 1).val = 0 + (x 1).val; omega
    | 2 => show 0 + 1 * (x 2).val = (x 2).val; omega))
theorem upd1_in (X : Vec F S2x2048x256 .i32) (G U : Vec F S1x1024x512 .bf16) (D : Vec F S1x512x1024 .bf16) (Y : Vec F S2048x1024 .bf16)
    (r : Fin 512) (d : Fin 1024) :
    upd1 1#1 X G U D Y (ix2 (⟨0 + r.val, by omega⟩ : Fin 2048) d) = tile (rowsOf X 0 0) (rowsOf X 1 0) G U D (ix2 r d) := by
  unfold upd1
  rw [if_pos rfl]
  refine (congrFun (congrArg (Rect.overlay _ Y) (tile_congr (rows1_0 X) (rows1_1 X) (unitG G) (unitG U) (unitD D))) _).trans ?_
  have e : (ix2 (⟨0 + r.val, by omega⟩ : Fin 2048) d : S2048x1024.Idx)
      = (Rect.unit (s := S2048x1024) ![0, 0] S512x1024.size inb_S2048x1024_S512x1024_0_0).emb (ix2 r d) :=
    funext fun a => Fin.ext (by
      match a with
      | 0 => show 0 + r.val = 0 + 1 * r.val; omega
      | 1 => show d.val = 0 + 1 * d.val; omega)
  rw [e, Rect.overlay_emb]
theorem upd1_out (b : BitVec 1) (X : Vec F S2x2048x256 .i32) (G U : Vec F S1x1024x512 .bf16) (D : Vec F S1x512x1024 .bf16) (Y : Vec F S2048x1024 .bf16)
    (y : S2048x1024.Idx) (hy : (y 0).val < 0 ∨ 0+512 ≤ (y 0).val) : upd1 b X G U D Y y = Y y := by
  unfold upd1
  split
  · refine Rect.overlay_of_not_mem _ _ _ fun hm => ?_
    have h0 := (Rect.mem_set_unit.mp hm) 0
    have h1 : 0 ≤ (y 0).val := h0.1
    have h2 : (y 0).val < 0 + 512 := h0.2
    omega
  · rfl
theorem upd1_not (b : BitVec 1) (X : Vec F S2x2048x256 .i32) (G U : Vec F S1x1024x512 .bf16) (D : Vec F S1x512x1024 .bf16) (Y : Vec F S2048x1024 .bf16)
    (hb : b ≠ 1#1) : upd1 b X G U D Y = Y := if_neg hb

/-- When tile 1 is taken. -/
theorem cond1_iff (i : grid0.Coords) (v n : BitVec 32) (hn : n.toNat ≤ 96) :
    k0_cond1 i v n = 1#1 ↔ v.toNat = (i 0).val ∧ 4 * (i 0).val + 0 < n.toNat := by
  have hi : (i 0).val < 24 := (i 0).isLt
  have e : k0_cond1 i v n = BitVec.ofBool (v == BitVec.ofNat 32 (i 0).val && BitVec.slt (4#32 * BitVec.ofNat 32 (i 0).val + 0#32) n) := by
    show Scalar.cmpi .ne (Scalar.extui (Scalar.andi (BitVec.ofBool (v == BitVec.ofNat 32 (i 0).val)) (BitVec.ofBool (BitVec.slt (4#32 * BitVec.ofNat 32 (i 0).val + 0#32) n)))) 0#32 = _
    generalize (v == BitVec.ofNat 32 (i 0).val) = p
    generalize BitVec.slt (4#32 * BitVec.ofNat 32 (i 0).val + 0#32) n = q
    cases p <;> cases q <;> rfl
  rw [e, ofBool_eq_one, Bool.and_eq_true, beq_iff_eq, BitVec.slt_eq_decide, decide_eq_true_eq, BitVec.toInt_eq_toNat_cond, BitVec.toInt_eq_toNat_cond,
    BitVec.toNat_add, BitVec.toNat_mul, BitVec.toNat_ofNat, BitVec.toNat_ofNat, BitVec.toNat_ofNat]
  constructor
  · rintro ⟨h1, h2⟩
    have h3 := congrArg BitVec.toNat h1
    rw [BitVec.toNat_ofNat] at h3
    refine ⟨by omega, by omega⟩
  · rintro ⟨h1, h2⟩
    refine ⟨BitVec.eq_of_toNat_eq (by rw [BitVec.toNat_ofNat]; omega), by omega⟩

theorem rows2_0 (X : Vec F S2x2048x256 .i32) :
    (fun x => X ((Rect.unit (s := S2x2048x256) ![0, 512, 0] S1x512x256.size inb_S2x2048x256_S1x512x256_0_512_0).emb x)) = rowsOf X 0 512 :=
  funext fun x => congrArg X (funext fun a => Fin.ext (by
    match a with
    | 0 => have : (x 0).val < 1 := (x 0).isLt; show 0 + 1 * (x 0).val = 0; omega
    | 1 => show 512 + 1 * (x 1).val = 512 + (x 1).val; omega
    | 2 => show 0 + 1 * (x 2).val = (x 2).val; omega))
theorem rows2_1 (X : Vec F S2x2048x256 .i32) :
    (fun x => X ((Rect.unit (s := S2x2048x256) ![1, 512, 0] S1x512x256.size inb_S2x2048x256_S1x512x256_1_512_0).emb x)) = rowsOf X 1 512 :=
  funext fun x => congrArg X (funext fun a => Fin.ext (by
    match a with
    | 0 => have : (x 0).val < 1 := (x 0).isLt; show 1 + 1 * (x 0).val = 1; omega
    | 1 => show 512 + 1 * (x 1).val = 512 + (x 1).val; omega
    | 2 => show 0 + 1 * (x 2).val = (x 2).val; omega))
theorem upd2_in (X : Vec F S2x2048x256 .i32) (G U : Vec F S1x1024x512 .bf16) (D : Vec F S1x512x1024 .bf16) (Y : Vec F S2048x1024 .bf16)
    (r : Fin 512) (d : Fin 1024) :
    upd2 1#1 X G U D Y (ix2 (⟨512 + r.val, by omega⟩ : Fin 2048) d) = tile (rowsOf X 0 512) (rowsOf X 1 512) G U D (ix2 r d) := by
  unfold upd2
  rw [if_pos rfl]
  refine (congrFun (congrArg (Rect.overlay _ Y) (tile_congr (rows2_0 X) (rows2_1 X) (unitG G) (unitG U) (unitD D))) _).trans ?_
  have e : (ix2 (⟨512 + r.val, by omega⟩ : Fin 2048) d : S2048x1024.Idx)
      = (Rect.unit (s := S2048x1024) ![512, 0] S512x1024.size inb_S2048x1024_S512x1024_512_0).emb (ix2 r d) :=
    funext fun a => Fin.ext (by
      match a with
      | 0 => show 512 + r.val = 512 + 1 * r.val; omega
      | 1 => show d.val = 0 + 1 * d.val; omega)
  rw [e, Rect.overlay_emb]
theorem upd2_out (b : BitVec 1) (X : Vec F S2x2048x256 .i32) (G U : Vec F S1x1024x512 .bf16) (D : Vec F S1x512x1024 .bf16) (Y : Vec F S2048x1024 .bf16)
    (y : S2048x1024.Idx) (hy : (y 0).val < 512 ∨ 512+512 ≤ (y 0).val) : upd2 b X G U D Y y = Y y := by
  unfold upd2
  split
  · refine Rect.overlay_of_not_mem _ _ _ fun hm => ?_
    have h0 := (Rect.mem_set_unit.mp hm) 0
    have h1 : 512 ≤ (y 0).val := h0.1
    have h2 : (y 0).val < 512 + 512 := h0.2
    omega
  · rfl
theorem upd2_not (b : BitVec 1) (X : Vec F S2x2048x256 .i32) (G U : Vec F S1x1024x512 .bf16) (D : Vec F S1x512x1024 .bf16) (Y : Vec F S2048x1024 .bf16)
    (hb : b ≠ 1#1) : upd2 b X G U D Y = Y := if_neg hb

/-- When tile 2 is taken. -/
theorem cond2_iff (i : grid0.Coords) (v n : BitVec 32) (hn : n.toNat ≤ 96) :
    k0_cond2 i v n = 1#1 ↔ v.toNat = (i 0).val ∧ 4 * (i 0).val + 1 < n.toNat := by
  have hi : (i 0).val < 24 := (i 0).isLt
  have e : k0_cond2 i v n = BitVec.ofBool (v == BitVec.ofNat 32 (i 0).val && BitVec.slt (4#32 * BitVec.ofNat 32 (i 0).val + 1#32) n) := by
    show Scalar.cmpi .ne (Scalar.extui (Scalar.andi (BitVec.ofBool (v == BitVec.ofNat 32 (i 0).val)) (BitVec.ofBool (BitVec.slt (4#32 * BitVec.ofNat 32 (i 0).val + 1#32) n)))) 0#32 = _
    generalize (v == BitVec.ofNat 32 (i 0).val) = p
    generalize BitVec.slt (4#32 * BitVec.ofNat 32 (i 0).val + 1#32) n = q
    cases p <;> cases q <;> rfl
  rw [e, ofBool_eq_one, Bool.and_eq_true, beq_iff_eq, BitVec.slt_eq_decide, decide_eq_true_eq, BitVec.toInt_eq_toNat_cond, BitVec.toInt_eq_toNat_cond,
    BitVec.toNat_add, BitVec.toNat_mul, BitVec.toNat_ofNat, BitVec.toNat_ofNat, BitVec.toNat_ofNat]
  constructor
  · rintro ⟨h1, h2⟩
    have h3 := congrArg BitVec.toNat h1
    rw [BitVec.toNat_ofNat] at h3
    refine ⟨by omega, by omega⟩
  · rintro ⟨h1, h2⟩
    refine ⟨BitVec.eq_of_toNat_eq (by rw [BitVec.toNat_ofNat]; omega), by omega⟩

theorem rows3_0 (X : Vec F S2x2048x256 .i32) :
    (fun x => X ((Rect.unit (s := S2x2048x256) ![0, 1024, 0] S1x512x256.size inb_S2x2048x256_S1x512x256_0_1024_0).emb x)) = rowsOf X 0 1024 :=
  funext fun x => congrArg X (funext fun a => Fin.ext (by
    match a with
    | 0 => have : (x 0).val < 1 := (x 0).isLt; show 0 + 1 * (x 0).val = 0; omega
    | 1 => show 1024 + 1 * (x 1).val = 1024 + (x 1).val; omega
    | 2 => show 0 + 1 * (x 2).val = (x 2).val; omega))
theorem rows3_1 (X : Vec F S2x2048x256 .i32) :
    (fun x => X ((Rect.unit (s := S2x2048x256) ![1, 1024, 0] S1x512x256.size inb_S2x2048x256_S1x512x256_1_1024_0).emb x)) = rowsOf X 1 1024 :=
  funext fun x => congrArg X (funext fun a => Fin.ext (by
    match a with
    | 0 => have : (x 0).val < 1 := (x 0).isLt; show 1 + 1 * (x 0).val = 1; omega
    | 1 => show 1024 + 1 * (x 1).val = 1024 + (x 1).val; omega
    | 2 => show 0 + 1 * (x 2).val = (x 2).val; omega))
theorem upd3_in (X : Vec F S2x2048x256 .i32) (G U : Vec F S1x1024x512 .bf16) (D : Vec F S1x512x1024 .bf16) (Y : Vec F S2048x1024 .bf16)
    (r : Fin 512) (d : Fin 1024) :
    upd3 1#1 X G U D Y (ix2 (⟨1024 + r.val, by omega⟩ : Fin 2048) d) = tile (rowsOf X 0 1024) (rowsOf X 1 1024) G U D (ix2 r d) := by
  unfold upd3
  rw [if_pos rfl]
  refine (congrFun (congrArg (Rect.overlay _ Y) (tile_congr (rows3_0 X) (rows3_1 X) (unitG G) (unitG U) (unitD D))) _).trans ?_
  have e : (ix2 (⟨1024 + r.val, by omega⟩ : Fin 2048) d : S2048x1024.Idx)
      = (Rect.unit (s := S2048x1024) ![1024, 0] S512x1024.size inb_S2048x1024_S512x1024_1024_0).emb (ix2 r d) :=
    funext fun a => Fin.ext (by
      match a with
      | 0 => show 1024 + r.val = 1024 + 1 * r.val; omega
      | 1 => show d.val = 0 + 1 * d.val; omega)
  rw [e, Rect.overlay_emb]
theorem upd3_out (b : BitVec 1) (X : Vec F S2x2048x256 .i32) (G U : Vec F S1x1024x512 .bf16) (D : Vec F S1x512x1024 .bf16) (Y : Vec F S2048x1024 .bf16)
    (y : S2048x1024.Idx) (hy : (y 0).val < 1024 ∨ 1024+512 ≤ (y 0).val) : upd3 b X G U D Y y = Y y := by
  unfold upd3
  split
  · refine Rect.overlay_of_not_mem _ _ _ fun hm => ?_
    have h0 := (Rect.mem_set_unit.mp hm) 0
    have h1 : 1024 ≤ (y 0).val := h0.1
    have h2 : (y 0).val < 1024 + 512 := h0.2
    omega
  · rfl
theorem upd3_not (b : BitVec 1) (X : Vec F S2x2048x256 .i32) (G U : Vec F S1x1024x512 .bf16) (D : Vec F S1x512x1024 .bf16) (Y : Vec F S2048x1024 .bf16)
    (hb : b ≠ 1#1) : upd3 b X G U D Y = Y := if_neg hb

/-- When tile 3 is taken. -/
theorem cond3_iff (i : grid0.Coords) (v n : BitVec 32) (hn : n.toNat ≤ 96) :
    k0_cond3 i v n = 1#1 ↔ v.toNat = (i 0).val ∧ 4 * (i 0).val + 2 < n.toNat := by
  have hi : (i 0).val < 24 := (i 0).isLt
  have e : k0_cond3 i v n = BitVec.ofBool (v == BitVec.ofNat 32 (i 0).val && BitVec.slt (4#32 * BitVec.ofNat 32 (i 0).val + 2#32) n) := by
    show Scalar.cmpi .ne (Scalar.extui (Scalar.andi (BitVec.ofBool (v == BitVec.ofNat 32 (i 0).val)) (BitVec.ofBool (BitVec.slt (4#32 * BitVec.ofNat 32 (i 0).val + 2#32) n)))) 0#32 = _
    generalize (v == BitVec.ofNat 32 (i 0).val) = p
    generalize BitVec.slt (4#32 * BitVec.ofNat 32 (i 0).val + 2#32) n = q
    cases p <;> cases q <;> rfl
  rw [e, ofBool_eq_one, Bool.and_eq_true, beq_iff_eq, BitVec.slt_eq_decide, decide_eq_true_eq, BitVec.toInt_eq_toNat_cond, BitVec.toInt_eq_toNat_cond,
    BitVec.toNat_add, BitVec.toNat_mul, BitVec.toNat_ofNat, BitVec.toNat_ofNat, BitVec.toNat_ofNat]
  constructor
  · rintro ⟨h1, h2⟩
    have h3 := congrArg BitVec.toNat h1
    rw [BitVec.toNat_ofNat] at h3
    refine ⟨by omega, by omega⟩
  · rintro ⟨h1, h2⟩
    refine ⟨BitVec.eq_of_toNat_eq (by rw [BitVec.toNat_ofNat]; omega), by omega⟩

theorem rows4_0 (X : Vec F S2x2048x256 .i32) :
    (fun x => X ((Rect.unit (s := S2x2048x256) ![0, 1536, 0] S1x512x256.size inb_S2x2048x256_S1x512x256_0_1536_0).emb x)) = rowsOf X 0 1536 :=
  funext fun x => congrArg X (funext fun a => Fin.ext (by
    match a with
    | 0 => have : (x 0).val < 1 := (x 0).isLt; show 0 + 1 * (x 0).val = 0; omega
    | 1 => show 1536 + 1 * (x 1).val = 1536 + (x 1).val; omega
    | 2 => show 0 + 1 * (x 2).val = (x 2).val; omega))
theorem rows4_1 (X : Vec F S2x2048x256 .i32) :
    (fun x => X ((Rect.unit (s := S2x2048x256) ![1, 1536, 0] S1x512x256.size inb_S2x2048x256_S1x512x256_1_1536_0).emb x)) = rowsOf X 1 1536 :=
  funext fun x => congrArg X (funext fun a => Fin.ext (by
    match a with
    | 0 => have : (x 0).val < 1 := (x 0).isLt; show 1 + 1 * (x 0).val = 1; omega
    | 1 => show 1536 + 1 * (x 1).val = 1536 + (x 1).val; omega
    | 2 => show 0 + 1 * (x 2).val = (x 2).val; omega))
theorem upd4_in (X : Vec F S2x2048x256 .i32) (G U : Vec F S1x1024x512 .bf16) (D : Vec F S1x512x1024 .bf16) (Y : Vec F S2048x1024 .bf16)
    (r : Fin 512) (d : Fin 1024) :
    upd4 1#1 X G U D Y (ix2 (⟨1536 + r.val, by omega⟩ : Fin 2048) d) = tile (rowsOf X 0 1536) (rowsOf X 1 1536) G U D (ix2 r d) := by
  unfold upd4
  rw [if_pos rfl]
  refine (congrFun (congrArg (Rect.overlay _ Y) (tile_congr (rows4_0 X) (rows4_1 X) (unitG G) (unitG U) (unitD D))) _).trans ?_
  have e : (ix2 (⟨1536 + r.val, by omega⟩ : Fin 2048) d : S2048x1024.Idx)
      = (Rect.unit (s := S2048x1024) ![1536, 0] S512x1024.size inb_S2048x1024_S512x1024_1536_0).emb (ix2 r d) :=
    funext fun a => Fin.ext (by
      match a with
      | 0 => show 1536 + r.val = 1536 + 1 * r.val; omega
      | 1 => show d.val = 0 + 1 * d.val; omega)
  rw [e, Rect.overlay_emb]
theorem upd4_out (b : BitVec 1) (X : Vec F S2x2048x256 .i32) (G U : Vec F S1x1024x512 .bf16) (D : Vec F S1x512x1024 .bf16) (Y : Vec F S2048x1024 .bf16)
    (y : S2048x1024.Idx) (hy : (y 0).val < 1536 ∨ 1536+512 ≤ (y 0).val) : upd4 b X G U D Y y = Y y := by
  unfold upd4
  split
  · refine Rect.overlay_of_not_mem _ _ _ fun hm => ?_
    have h0 := (Rect.mem_set_unit.mp hm) 0
    have h1 : 1536 ≤ (y 0).val := h0.1
    have h2 : (y 0).val < 1536 + 512 := h0.2
    omega
  · rfl
theorem upd4_not (b : BitVec 1) (X : Vec F S2x2048x256 .i32) (G U : Vec F S1x1024x512 .bf16) (D : Vec F S1x512x1024 .bf16) (Y : Vec F S2048x1024 .bf16)
    (hb : b ≠ 1#1) : upd4 b X G U D Y = Y := if_neg hb

/-- When tile 4 is taken. -/
theorem cond4_iff (i : grid0.Coords) (v n : BitVec 32) (hn : n.toNat ≤ 96) :
    k0_cond4 i v n = 1#1 ↔ v.toNat = (i 0).val ∧ 4 * (i 0).val + 3 < n.toNat := by
  have hi : (i 0).val < 24 := (i 0).isLt
  have e : k0_cond4 i v n = BitVec.ofBool (v == BitVec.ofNat 32 (i 0).val && BitVec.slt (4#32 * BitVec.ofNat 32 (i 0).val + 3#32) n) := by
    show Scalar.cmpi .ne (Scalar.extui (Scalar.andi (BitVec.ofBool (v == BitVec.ofNat 32 (i 0).val)) (BitVec.ofBool (BitVec.slt (4#32 * BitVec.ofNat 32 (i 0).val + 3#32) n)))) 0#32 = _
    generalize (v == BitVec.ofNat 32 (i 0).val) = p
    generalize BitVec.slt (4#32 * BitVec.ofNat 32 (i 0).val + 3#32) n = q
    cases p <;> cases q <;> rfl
  rw [e, ofBool_eq_one, Bool.and_eq_true, beq_iff_eq, BitVec.slt_eq_decide, decide_eq_true_eq, BitVec.toInt_eq_toNat_cond, BitVec.toInt_eq_toNat_cond,
    BitVec.toNat_add, BitVec.toNat_mul, BitVec.toNat_ofNat, BitVec.toNat_ofNat, BitVec.toNat_ofNat]
  constructor
  · rintro ⟨h1, h2⟩
    have h3 := congrArg BitVec.toNat h1
    rw [BitVec.toNat_ofNat] at h3
    refine ⟨by omega, by omega⟩
  · rintro ⟨h1, h2⟩
    refine ⟨BitVec.eq_of_toNat_eq (by rw [BitVec.toNat_ofNat]; omega), by omega⟩

end Cert.Proof.Experts

end
-- ==== Proof.ExpertsResult.lean ====
/-
  The experts call's result array: every row below 512 times the number of tiles is the row of its tile's payload, whatever
  the array held before.
-/
module

public import proofs.«01_k».proof.Proof.ExpertsRead
public import Idealize.ShloMosaic.Lib.Pipeline.ArrRel

@[expose] public section

namespace Cert.Proof.Experts

open Cert.Kernel2Ideal Cert.Kernel2Ideal.Gen
open Idealize.ShloMosaic Idealize.ShloMosaic.TcCoe Idealize.ShloMosaic.Tactic Idealize.ShloMosaic.ValueIdx

variable {F : FTy → Type} [FloatOps F]

/-- Half `p` of a tile's rows. -/
def xrow (X : Vec F S2x49152x256 .i32) (p : Fin 2) (T : Fin 96) : Vec F S1x512x256 .i32 :=
  fun x => X (ix3 p (⟨512 * T.val + (x 1).val, by have : (x 1).val < 512 := (x 1).isLt; omega⟩ : Fin 49152) (⟨(x 2).val, (x 2).isLt⟩ : Fin 256))
/-- An expert's gate or up weights. -/
def wrow (W : Vec F S32x1024x512 .bf16) (e : Fin 32) : Vec F S1x1024x512 .bf16 :=
  fun x => W (ix3 e (⟨(x 1).val, (x 1).isLt⟩ : Fin 1024) (⟨(x 2).val, (x 2).isLt⟩ : Fin 512))
/-- An expert's down weights. -/
def drow (W : Vec F S32x512x1024 .bf16) (e : Fin 32) : Vec F S1x512x1024 .bf16 :=
  fun x => W (ix3 e (⟨(x 1).val, (x 1).isLt⟩ : Fin 512) (⟨(x 2).val, (x 2).isLt⟩ : Fin 1024))
/-- The expert of a tile. -/
def expertOf (te : S96.Idx → BitVec 32) (T : Fin 96) : Fin 32 := ⟨(te (ix1 T)).toNat % 32, Nat.mod_lt _ (by decide)⟩

/-- Row `n` of the result: of its tile's payload. -/
noncomputable def target (xs : Vec F S2x49152x256 .i32) (te : S96.Idx → BitVec 32) (wg wu : Vec F S32x1024x512 .bf16) (wd : Vec F S32x512x1024 .bf16)
    (n : Fin 49152) (d : Fin 1024) : Elt F .bf16 :=
  let T : Fin 96 := ⟨n.val / 512, by omega⟩
  tile (xrow xs 0 T) (xrow xs 1 T) (wrow wg (expertOf te T)) (wrow wu (expertOf te T)) (drow wd (expertOf te T))
    (ix2 (⟨n.val % 512, Nat.mod_lt _ (by decide)⟩ : Fin 512) d)

theorem target_at (xs : Vec F S2x49152x256 .i32) (te : S96.Idx → BitVec 32) (wg wu : Vec F S32x1024x512 .bf16) (wd : Vec F S32x512x1024 .bf16)
    (n : Fin 49152) (d : Fin 1024) (T : Fin 96) (r : Fin 512) (hn : n.val = 512 * T.val + r.val) :
    target xs te wg wu wd n d = tile (xrow xs 0 T) (xrow xs 1 T) (wrow wg (expertOf te T)) (wrow wu (expertOf te T)) (drow wd (expertOf te T)) (ix2 r d) := by
  have hT : (⟨n.val / 512, by omega⟩ : Fin 96) = T := Fin.ext (by show n.val / 512 = T.val; omega)
  have hr : (⟨n.val % 512, Nat.mod_lt _ (by decide)⟩ : Fin 512) = r := Fin.ext (by show n.val % 512 = r.val; omega)
  unfold target
  simp only [hT, hr]

variable [∀ e, Nonempty (Elt F e)] (m : (ℓ : Loc nD τ sig) → Buf (Elt F) ℓ) (hO : Ok m)

theorem coord_val (t : Fin (cfgM m hO).N) : (grid0.coords t 0).val = t.val := by
  have ht : t.val < 24 := t.isLt
  have hs : grid0.stride 0 = 1 := by decide
  show t.val / grid0.stride 0 % 24 = t.val
  rw [hs]; omega

theorem word2_eq (c : Dev nD) (i : grid0.Coords) : word2 (F := F) c i tb2 (tbl m 1) = tbl m 1 (ix1 (i 0 : Fin 24)) :=
  pr_at (tbl m) i _
theorem word3_eq (c : Dev nD) : word3 (F := F) c tb3 (tbl m 2) = tbl m 2 (ix1 (0 : Fin 1)) := by
  refine (fun (x y : S1.Idx) (hxy : x = y) => show tbl m 2 x = tbl m 2 y from hxy ▸ rfl) _ _ ?_
  funext (a : Fin 1); match a with | 0 => exact Subsingleton.elim (α := Fin 1) _ _

theorem bit1_iff {L : ℕ} (hT : TablesOK (tbl m 0) (tbl m 1) (tbl m 2) L) (c : Dev nD) (t : Fin (cfgM m hO).N) :
    bit1 m c (grid0.coords t) = 1#1 ↔ t.val ≤ L ∧ 4 * t.val + 0 < BitVec.toNat (w := 32) (tbl m 2 (ix1 (0 : Fin 1))) := by
  have hL := hT.L_lt
  have hn := hT.nu_le
  have hp := hT.pr_eq (grid0.coords t 0)
  unfold bit1
  rw [word2_eq, word3_eq]
  rw [coord_val] at hp
  refine (cond1_iff (grid0.coords t) (tbl m 1 (ix1 (grid0.coords t 0 : Fin 24))) (tbl m 2 (ix1 (0 : Fin 1))) (by omega)).trans ?_
  have hc := coord_val m hO t
  constructor
  · rintro ⟨h1, h2⟩
    have h3 := hp.symm.trans (h1.trans hc)
    exact ⟨by omega, by omega⟩
  · rintro ⟨h1, h2⟩
    exact ⟨hp.trans ((Nat.min_eq_left h1).trans hc.symm), by omega⟩
theorem bit2_iff {L : ℕ} (hT : TablesOK (tbl m 0) (tbl m 1) (tbl m 2) L) (c : Dev nD) (t : Fin (cfgM m hO).N) :
    bit2 m c (grid0.coords t) = 1#1 ↔ t.val ≤ L ∧ 4 * t.val + 1 < BitVec.toNat (w := 32) (tbl m 2 (ix1 (0 : Fin 1))) := by
  have hL := hT.L_lt
  have hn := hT.nu_le
  have hp := hT.pr_eq (grid0.coords t 0)
  unfold bit2
  rw [word2_eq, word3_eq]
  rw [coord_val] at hp
  refine (cond2_iff (grid0.coords t) (tbl m 1 (ix1 (grid0.coords t 0 : Fin 24))) (tbl m 2 (ix1 (0 : Fin 1))) (by omega)).trans ?_
  have hc := coord_val m hO t
  constructor
  · rintro ⟨h1, h2⟩
    have h3 := hp.symm.trans (h1.trans hc)
    exact ⟨by omega, by omega⟩
  · rintro ⟨h1, h2⟩
    exact ⟨hp.trans ((Nat.min_eq_left h1).trans hc.symm), by omega⟩
theorem bit3_iff {L : ℕ} (hT : TablesOK (tbl m 0) (tbl m 1) (tbl m 2) L) (c : Dev nD) (t : Fin (cfgM m hO).N) :
    bit3 m c (grid0.coords t) = 1#1 ↔ t.val ≤ L ∧ 4 * t.val + 2 < BitVec.toNat (w := 32) (tbl m 2 (ix1 (0 : Fin 1))) := by
  have hL := hT.L_lt
  have hn := hT.nu_le
  have hp := hT.pr_eq (grid0.coords t 0)
  unfold bit3
  rw [word2_eq, word3_eq]
  rw [coord_val] at hp
  refine (cond3_iff (grid0.coords t) (tbl m 1 (ix1 (grid0.coords t 0 : Fin 24))) (tbl m 2 (ix1 (0 : Fin 1))) (by omega)).trans ?_
  have hc := coord_val m hO t
  constructor
  · rintro ⟨h1, h2⟩
    have h3 := hp.symm.trans (h1.trans hc)
    exact ⟨by omega, by omega⟩
  · rintro ⟨h1, h2⟩
    exact ⟨hp.trans ((Nat.min_eq_left h1).trans hc.symm), by omega⟩
theorem bit4_iff {L : ℕ} (hT : TablesOK (tbl m 0) (tbl m 1) (tbl m 2) L) (c : Dev nD) (t : Fin (cfgM m hO).N) :
    bit4 m c (grid0.coords t) = 1#1 ↔ t.val ≤ L ∧ 4 * t.val + 3 < BitVec.toNat (w := 32) (tbl m 2 (ix1 (0 : Fin 1))) := by
  have hL := hT.L_lt
  have hn := hT.nu_le
  have hp := hT.pr_eq (grid0.coords t 0)
  unfold bit4
  rw [word2_eq, word3_eq]
  rw [coord_val] at hp
  refine (cond4_iff (grid0.coords t) (tbl m 1 (ix1 (grid0.coords t 0 : Fin 24))) (tbl m 2 (ix1 (0 : Fin 1))) (by omega)).trans ?_
  have hc := coord_val m hO t
  constructor
  · rintro ⟨h1, h2⟩
    have h3 := hp.symm.trans (h1.trans hc)
    exact ⟨by omega, by omega⟩
  · rintro ⟨h1, h2⟩
    exact ⟨hp.trans ((Nat.min_eq_left h1).trans hc.symm), by omega⟩

/-! ## The blocks the windows hold -/

theorem xs_at {L : ℕ} (hT : TablesOK (tbl m 0) (tbl m 1) (tbl m 2) L) (c : Dev nD) (t : Fin (cfgM m hO).N) (ht : t.val ≤ L)
    (p : Fin 2) (o : Fin 1537) (T : Fin 96) (ho : 512 * T.val = 2048 * t.val + o.val) :
    rowsOf (xs m hO c t) p o = xrow (V m c main_arg0) p T := by
  have hp := hT.pr_eq (grid0.coords t 0)
  rw [coord_val] at hp
  funext x
  have hx1 : (x 1).val < 512 := (x 1).isLt
  show V m c main_arg0 ((((cfgM m hO).win 0).rect t).emb (ix3 p (⟨o.val + (x 1).val, by omega⟩ : Fin 2048) (⟨(x 2).val, (x 2).isLt⟩ : Fin 256))) = V m c main_arg0 _
  refine (fun (x y : S2x49152x256.Idx) (hxy : x = y) => show V m c main_arg0 x = V m c main_arg0 y from hxy ▸ rfl) _ _ ?_
  have hi : ((cfgM m hO).win 0).index t = ![0, BitVec.toNat (w := 32) (tbl m 1 (ix1 (grid0.coords t 0 : Fin 24))), 0] := map0 (tbl m) (grid0.coords t)
  funext (a : Fin 3)
  refine Fin.ext ((Pipeline.Window.rect_emb_val ((cfgM m hO).win 0) t _ a).trans ?_)
  rw [hi, hp]
  match a with
  | 0 => show 0 * 2 + p.val = p.val; omega
  | 1 => show min t.val L * 2048 + (o.val + (x 1).val) = 512 * T.val + (x 1).val; rw [Nat.min_eq_left ht]; omega
  | 2 => show 0 * 256 + (x 2).val = (x 2).val; omega

theorem wg1_at {L : ℕ} (hT : TablesOK (tbl m 0) (tbl m 1) (tbl m 2) L) (c : Dev nD) (t : Fin (cfgM m hO).N) (T : Fin 96) (ho : T.val = 4 * t.val + 0) :
    wg1 m hO c t = wrow (V m c main_arg4) (expertOf (tbl m 0) T) := by
  have he := hT.te_lt T
  have hc := coord_val m hO t
  funext x
  have hx0 : (x 0).val < 1 := (x 0).isLt
  show V m c main_arg4 ((((cfgM m hO).win 1).rect t).emb x) = V m c main_arg4 _
  refine (fun (x y : S32x1024x512.Idx) (hxy : x = y) => show V m c main_arg4 x = V m c main_arg4 y from hxy ▸ rfl) _ _ ?_
  have hi : ((cfgM m hO).win 1).index t = ![BitVec.toNat (w := 32) (tbl m 0 (ix1 T)), 0, 0] := by
    refine (map1 (tbl m) (grid0.coords t)).trans ?_
    rw [show (⟨4 * (grid0.coords t 0).val + 0, by have : (grid0.coords t 0).val < 24 := (grid0.coords t 0).isLt; omega⟩ : Fin 96) = T from
      Fin.ext (by show 4 * (grid0.coords t 0).val + 0 = T.val; omega)]
  funext (a : Fin 3)
  refine Fin.ext ((Pipeline.Window.rect_emb_val ((cfgM m hO).win 1) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 1024 + (x 1).val = (x 1).val; omega
  | 2 => show 0 * 512 + (x 2).val = (x 2).val; omega
theorem wu1_at {L : ℕ} (hT : TablesOK (tbl m 0) (tbl m 1) (tbl m 2) L) (c : Dev nD) (t : Fin (cfgM m hO).N) (T : Fin 96) (ho : T.val = 4 * t.val + 0) :
    wu1 m hO c t = wrow (V m c main_arg5) (expertOf (tbl m 0) T) := by
  have he := hT.te_lt T
  have hc := coord_val m hO t
  funext x
  have hx0 : (x 0).val < 1 := (x 0).isLt
  show V m c main_arg5 ((((cfgM m hO).win 2).rect t).emb x) = V m c main_arg5 _
  refine (fun (x y : S32x1024x512.Idx) (hxy : x = y) => show V m c main_arg5 x = V m c main_arg5 y from hxy ▸ rfl) _ _ ?_
  have hi : ((cfgM m hO).win 2).index t = ![BitVec.toNat (w := 32) (tbl m 0 (ix1 T)), 0, 0] := by
    refine (map2 (tbl m) (grid0.coords t)).trans ?_
    rw [show (⟨4 * (grid0.coords t 0).val + 0, by have : (grid0.coords t 0).val < 24 := (grid0.coords t 0).isLt; omega⟩ : Fin 96) = T from
      Fin.ext (by show 4 * (grid0.coords t 0).val + 0 = T.val; omega)]
  funext (a : Fin 3)
  refine Fin.ext ((Pipeline.Window.rect_emb_val ((cfgM m hO).win 2) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 1024 + (x 1).val = (x 1).val; omega
  | 2 => show 0 * 512 + (x 2).val = (x 2).val; omega
theorem wd1_at {L : ℕ} (hT : TablesOK (tbl m 0) (tbl m 1) (tbl m 2) L) (c : Dev nD) (t : Fin (cfgM m hO).N) (T : Fin 96) (ho : T.val = 4 * t.val + 0) :
    wd1 m hO c t = drow (V m c main_arg6) (expertOf (tbl m 0) T) := by
  have he := hT.te_lt T
  have hc := coord_val m hO t
  funext x
  have hx0 : (x 0).val < 1 := (x 0).isLt
  show V m c main_arg6 ((((cfgM m hO).win 3).rect t).emb x) = V m c main_arg6 _
  refine (fun (x y : S32x512x1024.Idx) (hxy : x = y) => show V m c main_arg6 x = V m c main_arg6 y from hxy ▸ rfl) _ _ ?_
  have hi : ((cfgM m hO).win 3).index t = ![BitVec.toNat (w := 32) (tbl m 0 (ix1 T)), 0, 0] := by
    refine (map3 (tbl m) (grid0.coords t)).trans ?_
    rw [show (⟨4 * (grid0.coords t 0).val + 0, by have : (grid0.coords t 0).val < 24 := (grid0.coords t 0).isLt; omega⟩ : Fin 96) = T from
      Fin.ext (by show 4 * (grid0.coords t 0).val + 0 = T.val; omega)]
  funext (a : Fin 3)
  refine Fin.ext ((Pipeline.Window.rect_emb_val ((cfgM m hO).win 3) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 512 + (x 1).val = (x 1).val; omega
  | 2 => show 0 * 1024 + (x 2).val = (x 2).val; omega
theorem wg2_at {L : ℕ} (hT : TablesOK (tbl m 0) (tbl m 1) (tbl m 2) L) (c : Dev nD) (t : Fin (cfgM m hO).N) (T : Fin 96) (ho : T.val = 4 * t.val + 1) :
    wg2 m hO c t = wrow (V m c main_arg4) (expertOf (tbl m 0) T) := by
  have he := hT.te_lt T
  have hc := coord_val m hO t
  funext x
  have hx0 : (x 0).val < 1 := (x 0).isLt
  show V m c main_arg4 ((((cfgM m hO).win 4).rect t).emb x) = V m c main_arg4 _
  refine (fun (x y : S32x1024x512.Idx) (hxy : x = y) => show V m c main_arg4 x = V m c main_arg4 y from hxy ▸ rfl) _ _ ?_
  have hi : ((cfgM m hO).win 4).index t = ![BitVec.toNat (w := 32) (tbl m 0 (ix1 T)), 0, 0] := by
    refine (map4 (tbl m) (grid0.coords t)).trans ?_
    rw [show (⟨4 * (grid0.coords t 0).val + 1, by have : (grid0.coords t 0).val < 24 := (grid0.coords t 0).isLt; omega⟩ : Fin 96) = T from
      Fin.ext (by show 4 * (grid0.coords t 0).val + 1 = T.val; omega)]
  funext (a : Fin 3)
  refine Fin.ext ((Pipeline.Window.rect_emb_val ((cfgM m hO).win 4) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 1024 + (x 1).val = (x 1).val; omega
  | 2 => show 0 * 512 + (x 2).val = (x 2).val; omega
theorem wu2_at {L : ℕ} (hT : TablesOK (tbl m 0) (tbl m 1) (tbl m 2) L) (c : Dev nD) (t : Fin (cfgM m hO).N) (T : Fin 96) (ho : T.val = 4 * t.val + 1) :
    wu2 m hO c t = wrow (V m c main_arg5) (expertOf (tbl m 0) T) := by
  have he := hT.te_lt T
  have hc := coord_val m hO t
  funext x
  have hx0 : (x 0).val < 1 := (x 0).isLt
  show V m c main_arg5 ((((cfgM m hO).win 5).rect t).emb x) = V m c main_arg5 _
  refine (fun (x y : S32x1024x512.Idx) (hxy : x = y) => show V m c main_arg5 x = V m c main_arg5 y from hxy ▸ rfl) _ _ ?_
  have hi : ((cfgM m hO).win 5).index t = ![BitVec.toNat (w := 32) (tbl m 0 (ix1 T)), 0, 0] := by
    refine (map5 (tbl m) (grid0.coords t)).trans ?_
    rw [show (⟨4 * (grid0.coords t 0).val + 1, by have : (grid0.coords t 0).val < 24 := (grid0.coords t 0).isLt; omega⟩ : Fin 96) = T from
      Fin.ext (by show 4 * (grid0.coords t 0).val + 1 = T.val; omega)]
  funext (a : Fin 3)
  refine Fin.ext ((Pipeline.Window.rect_emb_val ((cfgM m hO).win 5) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 1024 + (x 1).val = (x 1).val; omega
  | 2 => show 0 * 512 + (x 2).val = (x 2).val; omega
theorem wd2_at {L : ℕ} (hT : TablesOK (tbl m 0) (tbl m 1) (tbl m 2) L) (c : Dev nD) (t : Fin (cfgM m hO).N) (T : Fin 96) (ho : T.val = 4 * t.val + 1) :
    wd2 m hO c t = drow (V m c main_arg6) (expertOf (tbl m 0) T) := by
  have he := hT.te_lt T
  have hc := coord_val m hO t
  funext x
  have hx0 : (x 0).val < 1 := (x 0).isLt
  show V m c main_arg6 ((((cfgM m hO).win 6).rect t).emb x) = V m c main_arg6 _
  refine (fun (x y : S32x512x1024.Idx) (hxy : x = y) => show V m c main_arg6 x = V m c main_arg6 y from hxy ▸ rfl) _ _ ?_
  have hi : ((cfgM m hO).win 6).index t = ![BitVec.toNat (w := 32) (tbl m 0 (ix1 T)), 0, 0] := by
    refine (map6 (tbl m) (grid0.coords t)).trans ?_
    rw [show (⟨4 * (grid0.coords t 0).val + 1, by have : (grid0.coords t 0).val < 24 := (grid0.coords t 0).isLt; omega⟩ : Fin 96) = T from
      Fin.ext (by show 4 * (grid0.coords t 0).val + 1 = T.val; omega)]
  funext (a : Fin 3)
  refine Fin.ext ((Pipeline.Window.rect_emb_val ((cfgM m hO).win 6) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 512 + (x 1).val = (x 1).val; omega
  | 2 => show 0 * 1024 + (x 2).val = (x 2).val; omega
theorem wg3_at {L : ℕ} (hT : TablesOK (tbl m 0) (tbl m 1) (tbl m 2) L) (c : Dev nD) (t : Fin (cfgM m hO).N) (T : Fin 96) (ho : T.val = 4 * t.val + 2) :
    wg3 m hO c t = wrow (V m c main_arg4) (expertOf (tbl m 0) T) := by
  have he := hT.te_lt T
  have hc := coord_val m hO t
  funext x
  have hx0 : (x 0).val < 1 := (x 0).isLt
  show V m c main_arg4 ((((cfgM m hO).win 7).rect t).emb x) = V m c main_arg4 _
  refine (fun (x y : S32x1024x512.Idx) (hxy : x = y) => show V m c main_arg4 x = V m c main_arg4 y from hxy ▸ rfl) _ _ ?_
  have hi : ((cfgM m hO).win 7).index t = ![BitVec.toNat (w := 32) (tbl m 0 (ix1 T)), 0, 0] := by
    refine (map7 (tbl m) (grid0.coords t)).trans ?_
    rw [show (⟨4 * (grid0.coords t 0).val + 2, by have : (grid0.coords t 0).val < 24 := (grid0.coords t 0).isLt; omega⟩ : Fin 96) = T from
      Fin.ext (by show 4 * (grid0.coords t 0).val + 2 = T.val; omega)]
  funext (a : Fin 3)
  refine Fin.ext ((Pipeline.Window.rect_emb_val ((cfgM m hO).win 7) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 1024 + (x 1).val = (x 1).val; omega
  | 2 => show 0 * 512 + (x 2).val = (x 2).val; omega
theorem wu3_at {L : ℕ} (hT : TablesOK (tbl m 0) (tbl m 1) (tbl m 2) L) (c : Dev nD) (t : Fin (cfgM m hO).N) (T : Fin 96) (ho : T.val = 4 * t.val + 2) :
    wu3 m hO c t = wrow (V m c main_arg5) (expertOf (tbl m 0) T) := by
  have he := hT.te_lt T
  have hc := coord_val m hO t
  funext x
  have hx0 : (x 0).val < 1 := (x 0).isLt
  show V m c main_arg5 ((((cfgM m hO).win 8).rect t).emb x) = V m c main_arg5 _
  refine (fun (x y : S32x1024x512.Idx) (hxy : x = y) => show V m c main_arg5 x = V m c main_arg5 y from hxy ▸ rfl) _ _ ?_
  have hi : ((cfgM m hO).win 8).index t = ![BitVec.toNat (w := 32) (tbl m 0 (ix1 T)), 0, 0] := by
    refine (map8 (tbl m) (grid0.coords t)).trans ?_
    rw [show (⟨4 * (grid0.coords t 0).val + 2, by have : (grid0.coords t 0).val < 24 := (grid0.coords t 0).isLt; omega⟩ : Fin 96) = T from
      Fin.ext (by show 4 * (grid0.coords t 0).val + 2 = T.val; omega)]
  funext (a : Fin 3)
  refine Fin.ext ((Pipeline.Window.rect_emb_val ((cfgM m hO).win 8) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 1024 + (x 1).val = (x 1).val; omega
  | 2 => show 0 * 512 + (x 2).val = (x 2).val; omega
theorem wd3_at {L : ℕ} (hT : TablesOK (tbl m 0) (tbl m 1) (tbl m 2) L) (c : Dev nD) (t : Fin (cfgM m hO).N) (T : Fin 96) (ho : T.val = 4 * t.val + 2) :
    wd3 m hO c t = drow (V m c main_arg6) (expertOf (tbl m 0) T) := by
  have he := hT.te_lt T
  have hc := coord_val m hO t
  funext x
  have hx0 : (x 0).val < 1 := (x 0).isLt
  show V m c main_arg6 ((((cfgM m hO).win 9).rect t).emb x) = V m c main_arg6 _
  refine (fun (x y : S32x512x1024.Idx) (hxy : x = y) => show V m c main_arg6 x = V m c main_arg6 y from hxy ▸ rfl) _ _ ?_
  have hi : ((cfgM m hO).win 9).index t = ![BitVec.toNat (w := 32) (tbl m 0 (ix1 T)), 0, 0] := by
    refine (map9 (tbl m) (grid0.coords t)).trans ?_
    rw [show (⟨4 * (grid0.coords t 0).val + 2, by have : (grid0.coords t 0).val < 24 := (grid0.coords t 0).isLt; omega⟩ : Fin 96) = T from
      Fin.ext (by show 4 * (grid0.coords t 0).val + 2 = T.val; omega)]
  funext (a : Fin 3)
  refine Fin.ext ((Pipeline.Window.rect_emb_val ((cfgM m hO).win 9) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 512 + (x 1).val = (x 1).val; omega
  | 2 => show 0 * 1024 + (x 2).val = (x 2).val; omega
theorem wg4_at {L : ℕ} (hT : TablesOK (tbl m 0) (tbl m 1) (tbl m 2) L) (c : Dev nD) (t : Fin (cfgM m hO).N) (T : Fin 96) (ho : T.val = 4 * t.val + 3) :
    wg4 m hO c t = wrow (V m c main_arg4) (expertOf (tbl m 0) T) := by
  have he := hT.te_lt T
  have hc := coord_val m hO t
  funext x
  have hx0 : (x 0).val < 1 := (x 0).isLt
  show V m c main_arg4 ((((cfgM m hO).win 10).rect t).emb x) = V m c main_arg4 _
  refine (fun (x y : S32x1024x512.Idx) (hxy : x = y) => show V m c main_arg4 x = V m c main_arg4 y from hxy ▸ rfl) _ _ ?_
  have hi : ((cfgM m hO).win 10).index t = ![BitVec.toNat (w := 32) (tbl m 0 (ix1 T)), 0, 0] := by
    refine (map10 (tbl m) (grid0.coords t)).trans ?_
    rw [show (⟨4 * (grid0.coords t 0).val + 3, by have : (grid0.coords t 0).val < 24 := (grid0.coords t 0).isLt; omega⟩ : Fin 96) = T from
      Fin.ext (by show 4 * (grid0.coords t 0).val + 3 = T.val; omega)]
  funext (a : Fin 3)
  refine Fin.ext ((Pipeline.Window.rect_emb_val ((cfgM m hO).win 10) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 1024 + (x 1).val = (x 1).val; omega
  | 2 => show 0 * 512 + (x 2).val = (x 2).val; omega
theorem wu4_at {L : ℕ} (hT : TablesOK (tbl m 0) (tbl m 1) (tbl m 2) L) (c : Dev nD) (t : Fin (cfgM m hO).N) (T : Fin 96) (ho : T.val = 4 * t.val + 3) :
    wu4 m hO c t = wrow (V m c main_arg5) (expertOf (tbl m 0) T) := by
  have he := hT.te_lt T
  have hc := coord_val m hO t
  funext x
  have hx0 : (x 0).val < 1 := (x 0).isLt
  show V m c main_arg5 ((((cfgM m hO).win 11).rect t).emb x) = V m c main_arg5 _
  refine (fun (x y : S32x1024x512.Idx) (hxy : x = y) => show V m c main_arg5 x = V m c main_arg5 y from hxy ▸ rfl) _ _ ?_
  have hi : ((cfgM m hO).win 11).index t = ![BitVec.toNat (w := 32) (tbl m 0 (ix1 T)), 0, 0] := by
    refine (map11 (tbl m) (grid0.coords t)).trans ?_
    rw [show (⟨4 * (grid0.coords t 0).val + 3, by have : (grid0.coords t 0).val < 24 := (grid0.coords t 0).isLt; omega⟩ : Fin 96) = T from
      Fin.ext (by show 4 * (grid0.coords t 0).val + 3 = T.val; omega)]
  funext (a : Fin 3)
  refine Fin.ext ((Pipeline.Window.rect_emb_val ((cfgM m hO).win 11) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 1024 + (x 1).val = (x 1).val; omega
  | 2 => show 0 * 512 + (x 2).val = (x 2).val; omega
theorem wd4_at {L : ℕ} (hT : TablesOK (tbl m 0) (tbl m 1) (tbl m 2) L) (c : Dev nD) (t : Fin (cfgM m hO).N) (T : Fin 96) (ho : T.val = 4 * t.val + 3) :
    wd4 m hO c t = drow (V m c main_arg6) (expertOf (tbl m 0) T) := by
  have he := hT.te_lt T
  have hc := coord_val m hO t
  funext x
  have hx0 : (x 0).val < 1 := (x 0).isLt
  show V m c main_arg6 ((((cfgM m hO).win 12).rect t).emb x) = V m c main_arg6 _
  refine (fun (x y : S32x512x1024.Idx) (hxy : x = y) => show V m c main_arg6 x = V m c main_arg6 y from hxy ▸ rfl) _ _ ?_
  have hi : ((cfgM m hO).win 12).index t = ![BitVec.toNat (w := 32) (tbl m 0 (ix1 T)), 0, 0] := by
    refine (map12 (tbl m) (grid0.coords t)).trans ?_
    rw [show (⟨4 * (grid0.coords t 0).val + 3, by have : (grid0.coords t 0).val < 24 := (grid0.coords t 0).isLt; omega⟩ : Fin 96) = T from
      Fin.ext (by show 4 * (grid0.coords t 0).val + 3 = T.val; omega)]
  funext (a : Fin 3)
  refine Fin.ext ((Pipeline.Window.rect_emb_val ((cfgM m hO).win 12) t _ a).trans ?_)
  rw [hi]
  match a with
  | 0 =>
    show BitVec.toNat (w := 32) (tbl m 0 (ix1 T)) * 1 + (x 0).val = BitVec.toNat (w := 32) (tbl m 0 (ix1 T)) % 32
    rw [Nat.mod_eq_of_lt he]; omega
  | 1 => show 0 * 512 + (x 1).val = (x 1).val; omega
  | 2 => show 0 * 1024 + (x 2).val = (x 2).val; omega

/-! ## What a step leaves -/

/-- The result's rows, of the launch memory. -/
noncomputable abbrev tgt (c : Dev nD) (n : Fin 49152) (d : Fin 1024) : Elt F .bf16 :=
  target (V m c main_arg0) (tbl m 0) (V m c main_arg4) (V m c main_arg5) (V m c main_arg6) n d

theorem live1 {L : ℕ} (hT : TablesOK (tbl m 0) (tbl m 1) (tbl m 2) L) (c : Dev nD) (t : Fin (cfgM m hO).N) (ht : t.val ≤ L) (Y : Vec F S2048x1024 .bf16)
    (r : Fin 512) (d : Fin 1024) (n : Fin 49152) (hn : n.val = 2048 * t.val + (0 + r.val)) (hlive : n.val < 512 * BitVec.toNat (w := 32) (tbl m 2 (ix1 (0 : Fin 1)))) :
    outOf m hO c t Y (ix2 (⟨0 + r.val, by omega⟩ : Fin 2048) d) = tgt m c n d := by
  have hL := hT.L_lt
  have hb := (bit1_iff m hO hT c t).mpr ⟨ht, by omega⟩
  refine Eq.trans ?_ (target_at _ _ _ _ _ n d (⟨4 * t.val + 0, by omega⟩ : Fin 96) r (by show n.val = 512 * (4 * t.val + 0) + r.val; omega)).symm
  unfold outOf
  rw [upd4_out _ _ _ _ _ _ _ (.inl (by show 0 + r.val < 1536; omega)), upd3_out _ _ _ _ _ _ _ (.inl (by show 0 + r.val < 1024; omega)), upd2_out _ _ _ _ _ _ _ (.inl (by show 0 + r.val < 512; omega)), hb, upd1_in]
  exact congrFun (tile_congr (xs_at m hO hT c t ht 0 0 _ (by show 512 * (4 * t.val + 0) = 2048 * t.val + 0; omega)) (xs_at m hO hT c t ht 1 0 _ (by show 512 * (4 * t.val + 0) = 2048 * t.val + 0; omega))
    (wg1_at m hO hT c t _ rfl) (wu1_at m hO hT c t _ rfl) (wd1_at m hO hT c t _ rfl)) _
theorem live2 {L : ℕ} (hT : TablesOK (tbl m 0) (tbl m 1) (tbl m 2) L) (c : Dev nD) (t : Fin (cfgM m hO).N) (ht : t.val ≤ L) (Y : Vec F S2048x1024 .bf16)
    (r : Fin 512) (d : Fin 1024) (n : Fin 49152) (hn : n.val = 2048 * t.val + (512 + r.val)) (hlive : n.val < 512 * BitVec.toNat (w := 32) (tbl m 2 (ix1 (0 : Fin 1)))) :
    outOf m hO c t Y (ix2 (⟨512 + r.val, by omega⟩ : Fin 2048) d) = tgt m c n d := by
  have hL := hT.L_lt
  have hb := (bit2_iff m hO hT c t).mpr ⟨ht, by omega⟩
  refine Eq.trans ?_ (target_at _ _ _ _ _ n d (⟨4 * t.val + 1, by omega⟩ : Fin 96) r (by show n.val = 512 * (4 * t.val + 1) + r.val; omega)).symm
  unfold outOf
  rw [upd4_out _ _ _ _ _ _ _ (.inl (by show 512 + r.val < 1536; omega)), upd3_out _ _ _ _ _ _ _ (.inl (by show 512 + r.val < 1024; omega)), hb, upd2_in]
  exact congrFun (tile_congr (xs_at m hO hT c t ht 0 512 _ (by show 512 * (4 * t.val + 1) = 2048 * t.val + 512; omega)) (xs_at m hO hT c t ht 1 512 _ (by show 512 * (4 * t.val + 1) = 2048 * t.val + 512; omega))
    (wg2_at m hO hT c t _ rfl) (wu2_at m hO hT c t _ rfl) (wd2_at m hO hT c t _ rfl)) _
theorem live3 {L : ℕ} (hT : TablesOK (tbl m 0) (tbl m 1) (tbl m 2) L) (c : Dev nD) (t : Fin (cfgM m hO).N) (ht : t.val ≤ L) (Y : Vec F S2048x1024 .bf16)
    (r : Fin 512) (d : Fin 1024) (n : Fin 49152) (hn : n.val = 2048 * t.val + (1024 + r.val)) (hlive : n.val < 512 * BitVec.toNat (w := 32) (tbl m 2 (ix1 (0 : Fin 1)))) :
    outOf m hO c t Y (ix2 (⟨1024 + r.val, by omega⟩ : Fin 2048) d) = tgt m c n d := by
  have hL := hT.L_lt
  have hb := (bit3_iff m hO hT c t).mpr ⟨ht, by omega⟩
  refine Eq.trans ?_ (target_at _ _ _ _ _ n d (⟨4 * t.val + 2, by omega⟩ : Fin 96) r (by show n.val = 512 * (4 * t.val + 2) + r.val; omega)).symm
  unfold outOf
  rw [upd4_out _ _ _ _ _ _ _ (.inl (by show 1024 + r.val < 1536; omega)), hb, upd3_in]
  exact congrFun (tile_congr (xs_at m hO hT c t ht 0 1024 _ (by show 512 * (4 * t.val + 2) = 2048 * t.val + 1024; omega)) (xs_at m hO hT c t ht 1 1024 _ (by show 512 * (4 * t.val + 2) = 2048 * t.val + 1024; omega))
    (wg3_at m hO hT c t _ rfl) (wu3_at m hO hT c t _ rfl) (wd3_at m hO hT c t _ rfl)) _
theorem live4 {L : ℕ} (hT : TablesOK (tbl m 0) (tbl m 1) (tbl m 2) L) (c : Dev nD) (t : Fin (cfgM m hO).N) (ht : t.val ≤ L) (Y : Vec F S2048x1024 .bf16)
    (r : Fin 512) (d : Fin 1024) (n : Fin 49152) (hn : n.val = 2048 * t.val + (1536 + r.val)) (hlive : n.val < 512 * BitVec.toNat (w := 32) (tbl m 2 (ix1 (0 : Fin 1)))) :
    outOf m hO c t Y (ix2 (⟨1536 + r.val, by omega⟩ : Fin 2048) d) = tgt m c n d := by
  have hL := hT.L_lt
  have hb := (bit4_iff m hO hT c t).mpr ⟨ht, by omega⟩
  refine Eq.trans ?_ (target_at _ _ _ _ _ n d (⟨4 * t.val + 3, by omega⟩ : Fin 96) r (by show n.val = 512 * (4 * t.val + 3) + r.val; omega)).symm
  unfold outOf
  rw [hb, upd4_in]
  exact congrFun (tile_congr (xs_at m hO hT c t ht 0 1536 _ (by show 512 * (4 * t.val + 3) = 2048 * t.val + 1536; omega)) (xs_at m hO hT c t ht 1 1536 _ (by show 512 * (4 * t.val + 3) = 2048 * t.val + 1536; omega))
    (wg4_at m hO hT c t _ rfl) (wu4_at m hO hT c t _ rfl) (wd4_at m hO hT c t _ rfl)) _

theorem outOf_live {L : ℕ} (hT : TablesOK (tbl m 0) (tbl m 1) (tbl m 2) L) (c : Dev nD) (t : Fin (cfgM m hO).N) (ht : t.val ≤ L) (Y : Vec F S2048x1024 .bf16)
    (y : Fin 2048) (d : Fin 1024) (n : Fin 49152) (hn : n.val = 2048 * t.val + y.val) (hlive : n.val < 512 * BitVec.toNat (w := 32) (tbl m 2 (ix1 (0 : Fin 1)))) :
    outOf m hO c t Y (ix2 y d) = tgt m c n d := by
  have hy := y.isLt
  rcases (by omega : y.val < 512 ∨ (512 ≤ y.val ∧ y.val < 1024) ∨ (1024 ≤ y.val ∧ y.val < 1536) ∨ 1536 ≤ y.val) with h | h | h | h
  · have e : y = (⟨0 + (⟨y.val - 0, by omega⟩ : Fin 512).val, by show 0 + (y.val - 0) < 2048; omega⟩ : Fin 2048) := Fin.ext (by show y.val = 0 + (y.val - 0); omega)
    rw [e]
    exact live1 m hO hT c t ht Y ⟨y.val - 0, by omega⟩ d n (by show n.val = 2048 * t.val + (0 + (y.val - 0)); omega) hlive
  · have e : y = (⟨512 + (⟨y.val - 512, by omega⟩ : Fin 512).val, by show 512 + (y.val - 512) < 2048; omega⟩ : Fin 2048) := Fin.ext (by show y.val = 512 + (y.val - 512); omega)
    rw [e]
    exact live2 m hO hT c t ht Y ⟨y.val - 512, by omega⟩ d n (by show n.val = 2048 * t.val + (512 + (y.val - 512)); omega) hlive
  · have e : y = (⟨1024 + (⟨y.val - 1024, by omega⟩ : Fin 512).val, by show 1024 + (y.val - 1024) < 2048; omega⟩ : Fin 2048) := Fin.ext (by show y.val = 1024 + (y.val - 1024); omega)
    rw [e]
    exact live3 m hO hT c t ht Y ⟨y.val - 1024, by omega⟩ d n (by show n.val = 2048 * t.val + (1024 + (y.val - 1024)); omega) hlive
  · have e : y = (⟨1536 + (⟨y.val - 1536, by omega⟩ : Fin 512).val, by show 1536 + (y.val - 1536) < 2048; omega⟩ : Fin 2048) := Fin.ext (by show y.val = 1536 + (y.val - 1536); omega)
    rw [e]
    exact live4 m hO hT c t ht Y ⟨y.val - 1536, by omega⟩ d n (by show n.val = 2048 * t.val + (1536 + (y.val - 1536)); omega) hlive

theorem outOf_dead {L : ℕ} (hT : TablesOK (tbl m 0) (tbl m 1) (tbl m 2) L) (c : Dev nD) (t : Fin (cfgM m hO).N) (ht : L < t.val) (Y : Vec F S2048x1024 .bf16) :
    outOf m hO c t Y = Y := by
  unfold outOf
  rw [upd4_not _ _ _ _ _ _ fun h => by have := ((bit4_iff m hO hT c t).mp h).1; omega,
    upd3_not _ _ _ _ _ _ fun h => by have := ((bit3_iff m hO hT c t).mp h).1; omega,
    upd2_not _ _ _ _ _ _ fun h => by have := ((bit2_iff m hO hT c t).mp h).1; omega,
    upd1_not _ _ _ _ _ _ fun h => by have := ((bit1_iff m hO hT c t).mp h).1; omega]

theorem index13 {L : ℕ} (hT : TablesOK (tbl m 0) (tbl m 1) (tbl m 2) L) (t : Fin (cfgM m hO).N) :
    ((cfgM m hO).win 13).index t = ![min t.val L, 0] := by
  refine (map13 (tbl m) (grid0.coords t)).trans ?_
  have hp := hT.pr_eq (grid0.coords t 0)
  rw [coord_val] at hp
  rw [hp]

/-- Whatever a step may leave in the output's staging buffer, its live rows are the target's. -/
theorem leaves_live {L : ℕ} (hT : TablesOK (tbl m 0) (tbl m 1) (tbl m 2) L) (c : Dev nD) :
    ∀ (k : ℕ) (t : Fin (cfgM m hO).N), t.val = k → ∀ X : Vec F S2048x1024 .bf16, (rdat m hO c).Leaves 13 t X →
      ∀ (y : Fin 2048) (d : Fin 1024) (n : Fin 49152), n.val = 2048 * min t.val L + y.val → n.val < 512 * BitVec.toNat (w := 32) (tbl m 2 (ix1 (0 : Fin 1))) →
        X (ix2 y d) = tgt m c n d := by
  intro k
  induction k with
  | zero =>
    rintro t ht X ⟨Y, -, rfl⟩ y d n hn hl
    exact outOf_live m hO hT c t (by omega) Y y d n (by omega) hl
  | succ k ih =>
    rintro t ht X ⟨Y, hY, hX⟩ y d n hn hl
    have hX' : X = outOf m hO c t Y := hX
    subst hX'
    by_cases htL : t.val ≤ L
    · exact outOf_live m hO hT c t htL Y y d n (by omega) hl
    refine (congrFun (outOf_dead m hO hT c t (by omega) Y) (ix2 y d)).trans ?_
    have htN : t.val < 24 := t.isLt
    rw [(rdat m hO c).finds_of_pos (w := 13) (t := t) rfl (by omega)] at hY
    rcases hY with hf | hY
    · exfalso
      simp only [Pipeline.Window.flush, Bool.and_eq_true, Bool.or_eq_true, decide_eq_true_eq] at hf
      rcases hf.2 with h1 | ⟨h1, h2⟩
      · have : t.val - 1 + 1 = 24 := h1
        omega
      · refine h2 ?_
        rw [index13 m hO hT, index13 m hO hT]
        show (![min (t.val - 1 + 1) L, 0] : Fin 2 → ℕ) = ![min (t.val - 1) L, 0]
        rw [Nat.min_eq_right (by omega), Nat.min_eq_right (by omega)]
    · refine ih ⟨t.val - 1, _⟩ (by show t.val - 1 = k; omega) Y hY y d n ?_ hl
      show n.val = 2048 * min (t.val - 1) L + y.val
      omega

/-- The flushing point whose block holds the live row `n`. -/
theorem flush_of_live {L : ℕ} (hT : TablesOK (tbl m 0) (tbl m 1) (tbl m 2) L) (n : ℕ) (hl : n < 512 * BitVec.toNat (w := 32) (tbl m 2 (ix1 (0 : Fin 1)))) :
    ∃ t : Fin (cfgM m hO).N, ((cfgM m hO).win 13).flush t = true ∧ min t.val L = n / 2048 := by
  have hL := hT.L_lt
  have hn := hT.nu_le
  have hb : n / 2048 ≤ L := by omega
  by_cases h : n / 2048 = L
  · refine ⟨⟨23, by show 23 < 24; omega⟩, ?_, by show min 23 L = _; omega⟩
    simp only [Pipeline.Window.flush, Bool.and_eq_true, Bool.or_eq_true, decide_eq_true_eq]
    exact ⟨rfl, .inl rfl⟩
  · refine ⟨⟨n / 2048, by show n / 2048 < 24; omega⟩, ?_, by show min (n / 2048) L = _; omega⟩
    simp only [Pipeline.Window.flush, Bool.and_eq_true, Bool.or_eq_true, decide_eq_true_eq]
    refine ⟨rfl, .inr ⟨by show n / 2048 + 1 < 24; omega, fun e => ?_⟩⟩
    rw [index13 m hO hT, index13 m hO hT] at e
    have e0 := congrFun e (0 : Fin 2)
    have e1 : min (n / 2048 + 1) L = min (n / 2048) L := e0
    omega

/-- Every live row of the result array, after any run, is the target's. -/
theorem arr_live {L : ℕ} (hT : TablesOK (tbl m 0) (tbl m 1) (tbl m 2) L) {r : PUnit × MemSt nD τ sig (Elt F)}
    (h : Pipeline.RDat.FramePost (cfgM m hO) (fun c => rdat m hO c) (V m) r) (c : Dev nD) (n : Fin 49152) (d : Fin 1024)
    (hl : n.val < 512 * BitVec.toNat (w := 32) (tbl m 2 (ix1 (0 : Fin 1)))) :
    (show Vec F S49152x1024 .bf16 from r.2.mem ((c.tc : Thread nD τ).loc main_v0)) (ix2 n d) = tgt m c n d := by
  obtain ⟨aft, hL, hA⟩ := h.exists_exact c
  obtain ⟨t, hf, ht⟩ := flush_of_live m hO hT n.val hl
  have e : r.2.mem ((c.tc : Thread nD τ).loc main_v0) = ((rdat m hO c).withAfter aft).arrAt 13 (cfgM m hO).N := hA 13
  refine (congrFun e (ix2 n d)).trans ?_
  refine Pipeline.Dat.arrAt_forall_of_flushed (dat := (rdat m hO c).withAfter aft) (13 : Fin 14)
    (fun (i : S49152x1024.Idx) (v : Elt F .bf16) => (i 0).val < 512 * BitVec.toNat (w := 32) (tbl m 2 (ix1 (0 : Fin 1))) → v = tgt m c (i 0) (i 1))
    ?_ (cfgM m hO).N t (ix2 n d) t.isLt hf ?_ hl
  · intro u hu (y : S2048x1024.Idx) hy
    have e0 := Pipeline.Window.rect_emb_val ((cfgM m hO).win 13) u y (0 : Fin 2)
    have e1 := Pipeline.Window.rect_emb_val ((cfgM m hO).win 13) u y (1 : Fin 2)
    rw [index13 m hO hT] at e0 e1
    have hE : (((cfgM m hO).win 13).blk u).view.emb y = ix2 (⟨2048 * min u.val L + (y 0).val, by
        have h0 : (y 0).val < 2048 := (y 0).isLt
        have := hT.L_lt
        have := Nat.min_le_right u.val L
        omega⟩ : Fin 49152) (⟨(y 1).val, (y 1).isLt⟩ : Fin 1024) := by
      funext (a : Fin 2)
      match a with
      | 0 => exact Fin.ext (e0.trans (by show min u.val L * 2048 + (y 0).val = 2048 * min u.val L + (y 0).val; omega))
      | 1 => exact Fin.ext (e1.trans (by show 0 * 1024 + (y 1).val = (y 1).val; omega))
    have hz : y = ix2 (⟨(y 0).val, (y 0).isLt⟩ : Fin 2048) (⟨(y 1).val, (y 1).isLt⟩ : Fin 1024) := by
      funext (a : Fin 2)
      match a with
      | 0 => rfl
      | 1 => rfl
    revert hy
    refine (fun (i j : S49152x1024.Idx) (hij : i = j) (v : Elt F .bf16)
      (hv : (j 0).val < 512 * BitVec.toNat (w := 32) (tbl m 2 (ix1 (0 : Fin 1))) → v = tgt m c (j 0) (j 1)) =>
      show (i 0).val < 512 * BitVec.toNat (w := 32) (tbl m 2 (ix1 (0 : Fin 1))) → v = tgt m c (i 0) (i 1) from hij ▸ hv) _ _ hE _ ?_
    intro hy
    have := leaves_live m hO hT c u.val u rfl (aft 13 u) (hL 13 u hu) (⟨(y 0).val, (y 0).isLt⟩ : Fin 2048) (⟨(y 1).val, (y 1).isLt⟩ : Fin 1024) _ rfl hy
    exact (congrArg (aft 13 u) (show ((cfgM m hO).win 13).xinj ((cfgM m hO).grid.coords u) y = _ from hz)).trans this
  · refine (Pipeline.Window.emb_mem_blk_iff ((cfgM m hO).win 13) t (ix2 n d) rfl).mpr ?_
    rw [index13 m hO hT, ht]
    intro (a : Fin 2)
    match a with
    | 0 => exact ⟨show n.val / 2048 * 2048 ≤ n.val by omega, show n.val < n.val / 2048 * 2048 + 2048 by omega⟩
    | 1 => exact ⟨show 0 * 1024 ≤ d.val by omega, show d.val < 0 * 1024 + 1024 by omega⟩

/-- The arguments are unchanged. -/
theorem args_unchanged {r : PUnit × MemSt nD τ sig (Elt F)}
    (h : Pipeline.RDat.FramePost (cfgM m hO) (fun c => rdat m hO c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨h.arr_in c 0 rfl, (h c).2 main_arg1 (Pipeline.mem_restRefs_of main_arg1 (by decide) (show ∀ w : Fin 14, (spec0 w).arr.view.ref ≠ main_arg1 from by decide)),
    (h c).2 main_arg2 (Pipeline.mem_restRefs_of main_arg2 (by decide) (show ∀ w : Fin 14, (spec0 w).arr.view.ref ≠ main_arg2 from by decide)),
    (h c).2 main_arg3 (Pipeline.mem_restRefs_of main_arg3 (by decide) (show ∀ w : Fin 14, (spec0 w).arr.view.ref ≠ main_arg3 from by decide)),
    h.arr_in c 1 rfl, h.arr_in c 2 rfl, h.arr_in c 3 rfl⟩

end Cert.Proof.Experts

end
-- ==== Proof.ExpertsValue.lean ====
/-
  The experts call at exact values: a tile's row and the reference's row are one sum. The kernel computes the logistic
  function through the hyperbolic tangent; the reference sums over all experts with a one-hot factor, which leaves the
  row's own.
-/
module

public import proofs.«01_k».proof.Proof.ExpertsResult
public import proofs.«01_k».proof.Proof.Gen.Reference2Ideal.Run
public import Idealize.ShloMosaic.Lib.Pointwise
public import Idealize.ShloMosaic.Lib.ValueIdx
public import Idealize.ShloMosaic.Lib.ValueLayout

@[expose] public section

noncomputable section

namespace Cert.Proof.Experts

open Idealize.ShloMosaic Idealize.ShloMosaic.TcCoe Idealize.ShloMosaic.Tactic

/-! ## The logistic function -/

theorem half_f32 : Ideal.ofBits .f32 0x3F000000#32 = ((1 / 2 : ℝ) : EReal) := by
  simp [Ideal.ofBits, Ideal.ieee, -EReal.coe_mul]; norm_num

theorem logistic_real (r : ℝ) : 1 / 2 * Real.tanh (1 / 2 * r) + 1 / 2 = (1 + Real.exp (-r))⁻¹ := by
  have hp := Real.exp_pos (1 / 2 * r)
  have e1 : Real.exp (-r) = (Real.exp (1 / 2 * r) * Real.exp (1 / 2 * r))⁻¹ := by
    rw [← Real.exp_add, ← Real.exp_neg]; congr 1; ring
  have e2 : Real.exp (-(1 / 2 * r)) = (Real.exp (1 / 2 * r))⁻¹ := Real.exp_neg _
  rw [Real.tanh_eq_sinh_div_cosh, Real.sinh_eq, Real.cosh_eq, e1, e2]
  generalize Real.exp (1 / 2 * r) = z at hp
  have : z ≠ 0 := hp.ne'
  have h2 : z * z + 1 ≠ 0 := by positivity
  field_simp
  ring

/-- `1/2 · tanh (a/2) + 1/2 = 1 / (1 + e⁻ᵃ)`, at every extended real. -/
theorem logistic_tanh (a : EReal) :
    ((1 / 2 : ℝ) : EReal) * Ideal.tanh (((1 / 2 : ℝ) : EReal) * a) + ((1 / 2 : ℝ) : EReal) = Ideal.logistic a := by
  induction a with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, logistic_real]

/-! ## A tile -/

section Kernel
open Cert.Kernel2Ideal Cert.Kernel2Ideal.Gen

/-- A tile's rows, unpacked. -/
def hrow (A B : Vec Ideal S1x512x256 .i32) : FVec Ideal S512x1024 .bf16 :=
  concatenate S512x1024 1
    [⟨S512x256, truncf .bf16 (bitcastToFloat (F := Ideal) .f32 (andi (shapeCast S512x256 A shapeCasts_S1x512x256_S512x256 : IVec S512x256 32) (broadcast S512x256 4294901760#32))) bitsLt_bf16_f32⟩,
     ⟨S512x256, truncf .bf16 (bitcastToFloat (F := Ideal) .f32 (andi (shapeCast S512x256 B shapeCasts_S1x512x256_S512x256 : IVec S512x256 32) (broadcast S512x256 4294901760#32))) bitsLt_bf16_f32⟩,
     ⟨S512x256, truncf .bf16 (bitcastToFloat (F := Ideal) .f32 (shli (shapeCast S512x256 A shapeCasts_S1x512x256_S512x256 : IVec S512x256 32) (broadcast S512x256 16#32))) bitsLt_bf16_f32⟩,
     ⟨S512x256, truncf .bf16 (bitcastToFloat (F := Ideal) .f32 (shli (shapeCast S512x256 B shapeCasts_S1x512x256_S512x256 : IVec S512x256 32) (broadcast S512x256 16#32))) bitsLt_bf16_f32⟩]
    concatenates_S512x256_S512x256_S512x256_S512x256_S512x1024_d1

/-- A tile's rows times its expert's gate or up weights. -/
def prod (H : FVec Ideal S512x1024 .bf16) (W : Vec Ideal S1x1024x512 .bf16) : FVec Ideal S512x512 .f32 :=
  matmul dot_S512x1024_S1024x512_S512x512_1_0_0_1_n_n none H (shapeCast S1024x512 W shapeCasts_S1x1024x512_S1024x512 : FVec Ideal S1024x512 .bf16) (constant S512x512 .f32 0x00000000#32)

theorem prod_apply (H : FVec Ideal S512x1024 .bf16) (W : Vec Ideal S1x1024x512 .bf16) (r f : Fin 512) :
    prod H W (ix2 r f) = ∑ k : Fin 1024, H (ix2 r k) * W (ix3 (0 : Fin 1) k f) := by
  pointwise [prod]

theorem pay5_apply (A B : Vec Ideal S1x512x256 .i32) (G U : Vec Ideal S1x1024x512 .bf16) (r f : Fin 512) :
    k0_pay5 A B G U (ix2 r f)
      = prod (hrow A B) G (ix2 r f) * Ideal.logistic (prod (hrow A B) G (ix2 r f)) * prod (hrow A B) U (ix2 r f) := by
  rw [← logistic_tanh, ← half_f32]
  rfl

theorem tile_apply (A B : Vec Ideal S1x512x256 .i32) (G U : Vec Ideal S1x1024x512 .bf16) (D : Vec Ideal S1x512x1024 .bf16) (r : Fin 512) (d : Fin 1024) :
    tile A B G U D (ix2 r d) = ∑ f : Fin 512, k0_pay5 A B G U (ix2 r f) * D (ix3 (0 : Fin 1) f d) := by
  pointwise [tile, k0_pay1]

end Kernel

/-! ## The reference -/

section Reference
open Cert.Reference2Ideal Cert.Reference2Ideal.Gen

/-- The reference's rows, unpacked. -/
def hid (X : Vec Ideal S2x49152x256 .i32) : FVec Ideal S49152x1024 .f32 :=
  concatenate S49152x1024 1
    [⟨S49152x256, (shapeCast S49152x256 (extractStridedSlice S1x49152x256 ![0, 0, 0] (bitcastToFloat (F := Ideal) .f32 (andi X (broadcastInDim S2x49152x256 ![] bcast_S_S2x49152x256 (constantI S_ 32 4294901760#32)))) slices_S2x49152x256_S1x49152x256_0_0_0) shapeCasts_S1x49152x256_S49152x256 : FVec Ideal S49152x256 .f32)⟩,
     ⟨S49152x256, (shapeCast S49152x256 (extractStridedSlice S1x49152x256 ![1, 0, 0] (bitcastToFloat (F := Ideal) .f32 (andi X (broadcastInDim S2x49152x256 ![] bcast_S_S2x49152x256 (constantI S_ 32 4294901760#32)))) slices_S2x49152x256_S1x49152x256_1_0_0) shapeCasts_S1x49152x256_S49152x256 : FVec Ideal S49152x256 .f32)⟩,
     ⟨S49152x256, (shapeCast S49152x256 (extractStridedSlice S1x49152x256 ![0, 0, 0] (bitcastToFloat (F := Ideal) .f32 (Host.shli X (broadcastInDim S2x49152x256 ![] bcast_S_S2x49152x256 (constantI S_ 32 16#32)))) slices_S2x49152x256_S1x49152x256_0_0_0) shapeCasts_S1x49152x256_S49152x256 : FVec Ideal S49152x256 .f32)⟩,
     ⟨S49152x256, (shapeCast S49152x256 (extractStridedSlice S1x49152x256 ![1, 0, 0] (bitcastToFloat (F := Ideal) .f32 (Host.shli X (broadcastInDim S2x49152x256 ![] bcast_S_S2x49152x256 (constantI S_ 32 16#32)))) slices_S2x49152x256_S1x49152x256_1_0_0) shapeCasts_S1x49152x256_S49152x256 : FVec Ideal S49152x256 .f32)⟩]
    concatenates_S49152x256_S49152x256_S49152x256_S49152x256_S49152x1024_d1

/-- Every row times every expert's gate or up weights. -/
def prods (H : FVec Ideal S49152x1024 .f32) (W : Vec Ideal S32x1024x512 .bf16) : FVec Ideal S32x49152x512 .f32 :=
  transpose S32x49152x512 [0, 2, 1] (Host.dotGeneral dot_S32x1024x512_S49152x1024_S32x512x49152_1_1_02_0_n_n none (extf .f32 (W : FVec Ideal S32x1024x512 .bf16) bitsLt_bf16_f32) H) transposes_S32x512x49152_S32x49152x512_0_2_1

/-- Whether a row is an expert's. -/
def onehot (te : IVec S96 32) : FVec Ideal S49152x32 .f32 :=
  uitofp .f32 (cmpi .eq (broadcastInDim S49152x32 ![0, 1] bcast_S49152x1_S49152x32_0_1 (broadcastInDim S49152x1 ![0] bcast_S49152_S49152x1_0 (shapeCast S49152 (broadcastInDim S96x512 ![0, 1] bcast_S96x1_S96x512_0_1 (broadcastInDim S96x1 ![0] bcast_S96_S96x1_0 te)) shapeCasts_S96x512_S49152))) (broadcastInDim S49152x32 ![0, 1] bcast_S1x32_S49152x32_0_1 (iotaInDim S1x32 32 1)))

/-- The reference's result, of the products. -/
def refOf (g u : FVec Ideal S32x49152x512 .f32) (o : FVec Ideal S49152x32 .f32) (wd : Vec Ideal S32x512x1024 .bf16) : FVec Ideal S49152x1024 .bf16 :=
  truncf .bf16 (Host.dotGeneral dot_S32x49152x512_S32x512x1024_S49152x1024_02_01_1_2_n_n none
    (mulf (mulf (mulf g (Host.divf (broadcastInDim S32x49152x512 ![] bcast_S_S32x49152x512 (constant S_ .f32 0x3F800000#32)) (addf (broadcastInDim S32x49152x512 ![] bcast_S_S32x49152x512 (constant S_ .f32 0x3F800000#32)) (Host.exp (Host.negf g))))) u)
      (broadcastInDim S32x49152x512 ![0, 1, 2] bcast_S32x49152x1_S32x49152x512_0_1_2 (broadcastInDim S32x49152x1 ![0, 1] bcast_S32x49152_S32x49152x1_0_1 (transpose S32x49152 [1, 0] o transposes_S49152x32_S32x49152_1_0))))
    (extf .f32 (wd : FVec Ideal S32x512x1024 .bf16) bitsLt_bf16_f32)) bitsLt_bf16_f32

theorem res_eq (m : (ℓ : Loc nD τ sig) → Buf (Elt Ideal) ℓ) (c : Dev nD) :
    Cert.Reference2Ideal.Value.res_main_v33 m c
      = refOf (prods (hid (m ((c.tc : Thread nD τ).loc main_arg0))) (m ((c.tc : Thread nD τ).loc main_arg4)))
          (prods (hid (m ((c.tc : Thread nD τ).loc main_arg0))) (m ((c.tc : Thread nD τ).loc main_arg5)))
          (onehot (m ((c.tc : Thread nD τ).loc main_arg1))) (m ((c.tc : Thread nD τ).loc main_arg6)) := rfl

theorem prods_apply (H : FVec Ideal S49152x1024 .f32) (W : Vec Ideal S32x1024x512 .bf16) (e : Fin 32) (n : Fin 49152) (f : Fin 512) :
    prods H W (ix3 e n f) = ∑ k : Fin 1024, W (ix3 e k f) * H (ix2 n k) := by
  pointwise [prods]

theorem onehot_apply (te : IVec S96 32) (n : Fin 49152) (e : Fin 32) :
    onehot te (ix2 n e) = if (te (ix1 (⟨n.val / 512, by omega⟩ : Fin 96))) = BitVec.ofNat 32 e.val then 1 else 0 := by
  have h : onehot te (ix2 n e) = FloatOps.uitofp FTy.f32 (IntOp.cmpi CmpIPredicate.eq (te (ix1 (⟨n.val / 512, by omega⟩ : Fin 96))) (BitVec.ofNat 32 e.val)) := by
    pointwise [onehot]
  rw [h]
  by_cases he : te (ix1 (⟨n.val / 512, by omega⟩ : Fin 96)) = BitVec.ofNat 32 e.val
  · rw [if_pos he, he]
    have h1 : IntOp.cmpi CmpIPredicate.eq (BitVec.ofNat 32 e.val) (BitVec.ofNat 32 e.val) = 1#1 := by simp [IntOp.cmpi]
    rw [h1]
    show ((((1#1 : BitVec 1).toNat : ℝ)) : EReal) = 1
    norm_num
  · rw [if_neg he]
    have h0 : IntOp.cmpi CmpIPredicate.eq (te (ix1 (⟨n.val / 512, by omega⟩ : Fin 96))) (BitVec.ofNat 32 e.val) = 0#1 := by
      show BitVec.ofBool (te (ix1 (⟨n.val / 512, by omega⟩ : Fin 96)) == BitVec.ofNat 32 e.val) = 0#1
      rw [beq_eq_false_iff_ne.mpr he]; rfl
    rw [h0]
    show ((((0#1 : BitVec 1).toNat : ℝ)) : EReal) = 0
    norm_num

theorem refOf_apply (g u : FVec Ideal S32x49152x512 .f32) (o : FVec Ideal S49152x32 .f32) (wd : Vec Ideal S32x512x1024 .bf16) (n : Fin 49152) (d : Fin 1024) :
    refOf g u o wd (ix2 n d)
      = ∑ e : Fin 32, ∑ f : Fin 512, (g (ix3 e n f) * Ideal.logistic (g (ix3 e n f)) * u (ix3 e n f) * o (ix2 n e)) * wd (ix3 e f d) := by
  pointwise [refOf, Ideal.logistic]

end Reference

theorem shli_16 (w : BitVec 32) : IntOp.shli ArithUnit.vector w 16#32 = IntOp.shli ArithUnit.host w 16#32 := by
  simp [IntOp.shli]

theorem ix3_eq {a b c : ℕ} (i : Fin a) (j : Fin b) (k : Fin c) : ValueIdx.ix3 i j k = ix3 i j k := by
  funext (x : Fin 3); match x with | 0 => rfl | 1 => rfl | 2 => rfl

theorem hrow_apply (X : Vec Ideal Cert.Kernel2Ideal.S2x49152x256 .i32) (T : Fin 96) (r : Fin 512) (k : Fin 1024) (n : Fin 49152) (hn : n.val = 512 * T.val + r.val) :
    hrow (xrow X 0 T) (xrow X 1 T) (ix2 r k) = hid X (ix2 n k) := by
  have hb : 512 * T.val + r.val < 49152 := by omega
  obtain rfl : n = ⟨512 * T.val + r.val, hb⟩ := Fin.ext hn
  pointwise [hrow, hid, xrow, ix3_eq, shli_16]

open Cert.Kernel2Ideal.Gen in
/-- The kernel's row of the result is the reference's. -/
theorem target_eq (X : Vec Ideal Cert.Kernel2Ideal.S2x49152x256 .i32) (te : IVec Cert.Kernel2Ideal.S96 32) (wg wu : Vec Ideal Cert.Kernel2Ideal.S32x1024x512 .bf16)
    (wd : Vec Ideal Cert.Kernel2Ideal.S32x512x1024 .bf16) (hte : ∀ T : Fin 96, (te (ix1 T)).toNat < 32) (n : Fin 49152) (d : Fin 1024) :
    target X te wg wu wd n d = refOf (prods (hid X) wg) (prods (hid X) wu) (onehot te) wd (ix2 n d) := by
  let T : Fin 96 := ⟨n.val / 512, by omega⟩
  let r : Fin 512 := ⟨n.val % 512, Nat.mod_lt _ (by decide)⟩
  have hn : n.val = 512 * T.val + r.val := by show n.val = 512 * (n.val / 512) + n.val % 512; omega
  have hg : ∀ (W : Vec Ideal Cert.Kernel2Ideal.S32x1024x512 .bf16) (f : Fin 512),
      prod (hrow (xrow X 0 T) (xrow X 1 T)) (wrow W (expertOf te T)) (ix2 r f) = prods (hid X) W (ix3 (expertOf te T) n f) := fun W f => by
    rw [prod_apply, prods_apply]
    refine Finset.sum_congr rfl fun k _ => ?_
    rw [hrow_apply X T r k n hn, mul_comm]
    rfl
  have hl : ∀ f : Fin 512, k0_pay5 (xrow X 0 T) (xrow X 1 T) (wrow wg (expertOf te T)) (wrow wu (expertOf te T)) (ix2 r f)
      = prods (hid X) wg (ix3 (expertOf te T) n f) * Ideal.logistic (prods (hid X) wg (ix3 (expertOf te T) n f)) * prods (hid X) wu (ix3 (expertOf te T) n f) := fun f => by
    rw [pay5_apply, hg, hg]
  rw [refOf_apply, Finset.sum_eq_single (expertOf te T)]
  · refine (tile_apply (xrow X 0 T) (xrow X 1 T) (wrow wg (expertOf te T)) (wrow wu (expertOf te T)) (drow wd (expertOf te T)) r d).trans ?_
    refine Finset.sum_congr rfl fun f _ => ?_
    have ho : onehot te (ix2 n (expertOf te T)) = 1 := by
      rw [onehot_apply, if_pos]
      refine BitVec.eq_of_toNat_eq ?_
      have h := hte T
      show (te (ix1 T)).toNat = (BitVec.ofNat 32 ((te (ix1 T)).toNat % 32)).toNat
      rw [BitVec.toNat_ofNat]; omega
    rw [hl, ho, mul_one]
    rfl
  · intro e _ he
    refine Finset.sum_eq_zero fun f _ => ?_
    have ho : onehot te (ix2 n e) = 0 := by
      rw [onehot_apply, if_neg]
      intro h
      refine he (Fin.ext ?_)
      have h2 : (te (ix1 T)).toNat = e.val := by
        have h3 : te (ix1 T) = BitVec.ofNat 32 e.val := h
        rw [h3, BitVec.toNat_ofNat]; omega
      show e.val = (te (ix1 T)).toNat % 32
      omega
    rw [ho, mul_zero, zero_mul]
  · intro h
    exact absurd (Finset.mem_univ _) h

end Cert.Proof.Experts

end
-- ==== Proof.CombineValue.lean ====
/-
  The combination call at exact values: a block's row and the reference's row are one function of the token's residual
  row, its two experts' unpacked rows, its two weights and the gain. The kernel adds the two weighted rows one after the
  other and the reference adds their sum: addition is associative.
-/
module

public import proofs.«01_k».proof.Proof.ExpertsValue
public import proofs.«01_k».proof.Proof.Gen.Kernel3Ideal.Value
public import proofs.«01_k».proof.Proof.Gen.Reference3Ideal.Run
public import Idealize.ShloMosaic.Lib.Pointwise
public import Idealize.ShloMosaic.Lib.ValueIdx
public import Idealize.ShloMosaic.Lib.ValueLayout

@[expose] public section

noncomputable section

namespace Cert.Proof.Combine

open Idealize.ShloMosaic Idealize.ShloMosaic.TcCoe Idealize.ShloMosaic.Tactic

/-! ## A block -/

section Kernel
open Cert.Kernel3Ideal Cert.Kernel3Ideal.Gen

/-- A block's rows of one expert, unpacked. -/
def brow (A B : Vec Ideal S1x1024x256 .i32) : FVec Ideal S1024x1024 .bf16 :=
  concatenate S1024x1024 1
    [⟨S1024x256, truncf .bf16 (bitcastToFloat (F := Ideal) .f32 (andi (shapeCast S1024x256 A shapeCasts_S1x1024x256_S1024x256 : IVec S1024x256 32) (broadcast S1024x256 4294901760#32))) bitsLt_bf16_f32⟩,
     ⟨S1024x256, truncf .bf16 (bitcastToFloat (F := Ideal) .f32 (andi (shapeCast S1024x256 B shapeCasts_S1x1024x256_S1024x256 : IVec S1024x256 32) (broadcast S1024x256 4294901760#32))) bitsLt_bf16_f32⟩,
     ⟨S1024x256, truncf .bf16 (bitcastToFloat (F := Ideal) .f32 (shli (shapeCast S1024x256 A shapeCasts_S1x1024x256_S1024x256 : IVec S1024x256 32) (broadcast S1024x256 16#32))) bitsLt_bf16_f32⟩,
     ⟨S1024x256, truncf .bf16 (bitcastToFloat (F := Ideal) .f32 (shli (shapeCast S1024x256 B shapeCasts_S1x1024x256_S1024x256 : IVec S1024x256 32) (broadcast S1024x256 16#32))) bitsLt_bf16_f32⟩]
    concatenates_S1024x256_S1024x256_S1024x256_S1024x256_S1024x1024_d1

/-- A block's residual rows with the two weighted rows added. -/
def bsum (X : Vec Ideal S1024x1024 .f32) (R : Vec Ideal S1024x128 .f32) (P Q : FVec Ideal S1024x1024 .bf16) : FVec Ideal S1024x1024 .f32 :=
  addf (addf X (mulf (broadcastTo S1024x1024 (k0_pay2 R) broadcasts_S1024x1_S1024x1024) (extf .f32 P bitsLt_bf16_f32)))
    (mulf (broadcastTo S1024x1024 (k0_pay3 R) broadcasts_S1024x1_S1024x1024) (extf .f32 Q bitsLt_bf16_f32))

/-- A block's rows, normalized. -/
def bnorm (Z : FVec Ideal S1024x1024 .f32) (G : Vec Ideal S1x1024 .f32) : FVec Ideal S1024x1024 .f32 :=
  mulf (mulf Z (broadcastTo S1024x1024 (rsqrt (addf (divf (shapeCast S1024x1 (multiReduction .add [1] S1024 (mulf Z Z) 0x00000000#32 reduces_S1024x1024_S1024 (.inl rfl) rfl : FVec Ideal S1024 .f32) shapeCasts_S1024_S1024x1 : FVec Ideal S1024x1 .f32) (broadcast S1024x1 (Scalar.ofBits .f32 0x44800000#32))) (broadcast S1024x1 (Scalar.ofBits .f32 0x358637BD#32)))) broadcasts_S1024x1_S1024x1024))
    (broadcastTo S1024x1024 (shapeCast S1x1024 G shapeCasts_S1x1024_S1x1024 : FVec Ideal S1x1024 .f32) broadcasts_S1x1024_S1024x1024)

theorem pay1_eq (X : Vec Ideal S1024x1024 .f32) (R : Vec Ideal S1024x128 .f32) (A B C D : Vec Ideal S1x1024x256 .i32) (G : Vec Ideal S1x1024 .f32) :
    k0_pay1 (k0_pay2 R) (k0_pay3 R) (k0_pay4 A B) (k0_pay6 D) (k0_pay7 C) (k0_pay8 C) k0_pay9 X G = bnorm (bsum X R (brow A B) (brow C D)) G := rfl

theorem bsum_apply (X : Vec Ideal S1024x1024 .f32) (R : Vec Ideal S1024x128 .f32) (P Q : FVec Ideal S1024x1024 .bf16) (r k : Fin 1024) :
    bsum X R P Q (ix2 r k) = X (ix2 r k) + R (ix2 r (2 : Fin 128)) * P (ix2 r k) + R (ix2 r (3 : Fin 128)) * Q (ix2 r k) := by
  pointwise [bsum, k0_pay2, k0_pay3]

theorem bnorm_apply (Z : FVec Ideal S1024x1024 .f32) (G : Vec Ideal S1x1024 .f32) (r d : Fin 1024) :
    bnorm Z G (ix2 r d) = Z (ix2 r d) * Ideal.rsqrt (Ideal.div (∑ k : Fin 1024, Z (ix2 r k) * Z (ix2 r k)) (Ideal.ofBits .f32 0x44800000#32) + Ideal.ofBits .f32 0x358637BD#32) * G (ix2 (0 : Fin 1) d) := by
  pointwise [bnorm]

end Kernel

/-! ## The reference -/

section Reference
open Cert.Reference3Ideal Cert.Reference3Ideal.Gen

/-- Every token's row of its first expert, unpacked. -/
def rowA (Y : Vec Ideal S4x16384x256 .i32) : FVec Ideal S16384x1024 .f32 :=
  concatenate S16384x1024 1
    [⟨S16384x256, (shapeCast S16384x256 (extractStridedSlice S1x16384x256 ![0, 0, 0] (bitcastToFloat (F := Ideal) .f32 (andi Y (broadcastInDim S4x16384x256 ![] bcast_S_S4x16384x256 (constantI S_ 32 4294901760#32)))) slices_S4x16384x256_S1x16384x256_0_0_0) shapeCasts_S1x16384x256_S16384x256 : FVec Ideal S16384x256 .f32)⟩,
     ⟨S16384x256, (shapeCast S16384x256 (extractStridedSlice S1x16384x256 ![2, 0, 0] (bitcastToFloat (F := Ideal) .f32 (andi Y (broadcastInDim S4x16384x256 ![] bcast_S_S4x16384x256 (constantI S_ 32 4294901760#32)))) slices_S4x16384x256_S1x16384x256_2_0_0) shapeCasts_S1x16384x256_S16384x256 : FVec Ideal S16384x256 .f32)⟩,
     ⟨S16384x256, (shapeCast S16384x256 (extractStridedSlice S1x16384x256 ![0, 0, 0] (bitcastToFloat (F := Ideal) .f32 (Host.shli Y (broadcastInDim S4x16384x256 ![] bcast_S_S4x16384x256 (constantI S_ 32 16#32)))) slices_S4x16384x256_S1x16384x256_0_0_0) shapeCasts_S1x16384x256_S16384x256 : FVec Ideal S16384x256 .f32)⟩,
     ⟨S16384x256, (shapeCast S16384x256 (extractStridedSlice S1x16384x256 ![2, 0, 0] (bitcastToFloat (F := Ideal) .f32 (Host.shli Y (broadcastInDim S4x16384x256 ![] bcast_S_S4x16384x256 (constantI S_ 32 16#32)))) slices_S4x16384x256_S1x16384x256_2_0_0) shapeCasts_S1x16384x256_S16384x256 : FVec Ideal S16384x256 .f32)⟩]
    concatenates_S16384x256_S16384x256_S16384x256_S16384x256_S16384x1024_d1

/-- Every token's row of its second expert, unpacked. -/
def rowB (Y : Vec Ideal S4x16384x256 .i32) : FVec Ideal S16384x1024 .f32 :=
  concatenate S16384x1024 1
    [⟨S16384x256, (shapeCast S16384x256 (extractStridedSlice S1x16384x256 ![1, 0, 0] (bitcastToFloat (F := Ideal) .f32 (andi Y (broadcastInDim S4x16384x256 ![] bcast_S_S4x16384x256 (constantI S_ 32 4294901760#32)))) slices_S4x16384x256_S1x16384x256_1_0_0) shapeCasts_S1x16384x256_S16384x256 : FVec Ideal S16384x256 .f32)⟩,
     ⟨S16384x256, (shapeCast S16384x256 (extractStridedSlice S1x16384x256 ![3, 0, 0] (bitcastToFloat (F := Ideal) .f32 (andi Y (broadcastInDim S4x16384x256 ![] bcast_S_S4x16384x256 (constantI S_ 32 4294901760#32)))) slices_S4x16384x256_S1x16384x256_3_0_0) shapeCasts_S1x16384x256_S16384x256 : FVec Ideal S16384x256 .f32)⟩,
     ⟨S16384x256, (shapeCast S16384x256 (extractStridedSlice S1x16384x256 ![1, 0, 0] (bitcastToFloat (F := Ideal) .f32 (Host.shli Y (broadcastInDim S4x16384x256 ![] bcast_S_S4x16384x256 (constantI S_ 32 16#32)))) slices_S4x16384x256_S1x16384x256_1_0_0) shapeCasts_S1x16384x256_S16384x256 : FVec Ideal S16384x256 .f32)⟩,
     ⟨S16384x256, (shapeCast S16384x256 (extractStridedSlice S1x16384x256 ![3, 0, 0] (bitcastToFloat (F := Ideal) .f32 (Host.shli Y (broadcastInDim S4x16384x256 ![] bcast_S_S4x16384x256 (constantI S_ 32 16#32)))) slices_S4x16384x256_S1x16384x256_3_0_0) shapeCasts_S1x16384x256_S16384x256 : FVec Ideal S16384x256 .f32)⟩]
    concatenates_S16384x256_S16384x256_S16384x256_S16384x256_S16384x1024_d1

/-- The residual rows with the two weighted rows added. -/
def rsum (X : Vec Ideal S16384x1024 .f32) (R : Vec Ideal S16384x128 .f32) (P Q : FVec Ideal S16384x1024 .f32) : FVec Ideal S16384x1024 .f32 :=
  addf X (addf (mulf (broadcastInDim S16384x1024 ![0, 1] bcast_S16384x1_S16384x1024_0_1 (extractStridedSlice S16384x1 ![0, 2] R slices_S16384x128_S16384x1_0_2 : FVec Ideal S16384x1 .f32)) P)
    (mulf (broadcastInDim S16384x1024 ![0, 1] bcast_S16384x1_S16384x1024_0_1 (extractStridedSlice S16384x1 ![0, 3] R slices_S16384x128_S16384x1_0_3 : FVec Ideal S16384x1 .f32)) Q))

/-- The rows, normalized. -/
def rnorm (Z : FVec Ideal S16384x1024 .f32) (G : Vec Ideal S1024 .f32) : FVec Ideal S16384x1024 .f32 :=
  mulf (mulf Z (broadcastInDim S16384x1024 ![0, 1] bcast_S16384x1_S16384x1024_0_1 (Host.rsqrt (addf (Host.divf (broadcastInDim S16384x1 ![0] bcast_S16384_S16384x1_0 (Host.reduceAdd (mulf Z Z) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 G : FVec Ideal S1x1024 .f32))

theorem res_eq (m : (ℓ : Loc nD τ sig) → Buf (Elt Ideal) ℓ) (c : Dev nD) :
    Cert.Reference3Ideal.Value.res_main_v44 m c
      = rnorm (rsum (m ((c.tc : Thread nD τ).loc main_arg0)) (m ((c.tc : Thread nD τ).loc main_arg2)) (rowA (m ((c.tc : Thread nD τ).loc main_arg1))) (rowB (m ((c.tc : Thread nD τ).loc main_arg1))))
          (m ((c.tc : Thread nD τ).loc main_arg3)) := rfl

theorem rsum_apply (X : Vec Ideal S16384x1024 .f32) (R : Vec Ideal S16384x128 .f32) (P Q : FVec Ideal S16384x1024 .f32) (n : Fin 16384) (k : Fin 1024) :
    rsum X R P Q (ix2 n k) = X (ix2 n k) + (R (ix2 n (2 : Fin 128)) * P (ix2 n k) + R (ix2 n (3 : Fin 128)) * Q (ix2 n k)) := by
  pointwise [rsum]

theorem rnorm_apply (Z : FVec Ideal S16384x1024 .f32) (G : Vec Ideal S1024 .f32) (n : Fin 16384) (d : Fin 1024) :
    rnorm Z G (ix2 n d) = Z (ix2 n d) * Ideal.rsqrt (Ideal.div (∑ k : Fin 1024, Z (ix2 n k) * Z (ix2 n k)) (Ideal.ofBits .f32 0x44800000#32) + Ideal.ofBits .f32 0x358637BD#32) * G (ix1 d) := by
  pointwise [rnorm]

end Reference

/-! ## A block's rows are the reference's -/

section Rows

/-- A block of one slab of the packed rows. -/
def slab (Y : Vec Ideal Cert.Kernel3Ideal.S4x16384x256 .i32) (p : Fin 4) (t : Fin 16) : Vec Ideal Cert.Kernel3Ideal.S1x1024x256 .i32 :=
  fun x => Y (ix3 p (⟨1024 * t.val + (x 1).val, by have : (x 1).val < 1024 := (x 1).isLt; omega⟩ : Fin 16384) (⟨(x 2).val, (x 2).isLt⟩ : Fin 256))

theorem rowA_at (Y : Vec Ideal Cert.Kernel3Ideal.S4x16384x256 .i32) (t : Fin 16) (r k : Fin 1024) (n : Fin 16384) (hn : n.val = 1024 * t.val + r.val) :
    brow (slab Y 0 t) (slab Y 2 t) (ix2 r k) = rowA Y (ix2 n k) := by
  have hb : 1024 * t.val + r.val < 16384 := by omega
  obtain rfl : n = ⟨1024 * t.val + r.val, hb⟩ := Fin.ext hn
  pointwise [brow, rowA, slab, Experts.ix3_eq, Experts.shli_16]

theorem rowB_at (Y : Vec Ideal Cert.Kernel3Ideal.S4x16384x256 .i32) (t : Fin 16) (r k : Fin 1024) (n : Fin 16384) (hn : n.val = 1024 * t.val + r.val) :
    brow (slab Y 1 t) (slab Y 3 t) (ix2 r k) = rowB Y (ix2 n k) := by
  have hb : 1024 * t.val + r.val < 16384 := by omega
  obtain rfl : n = ⟨1024 * t.val + r.val, hb⟩ := Fin.ext hn
  pointwise [brow, rowB, slab, Experts.ix3_eq, Experts.shli_16]

/-- A block's result is the reference's, when the block holds the reference's rows. -/
theorem block_eq (X : Vec Ideal Cert.Kernel3Ideal.S16384x1024 .f32) (Y : Vec Ideal Cert.Kernel3Ideal.S4x16384x256 .i32) (R : Vec Ideal Cert.Kernel3Ideal.S16384x128 .f32)
    (G : Vec Ideal Cert.Kernel3Ideal.S1024 .f32) (t : Fin 16) (x : Vec Ideal Cert.Kernel3Ideal.S1024x1024 .f32) (w : Vec Ideal Cert.Kernel3Ideal.S1024x128 .f32) (g : Vec Ideal Cert.Kernel3Ideal.S1x1024 .f32)
    (r d : Fin 1024) (n : Fin 16384) (hn : n.val = 1024 * t.val + r.val)
    (hx : ∀ k : Fin 1024, x (ix2 r k) = X (ix2 n k)) (hw : ∀ k : Fin 128, w (ix2 r k) = R (ix2 n k)) (hg : g (ix2 (0 : Fin 1) d) = G (ix1 d)) :
    bnorm (bsum x w (brow (slab Y 0 t) (slab Y 2 t)) (brow (slab Y 1 t) (slab Y 3 t))) g (ix2 r d)
      = rnorm (rsum X R (rowA Y) (rowB Y)) G (ix2 n d) := by
  have hz : ∀ k : Fin 1024, bsum x w (brow (slab Y 0 t) (slab Y 2 t)) (brow (slab Y 1 t) (slab Y 3 t)) (ix2 r k) = rsum X R (rowA Y) (rowB Y) (ix2 n k) := fun k => by
    rw [bsum_apply, rsum_apply, rowA_at Y t r k n hn, rowB_at Y t r k n hn, hx, hw, hw]
    exact add_assoc _ _ _
  rw [bnorm_apply, rnorm_apply, hg, hz d]
  simp only [hz]

end Rows

/-! ## The array after the run -/

section Array
open Cert.Kernel3Ideal Cert.Kernel3Ideal.Gen Cert.Kernel3Ideal.Value

variable (m : (ℓ : Loc nD τ sig) → Buf (Elt Ideal) ℓ)

theorem out_eq (x0 : Vec Ideal S1024x1024 .f32) (x1 : Vec Ideal S4x1024x256 .i32) (x2 : Vec Ideal S1024x128 .f32) (x3 : Vec Ideal S1x1024 .f32) :
    out0_4 x0 x1 x2 x3 = bnorm (bsum x0 x2 (brow (View.ld x1 r0_1) (View.ld x1 r0_2)) (brow (View.ld x1 r0_3) (View.ld x1 r0_4))) x3 := by
  unfold out0_4
  refine (View.canon_cons_unit_lit _ _ _ (by decide)).trans ?_
  rw [pay1_eq]
  rw [View.ld_unit_lit _ x0 (by decide), View.ld_unit_lit _ x2 (by decide), View.ld_unit_lit _ x3 (by decide)]

/-- Every window is at the point's block of rows; the gain's is whole. -/
theorem idx : ∀ t : Fin cfg0.N, win0_0.index t = ![t.val, 0] ∧ win0_1.index t = ![0, t.val, 0] ∧ win0_2.index t = ![t.val, 0] ∧ win0_3.index t = ![0, 0] ∧ win0_4.index t = ![t.val, 0] := by
  decide +kernel

theorem y_at (c : Dev nD) (t : Fin cfg0.N) (p : Fin 4) (r : Fin 1024) (k : Fin 256) (n : Fin 16384) (hn : n.val = 1024 * t.val + r.val) :
    iblk m c 1 t (ix3 p r k) = m ((c : Thread nD τ).loc main_arg1) (ix3 p n k) := by
  blk_ext [iblk, V, idx t]

theorem slab0_at (c : Dev nD) (t : Fin cfg0.N) : View.ld (iblk m c 1 t) r0_1 = slab (m ((c : Thread nD τ).loc main_arg1)) 0 t := by
  funext x
  refine Eq.trans (congrArg (iblk m c 1 t) (?_ : r0_1.emb x = ix3 (0 : Fin 4) (⟨(x 1).val, (x 1).isLt⟩ : Fin 1024) (⟨(x 2).val, (x 2).isLt⟩ : Fin 256))) (y_at m c t _ _ _ _ rfl)
  funext (a : Fin 3)
  match a with
  | 0 => exact Fin.ext (by have h : (x 0).val < 1 := (x 0).isLt; show 0 + 1 * (x 0).val = 0; omega)
  | 1 => exact Fin.ext (by show 0 + 1 * (x 1).val = (x 1).val; omega)
  | 2 => exact Fin.ext (by show 0 + 1 * (x 2).val = (x 2).val; omega)

theorem slab2_at (c : Dev nD) (t : Fin cfg0.N) : View.ld (iblk m c 1 t) r0_2 = slab (m ((c : Thread nD τ).loc main_arg1)) 2 t := by
  funext x
  refine Eq.trans (congrArg (iblk m c 1 t) (?_ : r0_2.emb x = ix3 (2 : Fin 4) (⟨(x 1).val, (x 1).isLt⟩ : Fin 1024) (⟨(x 2).val, (x 2).isLt⟩ : Fin 256))) (y_at m c t _ _ _ _ rfl)
  funext (a : Fin 3)
  match a with
  | 0 => exact Fin.ext (by have h : (x 0).val < 1 := (x 0).isLt; show 2 + 1 * (x 0).val = 2; omega)
  | 1 => exact Fin.ext (by show 0 + 1 * (x 1).val = (x 1).val; omega)
  | 2 => exact Fin.ext (by show 0 + 1 * (x 2).val = (x 2).val; omega)

theorem slab1_at (c : Dev nD) (t : Fin cfg0.N) : View.ld (iblk m c 1 t) r0_3 = slab (m ((c : Thread nD τ).loc main_arg1)) 1 t := by
  funext x
  refine Eq.trans (congrArg (iblk m c 1 t) (?_ : r0_3.emb x = ix3 (1 : Fin 4) (⟨(x 1).val, (x 1).isLt⟩ : Fin 1024) (⟨(x 2).val, (x 2).isLt⟩ : Fin 256))) (y_at m c t _ _ _ _ rfl)
  funext (a : Fin 3)
  match a with
  | 0 => exact Fin.ext (by have h : (x 0).val < 1 := (x 0).isLt; show 1 + 1 * (x 0).val = 1; omega)
  | 1 => exact Fin.ext (by show 0 + 1 * (x 1).val = (x 1).val; omega)
  | 2 => exact Fin.ext (by show 0 + 1 * (x 2).val = (x 2).val; omega)

theorem slab3_at (c : Dev nD) (t : Fin cfg0.N) : View.ld (iblk m c 1 t) r0_4 = slab (m ((c : Thread nD τ).loc main_arg1)) 3 t := by
  funext x
  refine Eq.trans (congrArg (iblk m c 1 t) (?_ : r0_4.emb x = ix3 (3 : Fin 4) (⟨(x 1).val, (x 1).isLt⟩ : Fin 1024) (⟨(x 2).val, (x 2).isLt⟩ : Fin 256))) (y_at m c t _ _ _ _ rfl)
  funext (a : Fin 3)
  match a with
  | 0 => exact Fin.ext (by have h : (x 0).val < 1 := (x 0).isLt; show 3 + 1 * (x 0).val = 3; omega)
  | 1 => exact Fin.ext (by show 0 + 1 * (x 1).val = (x 1).val; omega)
  | 2 => exact Fin.ext (by show 0 + 1 * (x 2).val = (x 2).val; omega)

theorem x_at (c : Dev nD) (t : Fin cfg0.N) (r k : Fin 1024) (n : Fin 16384) (hn : n.val = 1024 * t.val + r.val) :
    iblk m c 0 t (ix2 r k) = m ((c : Thread nD τ).loc main_arg0) (ix2 n k) := by
  blk_ext [iblk, V, idx t]

theorem w_at (c : Dev nD) (t : Fin cfg0.N) (r : Fin 1024) (k : Fin 128) (n : Fin 16384) (hn : n.val = 1024 * t.val + r.val) :
    iblk m c 2 t (ix2 r k) = m ((c : Thread nD τ).loc main_arg2) (ix2 n k) := by
  blk_ext [iblk, V, idx t]

theorem g_at (c : Dev nD) (t : Fin cfg0.N) (d : Fin 1024) :
    iblk m c 3 t (ix2 (0 : Fin 1) d) = m ((c : Thread nD τ).loc main_arg3) (ix1 d) := by
  have hv : V m c main_v0 (ix2 (0 : Fin 1) d) = m ((c : Thread nD τ).loc main_arg3) (ix1 d) := by
    entry_read
    pointwise
  refine Eq.trans ?_ hv
  blk_ext [iblk, V, idx t]

/-- Every block of rows is written once, so the array ends as the reference's function of the arguments. -/
theorem array_eq (c : Dev nD) (W : Vec Ideal S16384x1024 .f32)
    (hW : W = rnorm (rsum (m ((c : Thread nD τ).loc main_arg0)) (m ((c : Thread nD τ).loc main_arg2)) (rowA (m ((c : Thread nD τ).loc main_arg1))) (rowB (m ((c : Thread nD τ).loc main_arg1)))) (m ((c : Thread nD τ).loc main_arg3))) :
    (dats m 0 c).arrAt 4 cfg0.N = W := by
  refine (dats m 0 c).arrAt_eq_of_covers 4 W (by decide +kernel) fun t hf y => ?_
  blk_simp
  rw [after0_4, out_eq]
  rw [slab0_at, slab1_at, slab2_at, slab3_at]
  have hy0 : (y 0).val < 1024 := (y 0).isLt
  have hy1 : (y 1).val < 1024 := (y 1).isLt
  have ht : t.val < 16 := t.isLt
  have he : (win0_4.blk t).view.emb y = ix2 (⟨1024 * t.val + (y 0).val, by omega⟩ : Fin 16384) (⟨(y 1).val, hy1⟩ : Fin 1024) := by
    blk_ext [idx t]
  have hy : y = ix2 (⟨(y 0).val, hy0⟩ : Fin 1024) (⟨(y 1).val, hy1⟩ : Fin 1024) := by
    funext (a : Fin 2)
    match a with
    | 0 => rfl
    | 1 => rfl
  rw [he, hW]
  refine (congrArg _ hy).trans ?_
  exact block_eq _ _ _ _ t _ _ _ _ _ _ rfl (fun k => x_at m c t _ k _ rfl) (fun k => w_at m c t _ k _ rfl) (g_at m c t _)

end Array

end Cert.Proof.Combine
-- ==== Proof.ProjValue.lean ====
/-
  The second half of the input projection at exact values: a block's columns are nineteen products of the normalized rows
  with 256 columns of the weights each, so every entry is the one sum the reference's product is. The call's second result
  is the down weights, moved.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.ValueIdx
public import Idealize.ShloMosaic.Lib.ValueLayout

@[expose] public section

noncomputable section

namespace Cert.Proof.Proj

open Idealize.ShloMosaic Idealize.ShloMosaic.TcCoe Idealize.ShloMosaic.Tactic

/-! ## A block -/

section Kernel
open Cert.Kernel4Ideal Cert.Kernel4Ideal.Gen

/-- A block's normalized rows times 256 columns of the weights. -/
def part (H : FVec Ideal S512x1024 .bf16) (W : Vec Ideal S1024x256 .bf16) : FVec Ideal S512x256 .bf16 :=
  truncf .bf16 (matmul dot_S512x1024_S1024x256_S512x256_1_0_0_1_n_n none H (shapeCast S1024x256 W shapeCasts_S1024x256_S1024x256 : FVec Ideal S1024x256 .bf16) (constant S512x256 .f32 0x00000000#32)) bitsLt_bf16_f32

theorem part_apply (H : FVec Ideal S512x1024 .bf16) (W : Vec Ideal S1024x256 .bf16) (r : Fin 512) (f : Fin 256) :
    part H W (ix2 r f) = ∑ k : Fin 1024, H (ix2 r k) * W (ix2 k f) := by
  pointwise [part]

theorem norm_apply (X : Vec Ideal S512x1024 .f32) (G : Vec Ideal S1x1024 .f32) (r : Fin 512) (d : Fin 1024) :
    k0_pay1 X G (ix2 r d) = X (ix2 r d) * Ideal.rsqrt (Ideal.div (∑ k : Fin 1024, X (ix2 r k) * X (ix2 r k)) (Ideal.ofBits .f32 0x44800000#32) + Ideal.ofBits .f32 0x358637BD#32) * G (ix2 (0 : Fin 1) d) := by
  pointwise [k0_pay1]

/-- The normalized rows times all of a block's weights. -/
def whole (H : FVec Ideal S512x1024 .bf16) (W : Vec Ideal S1024x4864 .bf16) : Vec Ideal S512x4864 .bf16 :=
  fun y => ∑ k : Fin 1024, H (ix2 (⟨(y 0).val, (y 0).isLt⟩ : Fin 512) k) * W (ix2 k (⟨(y 1).val, (y 1).isLt⟩ : Fin 4864))

/-- The columns from `o` on of the product are the product with the weights' columns from `o` on. -/
theorem part_eq (H : FVec Ideal S512x1024 .bf16) (W : Vec Ideal S1024x4864 .bf16) (o : ℕ)
    (hw : ∀ a, (![0, o] : Fin 2 → ℕ) a + S1024x256.size a ≤ S1024x4864.size a)
    (ho : ∀ a, (![0, o] : Fin 2 → ℕ) a + S512x256.size a ≤ S512x4864.size a) (x : S512x256.Idx) :
    part H (View.ld W (Rect.unit (s := S1024x4864) ![0, o] S1024x256.size hw)) x
      = whole H W ((Rect.unit (s := S512x4864) ![0, o] S512x256.size ho).emb x) := by
  have hx : x = ix2 (⟨(x 0).val, (x 0).isLt⟩ : Fin 512) (⟨(x 1).val, (x 1).isLt⟩ : Fin 256) := by
    funext (a : Fin 2)
    match a with
    | 0 => rfl
    | 1 => rfl
  refine (congrArg _ hx).trans ((part_apply H _ _ _).trans ?_)
  refine Finset.sum_congr rfl fun k _ => ?_
  refine congrArg₂ (· * ·) (congrArg H ?_) (congrArg W ?_)
  · funext (a : Fin 2)
    match a with
    | 0 => exact Fin.ext (by show (x 0).val = 0 + 1 * (x 0).val; omega)
    | 1 => rfl
  · funext (a : Fin 2)
    match a with
    | 0 => exact Fin.ext (by show 0 + 1 * k.val = k.val; omega)
    | 1 => rfl

theorem out4_eq (x0 : Vec Ideal S512x1024 .f32) (x1 : Vec Ideal S1x1024 .f32) (x2 : Vec Ideal S1024x4864 .bf16) (x3 : Vec Ideal S512x1024 .f32) :
    out0_4 x0 x1 x2 x3 = whole (k0_pay1 x0 x1) x2 := by
  have h0 : View.ld x0 r0_0 = x0 := View.ld_unit_lit _ x0 (by decide)
  have h1 : View.ld x1 r0_1 = x1 := View.ld_unit_lit _ x1 (by decide)
  unfold out0_4 k0_pay22
  rw [h0, h1]
  funext y
  refine View.canon_apply_of_pieces (whole (k0_pay1 x0 x1) x2) _ ?_ y (cover0_4 _ _ _ _ _ _ _ _ _ _ _ _ _ _ _ _ _ _ _ y)
  intro pc hpc
  rcases List.mem_cons.mp hpc with rfl | hpc
  · exact fun x => part_eq (k0_pay1 x0 x1) x2 4608 inb_S1024x4864_S1024x256_0_4608 inb_S512x4864_S512x256_0_4608 x
  rcases List.mem_cons.mp hpc with rfl | hpc
  · exact fun x => part_eq (k0_pay1 x0 x1) x2 4352 inb_S1024x4864_S1024x256_0_4352 inb_S512x4864_S512x256_0_4352 x
  rcases List.mem_cons.mp hpc with rfl | hpc
  · exact fun x => part_eq (k0_pay1 x0 x1) x2 4096 inb_S1024x4864_S1024x256_0_4096 inb_S512x4864_S512x256_0_4096 x
  rcases List.mem_cons.mp hpc with rfl | hpc
  · exact fun x => part_eq (k0_pay1 x0 x1) x2 3840 inb_S1024x4864_S1024x256_0_3840 inb_S512x4864_S512x256_0_3840 x
  rcases List.mem_cons.mp hpc with rfl | hpc
  · exact fun x => part_eq (k0_pay1 x0 x1) x2 3584 inb_S1024x4864_S1024x256_0_3584 inb_S512x4864_S512x256_0_3584 x
  rcases List.mem_cons.mp hpc with rfl | hpc
  · exact fun x => part_eq (k0_pay1 x0 x1) x2 3328 inb_S1024x4864_S1024x256_0_3328 inb_S512x4864_S512x256_0_3328 x
  rcases List.mem_cons.mp hpc with rfl | hpc
  · exact fun x => part_eq (k0_pay1 x0 x1) x2 3072 inb_S1024x4864_S1024x256_0_3072 inb_S512x4864_S512x256_0_3072 x
  rcases List.mem_cons.mp hpc with rfl | hpc
  · exact fun x => part_eq (k0_pay1 x0 x1) x2 2816 inb_S1024x4864_S1024x256_0_2816 inb_S512x4864_S512x256_0_2816 x
  rcases List.mem_cons.mp hpc with rfl | hpc
  · exact fun x => part_eq (k0_pay1 x0 x1) x2 2560 inb_S1024x4864_S1024x256_0_2560 inb_S512x4864_S512x256_0_2560 x
  rcases List.mem_cons.mp hpc with rfl | hpc
  · exact fun x => part_eq (k0_pay1 x0 x1) x2 2304 inb_S1024x4864_S1024x256_0_2304 inb_S512x4864_S512x256_0_2304 x
  rcases List.mem_cons.mp hpc with rfl | hpc
  · exact fun x => part_eq (k0_pay1 x0 x1) x2 2048 inb_S1024x4864_S1024x256_0_2048 inb_S512x4864_S512x256_0_2048 x
  rcases List.mem_cons.mp hpc with rfl | hpc
  · exact fun x => part_eq (k0_pay1 x0 x1) x2 1792 inb_S1024x4864_S1024x256_0_1792 inb_S512x4864_S512x256_0_1792 x
  rcases List.mem_cons.mp hpc with rfl | hpc
  · exact fun x => part_eq (k0_pay1 x0 x1) x2 1536 inb_S1024x4864_S1024x256_0_1536 inb_S512x4864_S512x256_0_1536 x
  rcases List.mem_cons.mp hpc with rfl | hpc
  · exact fun x => part_eq (k0_pay1 x0 x1) x2 1280 inb_S1024x4864_S1024x256_0_1280 inb_S512x4864_S512x256_0_1280 x
  rcases List.mem_cons.mp hpc with rfl | hpc
  · exact fun x => part_eq (k0_pay1 x0 x1) x2 1024 inb_S1024x4864_S1024x256_0_1024 inb_S512x4864_S512x256_0_1024 x
  rcases List.mem_cons.mp hpc with rfl | hpc
  · exact fun x => part_eq (k0_pay1 x0 x1) x2 768 inb_S1024x4864_S1024x256_0_768 inb_S512x4864_S512x256_0_768 x
  rcases List.mem_cons.mp hpc with rfl | hpc
  · exact fun x => part_eq (k0_pay1 x0 x1) x2 512 inb_S1024x4864_S1024x256_0_512 inb_S512x4864_S512x256_0_512 x
  rcases List.mem_cons.mp hpc with rfl | hpc
  · exact fun x => part_eq (k0_pay1 x0 x1) x2 256 inb_S1024x4864_S1024x256_0_256 inb_S512x4864_S512x256_0_256 x
  rcases List.mem_cons.mp hpc with rfl | hpc
  · exact fun x => part_eq (k0_pay1 x0 x1) x2 0 inb_S1024x4864_S1024x256_0_0 inb_S512x4864_S512x256_0_0 x
  nomatch hpc

theorem out5_eq (x0 : Vec Ideal S512x1024 .f32) (x1 : Vec Ideal S1x1024 .f32) (x2 : Vec Ideal S1024x4864 .bf16) (x3 : Vec Ideal S512x1024 .f32) (r : Fin 512) (d : Fin 1024) :
    out0_5 x0 x1 x2 x3 (ix2 r d) = x3 (ix2 r d) := by
  have h3 : View.ld x3 r0_0 = x3 := View.ld_unit_lit _ x3 (by decide)
  have hc : out0_5 x0 x1 x2 x3 = k0_pay21 x3 := by
    unfold out0_5
    rw [h3]
    exact View.canon_cons_unit_lit _ _ _ (by decide)
  rw [hc]
  pointwise [k0_pay21]

end Kernel

/-! ## The reference -/

section Reference
open Cert.Reference4Ideal Cert.Reference4Ideal.Gen

/-- The tokens' normalized rows. -/
def rnorm (X : Vec Ideal S16384x1024 .f32) (G : Vec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 G : FVec Ideal S1x1024 .f32))

/-- The projection's columns from 4864 on. -/
def rproj (H : FVec Ideal S16384x1024 .f32) (W : Vec Ideal S1024x9728 .f32) : FVec Ideal S16384x4864 .bf16 :=
  truncf .bf16 (extractStridedSlice S16384x4864 ![0, 4864] (Host.dotGeneral (φ₁ := .f32) (φ₂ := .f32) dot_S16384x1024_S1024x9728_S16384x9728_1_0_0_1_n_n none H W : FVec Ideal S16384x9728 .f32) slices_S16384x9728_S16384x4864_0_4864) bitsLt_bf16_f32

/-- The down weights as one table. -/
def rdown (D : Vec Ideal S32x512x1024 .f32) : FVec Ideal S16384x1024 .bf16 :=
  truncf .bf16 (shapeCast S16384x1024 D shapeCasts_S32x512x1024_S16384x1024 : FVec Ideal S16384x1024 .f32) bitsLt_bf16_f32

theorem rnorm_apply (X : Vec Ideal S16384x1024 .f32) (G : Vec Ideal S1024 .f32) (n : Fin 16384) (d : Fin 1024) :
    rnorm X G (ix2 n d) = X (ix2 n d) * Ideal.rsqrt (Ideal.div (∑ k : Fin 1024, X (ix2 n k) * X (ix2 n k)) (Ideal.ofBits .f32 0x44800000#32) + Ideal.ofBits .f32 0x358637BD#32) * G (ix1 d) := by
  pointwise [rnorm]

theorem rproj_apply (H : FVec Ideal S16384x1024 .f32) (W : Vec Ideal S1024x9728 .f32) (n : Fin 16384) (j : Fin 4864) :
    rproj H W (ix2 n j) = ∑ k : Fin 1024, H (ix2 n k) * W (ix2 k (⟨4864 + j.val, by omega⟩ : Fin 9728)) := by
  pointwise [rproj]

end Reference

/-! ## The arrays after the run -/

section Array
open Cert.Kernel4Ideal Cert.Kernel4Ideal.Gen Cert.Kernel4Ideal.Value

variable (m : (ℓ : Loc nD τ sig) → Buf (Elt Ideal) ℓ)

/-- A block's row is the reference's, when the block holds the reference's row and columns. -/
theorem block_eq (X : Vec Ideal S16384x1024 .f32) (G : Vec Ideal S1024 .f32) (W : Vec Ideal S1024x9728 .f32)
    (x : Vec Ideal S512x1024 .f32) (g : Vec Ideal S1x1024 .f32) (w : Vec Ideal S1024x4864 .bf16) (r : Fin 512) (j : Fin 4864) (n : Fin 16384)
    (hx : ∀ k : Fin 1024, x (ix2 r k) = X (ix2 n k)) (hg : ∀ k : Fin 1024, g (ix2 (0 : Fin 1) k) = G (ix1 k))
    (hw : ∀ k : Fin 1024, w (ix2 k j) = W (ix2 k (⟨4864 + j.val, by omega⟩ : Fin 9728))) :
    whole (k0_pay1 x g) w (ix2 r j) = rproj (rnorm X G) W (ix2 n j) := by
  refine Eq.trans ?_ (rproj_apply _ _ _ _).symm
  refine Finset.sum_congr rfl fun k _ => ?_
  refine congrArg₂ (· * ·) ?_ (hw k)
  refine (norm_apply x g r k).trans ?_
  rw [rnorm_apply, hg, hx k]
  simp only [hx]

/-- The gain's window is whole, the weights' is the second half of the columns, every other is at the point's block of rows. -/
theorem idx : ∀ t : Fin cfg0.N, win0_0.index t = ![t.val, 0] ∧ win0_1.index t = ![0, 0] ∧ win0_2.index t = ![0, 1] ∧ win0_3.index t = ![t.val, 0] ∧ win0_4.index t = ![t.val, 0] ∧ win0_5.index t = ![t.val, 0] := by
  decide +kernel

theorem x_at (c : Dev nD) (t : Fin cfg0.N) (r : Fin 512) (k : Fin 1024) (n : Fin 16384) (hn : n.val = 512 * t.val + r.val) :
    iblk m c 0 t (ix2 r k) = m ((c : Thread nD τ).loc main_arg0) (ix2 n k) := by
  blk_ext [iblk, V, idx t]

theorem g_at (c : Dev nD) (t : Fin cfg0.N) (d : Fin 1024) :
    iblk m c 1 t (ix2 (0 : Fin 1) d) = m ((c : Thread nD τ).loc main_arg1) (ix1 d) := by
  have hv : V m c main_v0 (ix2 (0 : Fin 1) d) = m ((c : Thread nD τ).loc main_arg1) (ix1 d) := by
    entry_read
    pointwise
  refine Eq.trans ?_ hv
  blk_ext [iblk, V, idx t]

theorem w_at (c : Dev nD) (t : Fin cfg0.N) (k : Fin 1024) (j : Fin 4864) (j' : Fin 9728) (hj : j'.val = 4864 + j.val) :
    iblk m c 2 t (ix2 k j) = m ((c : Thread nD τ).loc main_arg2) (ix2 k j') := by
  have hv : V m c main_v1 (ix2 k j') = m ((c : Thread nD τ).loc main_arg2) (ix2 k j') := by
    entry_read
    pointwise
  refine Eq.trans ?_ hv
  blk_ext [iblk, V, idx t]

theorem d_at (c : Dev nD) (t : Fin cfg0.N) (r : Fin 512) (d : Fin 1024) (n : Fin 16384) (hn : n.val = 512 * t.val + r.val) :
    iblk m c 3 t (ix2 r d) = rdown (m ((c : Thread nD τ).loc main_arg3)) (ix2 n d) := by
  have hv : V m c main_v2 (ix2 n d) = rdown (m ((c : Thread nD τ).loc main_arg3)) (ix2 n d) := by
    entry_read
    rfl
  refine Eq.trans ?_ hv
  blk_ext [iblk, V, idx t]

/-- Every block of rows of the projection is written once. -/
theorem array4_eq (c : Dev nD) (W : Vec Ideal S16384x4864 .bf16)
    (hW : W = rproj (rnorm (m ((c : Thread nD τ).loc main_arg0)) (m ((c : Thread nD τ).loc main_arg1))) (m ((c : Thread nD τ).loc main_arg2))) :
    (dats m 0 c).arrAt 4 cfg0.N = W := by
  refine (dats m 0 c).arrAt_eq_of_covers 4 W (by decide +kernel) fun t hf y => ?_
  blk_simp
  rw [after0_4, out4_eq]
  have hy0 : (y 0).val < 512 := (y 0).isLt
  have hy1 : (y 1).val < 4864 := (y 1).isLt
  have ht : t.val < 32 := t.isLt
  have he : (win0_4.blk t).view.emb y = ix2 (⟨512 * t.val + (y 0).val, by omega⟩ : Fin 16384) (⟨(y 1).val, hy1⟩ : Fin 4864) := by
    blk_ext [idx t]
  have hy : y = ix2 (⟨(y 0).val, hy0⟩ : Fin 512) (⟨(y 1).val, hy1⟩ : Fin 4864) := by
    funext (a : Fin 2)
    match a with
    | 0 => rfl
    | 1 => rfl
  rw [he, hW]
  refine (congrArg _ hy).trans ?_
  exact block_eq _ _ _ _ _ _ _ _ _ (fun k => x_at m c t _ k _ rfl) (fun k => g_at m c t k) (fun k => w_at m c t k _ _ rfl)

/-- Every block of rows of the down weights is written once. -/
theorem array5_eq (c : Dev nD) (W : Vec Ideal S16384x1024 .bf16) (hW : W = rdown (m ((c : Thread nD τ).loc main_arg3))) :
    (dats m 0 c).arrAt 5 cfg0.N = W := by
  refine (dats m 0 c).arrAt_eq_of_covers 5 W (by decide +kernel) fun t hf y => ?_
  blk_simp
  rw [after0_5]
  have hy0 : (y 0).val < 512 := (y 0).isLt
  have hy1 : (y 1).val < 1024 := (y 1).isLt
  have ht : t.val < 32 := t.isLt
  have he : (win0_5.blk t).view.emb y = ix2 (⟨512 * t.val + (y 0).val, by omega⟩ : Fin 16384) (⟨(y 1).val, hy1⟩ : Fin 1024) := by
    blk_ext [idx t]
  have hy : y = ix2 (⟨(y 0).val, hy0⟩ : Fin 512) (⟨(y 1).val, hy1⟩ : Fin 1024) := by
    funext (a : Fin 2)
    match a with
    | 0 => rfl
    | 1 => rfl
  rw [he, hW]
  refine (congrArg _ hy).trans ((out5_eq _ _ _ _ _ _).trans ?_)
  exact d_at m c t _ _ _ rfl

end Array

end Cert.Proof.Proj
-- ==== Proof.lean ====
/-
  The certificate's proof. The kernel run once, over any float instance (Proof/Launch.lean), gives both frames and the
  kernel's half of both value claims; the kernel has no float operation, so its two readings are one text. The reference's
  run is generated, and its result is the same rows of the table (Proof/Value.lean).

  The experts call likewise: its run over any float instance (Proof/ExpertsRun.lean) gives both frames, what it leaves in
  the rows a tile covers is one function of the arguments (Proof/ExpertsResult.lean), and at exact values that function
  is the reference's (Proof/ExpertsValue.lean).

  The combination's runs are generated; its blocks of rows are the reference's rows (Proof/CombineValue.lean).
  The second projection call's runs are generated; its columns are the reference's (Proof/ProjValue.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Gen.Pre_idx_in_rows
public import proofs.«01_k».proof.Proof.Gen.Kernel2
public import proofs.«01_k».proof.Proof.Gen.Pre_tables_ok
public import proofs.«01_k».proof.Proof.Gen.On_rows_used
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Launch
public import proofs.«01_k».proof.Proof.Value
public import proofs.«01_k».proof.Proof.ExpertsValue
public import proofs.«01_k».proof.Proof.CombineValue
public import proofs.«01_k».proof.Proof.ProjValue
public import Idealize.ShloMosaic.Lib.Quiescent

@[expose] public section

namespace Cert.Proof

open Idealize.ShloMosaic Cert.Proof.Gather

theorem ok_ideal (m : (ℓ : Loc Cert.KernelIdeal.nD Cert.KernelIdeal.τ Cert.KernelIdeal.sig) → Buf (Elt Ideal) ℓ)
    (h : Cert.Pre_KernelIdeal m) : PreOK (F := Ideal) m :=
  fun d j => Value.in_rows (F := Ideal) _ _ (fun j => congrFun (h d) j) j

theorem ok_bits (m : (ℓ : Loc Cert.Kernel.nD Cert.Kernel.τ Cert.Kernel.sig) → Buf (Elt Bits) ℓ)
    (h : Cert.Pre_Kernel m) : PreOK (F := Bits) m :=
  fun d j => Value.in_rows (F := Bits) _ _ (fun j => congrFun (h d) j) j

/-- The kernel's run at `Bits`: its text is the ideal one's. -/
theorem run_bits (m : (ℓ : Loc Cert.Kernel.nD Cert.Kernel.τ Cert.Kernel.sig) → Buf (Elt Bits) ℓ) (ρ : Dev Cert.Kernel.nD → PrngReg)
    (h : Cert.Pre_Kernel m) :
    θ_run (Cert.Kernel.defs (F := Bits)) (Cert.Kernel.threads (F := Bits)) ⟨m, fun _ => 0, ρ⟩ (QC (F := Bits) m) :=
  run_main (F := Bits) m ρ (ok_bits m h)

theorem frame_kernel : Cert.quiescent_Kernel :=
  fun m ρ h => (θ_run (Cert.Kernel.defs (F := Bits)) _ _).mono
    (fun _ hr => ⟨fun c => ⟨(hr.1 c).2.1, (hr.1 c).2.2⟩, hr.2⟩) (run_bits m ρ h)

theorem frame_kernelIdeal : Cert.quiescent_KernelIdeal :=
  fun m ρ h => (θ_run (Cert.KernelIdeal.defs (F := Ideal)) _ _).mono
    (fun _ hr => ⟨fun c => ⟨(hr.1 c).2.1, (hr.1 c).2.2⟩, hr.2⟩) (run_main (F := Ideal) m ρ (ok_ideal m h))

theorem frame_reference : Cert.quiescent_Reference :=
  fun m ρ _ => (θ_run (Cert.Reference.defs (F := Bits)) _ _).mono
    (fun r h => ⟨fun c => (h c).2, sem_eq_zero_of_no_sems (by decide) r.2⟩) (Cert.Reference.Value.run (F := Bits) m ρ)

theorem frame_referenceIdeal : Cert.quiescent_ReferenceIdeal :=
  fun m ρ _ => (θ_run (Cert.ReferenceIdeal.defs (F := Ideal)) _ _).mono
    (fun r h => ⟨fun c => (h c).2, sem_eq_zero_of_no_sems (by decide) r.2⟩) (Cert.ReferenceIdeal.Value.run (F := Ideal) m ρ)

theorem algebraic : Cert.algebraic_KernelIdeal_ReferenceIdeal := by
  intro m g m' g' h hag
  refine ⟨fun c => out (F := Ideal) m c, ?_, ?_⟩
  · exact (θ_run (Cert.KernelIdeal.defs (F := Ideal)) _ _).mono (fun _ hr => hr.1) (run_main (F := Ideal) m g (ok_ideal m h))
  · refine (θ_run (Cert.ReferenceIdeal.defs (F := Ideal)) _ _).mono (fun r hr c => ⟨(hr c).1.trans ?_, (hr c).2⟩)
      (Cert.ReferenceIdeal.Value.run (F := Ideal) m' g')
    rw [(hag c).1, (hag c).2]
    exact Value.reference_eq (F := Ideal) _ _ (ok_ideal m h c)

theorem bitexact : Cert.bitexact_Kernel_Reference := by
  intro m g m' g' h hag
  refine ⟨fun c => out (F := Bits) m c, ?_, ?_⟩
  · exact (θ_run (Cert.Kernel.defs (F := Bits)) _ _).mono (fun _ hr => hr.1) (run_bits m g h)
  · refine (θ_run (Cert.Reference.defs (F := Bits)) _ _).mono (fun r hr c => ⟨(hr c).1.trans ?_, (hr c).2⟩)
      (Cert.Reference.Value.run (F := Bits) m' g')
    rw [(hag c).1, (hag c).2]
    exact Value.reference_eq (F := Bits) _ _ (ok_bits m h c)

/-! ## The experts call -/

theorem tables_ideal (m : (ℓ : Loc Cert.Kernel2Ideal.nD Cert.Kernel2Ideal.τ Cert.Kernel2Ideal.sig) → Buf (Elt Ideal) ℓ)
    (h : Cert.Pre_Kernel2Ideal m) : ∃ L, Experts.TablesOK (Experts.tbl m 0) (Experts.tbl m 1) (Experts.tbl m 2) L :=
  Experts.tables_of_pre (F := Ideal) _ _ _ _ _ _ _ (fun x => congrFun (h 0) x)

theorem tables_bits (m : (ℓ : Loc Cert.Kernel2.nD Cert.Kernel2.τ Cert.Kernel2.sig) → Buf (Elt Bits) ℓ)
    (h : Cert.Pre_Kernel2 m) : ∃ L, Experts.TablesOK (Experts.tbl (F := Bits) m 0) (Experts.tbl (F := Bits) m 1) (Experts.tbl (F := Bits) m 2) L :=
  Experts.tables_of_pre (F := Bits) _ _ _ _ _ _ _ (fun x => congrFun (h 0) x)

/-- The experts kernel's frame, over any float instance, where its tables are in range. -/
theorem experts_frame {F : FTy → Type} [FloatOps F] [∀ e, Nonempty (Elt F e)]
    (m : (ℓ : Loc Cert.Kernel2Ideal.nD Cert.Kernel2Ideal.τ Cert.Kernel2Ideal.sig) → Buf (Elt F) ℓ) (ρ : Dev Cert.Kernel2Ideal.nD → PrngReg) {L : ℕ}
    (hT : Experts.TablesOK (Experts.tbl m 0) (Experts.tbl m 1) (Experts.tbl m 2) L) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0) :=
  (θ_run (Cert.Kernel2Ideal.defs (F := F)) _ _).mono
    (fun _ hr => ⟨fun c => Experts.args_unchanged m (Experts.ok_of_tables _ hT) hr.1 c, hr.2⟩) (Experts.run m ρ (Experts.ok_of_tables _ hT))

theorem frame_kernel2Ideal : Cert.quiescent_Kernel2Ideal :=
  fun m ρ h => let ⟨_, hT⟩ := tables_ideal m h; experts_frame (F := Ideal) m ρ hT

/-- The bodies the two printed texts give their one label are the same program. -/
theorem bodies_eq : @Cert.Kernel2.defs₀ Bits _ _ = @Cert.Kernel2Ideal.defs₀ Bits _ _ := by
  unfold Cert.Kernel2.defs₀ Cert.Kernel2Ideal.defs₀
  refine congrArg Defs.onTc ?_
  funext l x
  revert x
  refine Fin.cases ?_ (fun i => i.elim0) l
  rintro ⟨t, s⟩
  rfl

set_option maxHeartbeats 1600000 in
theorem defs_eq : @Cert.Kernel2.defs Bits _ _ = @Cert.Kernel2Ideal.defs Bits _ _ :=
  congrArg (Pipeline.defs (Cert.Kernel2Ideal.pcfgs (F := Bits))) bodies_eq

theorem main_eq : @Cert.Kernel2.main Bits _ _ = @Cert.Kernel2Ideal.main Bits _ _ := rfl

set_option maxHeartbeats 1600000 in
/-- The frame at `Bits`: the kernel's text is the ideal one's. -/
theorem frame_kernel2 : Cert.quiescent_Kernel2 := by
  intro m ρ h
  obtain ⟨L, hT⟩ := tables_bits m h
  rw [defs_eq, main_eq]
  exact experts_frame (F := Bits) m ρ hT

theorem frame_reference2Ideal : Cert.quiescent_Reference2Ideal :=
  fun m ρ _ => (θ_run (Cert.Reference2Ideal.defs (F := Ideal)) _ _).mono
    (fun r h => ⟨fun c => (h c).2, sem_eq_zero_of_no_sems (by decide) r.2⟩) (Cert.Reference2Ideal.Value.run (F := Ideal) m ρ)

/-- The mask selects the rows of the tiles there are. -/
theorem live_of_mask (a0 : IVec Cert.On_rows_used.S2x49152x256 32) (te : IVec Cert.On_rows_used.S96 32) (pr : IVec Cert.On_rows_used.S24 32) (nu : IVec Cert.On_rows_used.S1 32)
    (a4 a5 : FVec Ideal Cert.On_rows_used.S32x1024x512 .bf16) (a6 : FVec Ideal Cert.On_rows_used.S32x512x1024 .bf16) (n : Fin 49152) (d : Fin 1024)
    (hn : (nu (ix1 (0 : Fin 1))).toNat ≤ 96) (h : Cert.On_rows_used.fn (F := Ideal) a0 te pr nu a4 a5 a6 (ix2 n d) = 1#1) :
    n.val < 512 * (nu (ix1 (0 : Fin 1))).toNat := by
  have e : Cert.On_rows_used.fn (F := Ideal) a0 te pr nu a4 a5 a6 (ix2 n d)
      = IntOp.cmpi .slt (BitVec.ofNat 32 n.val) (IntOp.muli 512#32 (nu (ix1 (0 : Fin 1)))) := by
    pointwise [Cert.On_rows_used.fn]
  rw [e] at h
  generalize nu (ix1 (0 : Fin 1)) = w at hn h ⊢
  have hb : BitVec.slt (BitVec.ofNat 32 n.val) (512#32 * w) = true := by
    have h1 : BitVec.ofBool (BitVec.slt (BitVec.ofNat 32 n.val) (512#32 * w)) = 1#1 := h
    revert h1
    cases BitVec.slt (BitVec.ofNat 32 n.val) (512#32 * w)
    · intro h1; exact absurd h1 (by decide)
    · intro _; rfl
  have h1 := n.isLt
  simp only [BitVec.slt_eq_decide, decide_eq_true_eq, BitVec.toInt_eq_toNat_cond, BitVec.toNat_mul, BitVec.toNat_ofNat, Nat.reducePow, Nat.reduceMod] at hb
  omega

theorem algebraic2 : Cert.algebraic_Kernel2Ideal_Reference2Ideal_on_rows_used := by
  intro m g m' g' h hag
  obtain ⟨L, hT⟩ := tables_ideal m h
  refine ⟨fun c i => Experts.tgt m c (i 0) (i 1), ?_, ?_⟩
  · refine (θ_run (Cert.Kernel2Ideal.defs (F := Ideal)) _ _).mono
      (fun r hr c => ⟨fun i hi => ?_, Experts.args_unchanged m (Experts.ok_of_tables _ hT) hr.1 c⟩) (Experts.run m g (Experts.ok_of_tables _ hT))
    obtain ⟨n, d, rfl⟩ : ∃ (n : Fin 49152) (d : Fin 1024), i = ix2 n d := ⟨i 0, i 1, by
      funext (a : Fin 2); match a with | 0 => rfl | 1 => rfl⟩
    obtain rfl : c = 0 := Subsingleton.elim _ _
    have hn := hT.nu_le
    have hL := hT.L_lt
    exact Experts.arr_live m (Experts.ok_of_tables _ hT) hT hr.1 0 n d (live_of_mask _ _ _ _ _ _ _ n d (by
      have hn' : BitVec.toNat (w := 32) (Experts.tbl m 2 (ix1 (0 : Fin 1))) ≤ 96 := by
        refine le_trans hn ?_
        omega
      exact hn') hi)
  · refine (θ_run (Cert.Reference2Ideal.defs (F := Ideal)) _ _).mono (fun r hr c => ⟨fun i _ => ?_, (hr c).2⟩)
      (Cert.Reference2Ideal.Value.run (F := Ideal) m' g')
    refine (congrFun (hr c).1 i).trans ?_
    rw [Experts.res_eq, (hag c).1, (hag c).2.1, (hag c).2.2.2.2.1, (hag c).2.2.2.2.2.1, (hag c).2.2.2.2.2.2]
    obtain ⟨n, d, rfl⟩ : ∃ (n : Fin 49152) (d : Fin 1024), i = ix2 n d := ⟨i 0, i 1, by
      funext (a : Fin 2); match a with | 0 => rfl | 1 => rfl⟩
    obtain rfl : c = 0 := Subsingleton.elim _ _
    exact (Experts.target_eq _ _ _ _ _ (fun T => hT.te_lt T) n d).symm

/-! ## The combination call -/

theorem frame_kernel3Ideal : Cert.quiescent_Kernel3Ideal :=
  fun m ρ _ => Cert.Kernel3Ideal.Gen.frame (F := Ideal) m ρ

/-- The bodies the two printed texts give their one label are the same program. -/
theorem bodies3_eq : @Cert.Kernel3.defs₀ Bits _ _ = @Cert.Kernel3Ideal.defs₀ Bits _ _ := by
  unfold Cert.Kernel3.defs₀ Cert.Kernel3Ideal.defs₀
  refine congrArg Defs.onTc ?_
  funext l x
  revert x
  refine Fin.cases ?_ (fun i => i.elim0) l
  rintro ⟨t, s⟩
  rfl

set_option maxHeartbeats 1600000 in
theorem defs3_eq : @Cert.Kernel3.defs Bits _ _ = @Cert.Kernel3Ideal.defs Bits _ _ :=
  congrArg (Pipeline.defs (Cert.Kernel3Ideal.pcfgs (F := Bits))) bodies3_eq

theorem main3_eq : @Cert.Kernel3.main Bits _ = @Cert.Kernel3Ideal.main Bits _ := rfl

/-- The frame at `Bits`: the kernel's text is the ideal one's. -/
theorem frame_kernel3 : Cert.quiescent_Kernel3 := by
  intro m ρ _
  rw [defs3_eq, main3_eq]
  exact Cert.Kernel3Ideal.Gen.frame (F := Bits) m ρ

theorem frame_reference3Ideal : Cert.quiescent_Reference3Ideal :=
  fun m ρ _ => (θ_run (Cert.Reference3Ideal.defs (F := Ideal)) _ _).mono
    (fun r h => ⟨fun c => (h c).2, sem_eq_zero_of_no_sems (by decide) r.2⟩) (Cert.Reference3Ideal.Value.run (F := Ideal) m ρ)

theorem algebraic3 : Cert.algebraic_Kernel3Ideal_Reference3Ideal := by
  intro m g m' g' _ hag
  refine ⟨fun c => (Cert.Kernel3Ideal.Gen.dats m 0 c).arrAt 4 Cert.Kernel3Ideal.cfg0.N, Cert.Kernel3Ideal.Value.run_blocks (F := Ideal) m g, ?_⟩
  refine (θ_run (Cert.Reference3Ideal.defs (F := Ideal)) _ _).mono (fun r hr c => ⟨(hr c).1.trans ?_, (hr c).2⟩)
    (Cert.Reference3Ideal.Value.run (F := Ideal) m' g')
  rw [Combine.res_eq, (hag c).1, (hag c).2.1, (hag c).2.2.1, (hag c).2.2.2]
  exact (Combine.array_eq m c _ rfl).symm

theorem frame_kernel4Ideal : Cert.quiescent_Kernel4Ideal :=
  fun m ρ _ => Cert.Kernel4Ideal.Gen.frame (F := Ideal) m ρ

/-- The bodies the two printed texts give their one label are the same program. -/
theorem bodies4_eq : @Cert.Kernel4.defs₀ Bits _ _ = @Cert.Kernel4Ideal.defs₀ Bits _ _ := by
  unfold Cert.Kernel4.defs₀ Cert.Kernel4Ideal.defs₀
  refine congrArg Defs.onTc ?_
  funext l x
  revert x
  refine Fin.cases ?_ (fun i => i.elim0) l
  rintro ⟨t, s⟩
  rfl

set_option maxHeartbeats 1600000 in
theorem defs4_eq : @Cert.Kernel4.defs Bits _ _ = @Cert.Kernel4Ideal.defs Bits _ _ :=
  congrArg (Pipeline.defs (Cert.Kernel4Ideal.pcfgs (F := Bits))) bodies4_eq

theorem main4_eq : @Cert.Kernel4.main Bits _ _ = @Cert.Kernel4Ideal.main Bits _ _ := rfl

/-- The frame at `Bits`: the kernel's text is the ideal one's. -/
theorem frame_kernel4 : Cert.quiescent_Kernel4 := by
  intro m ρ _
  rw [defs4_eq, main4_eq]
  exact Cert.Kernel4Ideal.Gen.frame (F := Bits) m ρ

theorem frame_reference4Ideal : Cert.quiescent_Reference4Ideal :=
  fun m ρ _ => (θ_run (Cert.Reference4Ideal.defs (F := Ideal)) _ _).mono
    (fun r h => ⟨fun c => (h c).2.2, sem_eq_zero_of_no_sems (by decide) r.2⟩) (Cert.Reference4Ideal.Value.run (F := Ideal) m ρ)

theorem algebraic4 : Cert.algebraic_Kernel4Ideal_Reference4Ideal := by
  intro m g m' g' _ hag
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N,
    Cert.Kernel4Ideal.Value.run_blocks (F := Ideal) m g, ?_⟩
  refine (θ_run (Cert.Reference4Ideal.defs (F := Ideal)) _ _).mono (fun r hr c => ⟨(hr c).1.trans ?_, (hr c).2.1.trans ?_, (hr c).2.2⟩)
    (Cert.Reference4Ideal.Value.run (F := Ideal) m' g')
  · rw [(hag c).1, (hag c).2.1, (hag c).2.2.1]
    exact (Proj.array4_eq m c _ rfl).symm
  · rw [(hag c).2.2.2]
    exact (Proj.array5_eq m c _ rfl).symm

theorem claim : Cert.Claim :=
  ⟨Cert.Kernel.Gen.facts, Cert.KernelIdeal.Gen.facts, Cert.Reference.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_idx_in_rows.Gen.facts, Cert.Pre_tables_ok.Gen.facts, Cert.On_rows_used.Gen.facts,
    frame_kernel, frame_kernelIdeal, frame_reference, fun m ρ _ => frame_reference m ρ trivial,
    frame_referenceIdeal, fun m ρ _ => frame_referenceIdeal m ρ trivial,
    frame_kernel2, frame_kernel2Ideal, frame_reference2Ideal, fun m ρ _ => frame_reference2Ideal m ρ trivial,
    frame_kernel3, frame_kernel3Ideal, frame_reference3Ideal,
    frame_kernel4, frame_kernel4Ideal, frame_reference4Ideal,
    trivial, algebraic, bitexact, trivial, algebraic2, trivial, algebraic3, trivial, algebraic4⟩

end Cert.Proof

end
